-- ==== Defs.lean ====
def Pre_Kernel [hPre_rows_in_table : Cert.Pre_rows_in_table.Facts] (m : (ℓ : Loc Cert.Kernel.nD Cert.Kernel.τ Cert.Kernel.sig) → Buf (Elt Bits) ℓ) : Prop :=
  ∀ c : Dev Cert.Kernel.nD,
    (Cert.Pre_rows_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_rows_in_table : Cert.Pre_rows_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_rows_in_table : Cert.Pre_rows_in_table.Facts) (hPre_drawn : Cert.Pre_drawn.Facts),
    quiescent_Kernel (hKernel := hKernel) (hPre_rows_in_table := hPre_rows_in_table)
    ∧ quiescent_KernelIdeal (hKernelIdeal := hKernelIdeal) (hPre_rows_in_table := hPre_rows_in_table)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S204800 : Shape := ⟨1, ![204800]⟩
abbrev S4096 : Shape := ⟨1, ![4096]⟩
abbrev S1000000x64 : Shape := ⟨2, ![1000000, 64]⟩
abbrev S16x64 : Shape := ⟨2, ![16, 64]⟩
abbrev S16 : Shape := ⟨1, ![16]⟩
abbrev S_ : Shape := ⟨0, ![]⟩

class Facts : Prop where
  bcast_S_S204800 : S_.BroadcastsInDim S204800 (![] : Fin 0 → Fin S204800.rank)
  reducesTo_S204800_S_d0 : S204800.ReducesTo [0] S_
  h_S_ : 0 < S_.numel
  reducesTo_S4096_S_d0 : S4096.ReducesTo [0] S_
  bcast_S_S1000000x64 : S_.BroadcastsInDim S1000000x64 (![] : Fin 0 → Fin S1000000x64.rank)
  reducesTo_S1000000x64_S_d0_1 : S1000000x64.ReducesTo [0, 1] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_v14 : IVec S_ 1) (main_v15 : FVec F S16x64 .f32) (main_v16 : FVec F S16x64 .f32) : IVec S_ 1 :=
  let main_v17 : IVec S16x64 1 := cmpf .olt main_v15 main_v16
  let main_c_5 : IVec S_ 1 := constantI S_ 1 1#1
  let main_v18 : IVec S_ 1 := (fun x v => Host.reduce IntOp.andi x v reducesTo_S16x64_S_d0_1 h_S_) main_v17 main_c_5
  let main_v19 : IVec S_ 1 := andi main_v14 main_v18
  main_v19

def fn {F : FTy → Type} [FloatOps F] (main_arg0 : IVec S204800 32) (main_arg1 : IVec S4096 32) (main_arg2 : FVec F S1000000x64 .f32) (main_arg3 : FVec F S16x64 .f32) (main_arg4 : FVec F S16 .f32) : IVec S_ 1 :=
  let main_c : IVec S_ 32 := constantI S_ 32 0#32
  let main_v0 : IVec S204800 32 := broadcastInDim S204800 ![] bcast_S_S204800 main_c
  let main_v1 : IVec S204800 1 := cmpi .sge main_arg0 main_v0
  let main_c_0 : IVec S_ 32 := constantI S_ 32 1000000#32
  let main_v2 : IVec S204800 32 := broadcastInDim S204800 ![] bcast_S_S204800 main_c_0
  let main_v3 : IVec S204800 1 := cmpi .slt main_arg0 main_v2
  let main_v4 : IVec S204800 1 := andi main_v1 main_v3
  let main_c_1 : IVec S_ 1 := constantI S_ 1 1#1
  let main_v5 : IVec S_ 1 := (fun x v => Host.reduce IntOp.andi x v reducesTo_S204800_S_d0 h_S_) main_v4 main_c_1
  let main_v6 : IVec S4096 32 := iotaInDim S4096 32 0
  let main_v7 : IVec S4096 1 := cmpi .eq main_arg1 main_v6
  let main_c_2 : IVec S_ 1 := constantI S_ 1 1#1
  let main_v8 : IVec S_ 1 := (fun x v => Host.reduce IntOp.andi x v reducesTo_S4096_S_d0 h_S_) main_v7 main_c_2
  let main_v9 : IVec S_ 1 := andi main_v5 main_v8
  let main_v10 : FVec F S1000000x64 .f32 := Host.absf main_arg2
  let main_cst : FVec F S_ .f32 := constant S_ .f32 0x7F800000#32
  let main_v11 : FVec F S1000000x64 .f32 := broadcastInDim S1000000x64 ![] bcast_S_S1000000x64 main_cst
  let main_v12 : IVec S1000000x64 1 := cmpf .olt main_v10 main_v11
  let main_c_3 : IVec S_ 1 := constantI S_ 1 1#1
  let main_v13 : IVec S_ 1 := (fun x v => Host.reduce IntOp.andi x v reducesTo_S1000000x64_S_d0_1 h_S_) main_v12 main_c_3
  let main_v14 : IVec S_ 1 := andi main_v9 main_v13
  let main_v15 : FVec F S16x64 .f32 := Host.absf main_arg3
  let main_cst_4 : FVec F S_ .f32 := constant S_ .f32 0x7F800000#32
  let main_v16 : FVec F S16x64 .f32 := broadcastInDim S16x64 ![] bcast_S_S16x64 main_cst_4
  fn_part1 (F := F) main_v14 main_v15 main_v16
-- ==== Pre_rows_in_table.lean ====
abbrev S204800 : Shape := ⟨1, ![204800]⟩
abbrev S4096 : Shape := ⟨1, ![4096]⟩
abbrev S1000000x64 : Shape := ⟨2, ![1000000, 64]⟩
abbrev S16x64 : Shape := ⟨2, ![16, 64]⟩
abbrev S16 : Shape := ⟨1, ![16]⟩
abbrev S_ : Shape := ⟨0, ![]⟩

class Facts : Prop where
  bcast_S_S204800 : S_.BroadcastsInDim S204800 (![] : Fin 0 → Fin S204800.rank)
  reducesTo_S204800_S_d0 : S204800.ReducesTo [0] S_
  h_S_ : 0 < S_.numel

variable [Facts]

def fn {F : FTy → Type} [FloatOps F] (main_arg0 : IVec S204800 32) (main_arg1 : IVec S4096 32) (main_arg2 : FVec F S1000000x64 .f32) (main_arg3 : FVec F S16x64 .f32) (main_arg4 : FVec F S16 .f32) : IVec S_ 1 :=
  let main_c : IVec S_ 32 := constantI S_ 32 0#32
  let main_v0 : IVec S204800 32 := broadcastInDim S204800 ![] bcast_S_S204800 main_c
  let main_v1 : IVec S204800 1 := cmpi .sge main_arg0 main_v0
  let main_c_0 : IVec S_ 32 := constantI S_ 32 1000000#32
  let main_v2 : IVec S204800 32 := broadcastInDim S204800 ![] bcast_S_S204800 main_c_0
  let main_v3 : IVec S204800 1 := cmpi .slt main_arg0 main_v2
  let main_v4 : IVec S204800 1 := andi main_v1 main_v3
  let main_c_1 : IVec S_ 1 := constantI S_ 1 1#1
  let main_v5 : IVec S_ 1 := (fun x v => Host.reduce IntOp.andi x v reducesTo_S204800_S_d0 h_S_) main_v4 main_c_1
  main_v5
-- ==== Kernel.lean ====
abbrev S204800 : Shape := ⟨1, ![204800]⟩
abbrev S4096 : Shape := ⟨1, ![4096]⟩
abbrev S1000000x64 : Shape := ⟨2, ![1000000, 64]⟩
abbrev S16x64 : Shape := ⟨2, ![16, 64]⟩
abbrev S16 : Shape := ⟨1, ![16]⟩
abbrev S64x1000000 : Shape := ⟨2, ![64, 1000000]⟩
abbrev S64x16 : Shape := ⟨2, ![64, 16]⟩
abbrev S_ : Shape := ⟨0, ![]⟩
abbrev S8x64x128 : Shape := ⟨3, ![8, 64, 128]⟩
abbrev S1 : Shape := ⟨1, ![1]⟩
abbrev S2 : Shape := ⟨1, ![2]⟩
abbrev S126976x128 : Shape := ⟨2, ![126976, 128]⟩
abbrev S64x8192 : Shape := ⟨2, ![64, 8192]⟩
abbrev S1024x128 : Shape := ⟨2, ![1024, 128]⟩
abbrev S64x128 : Shape := ⟨2, ![64, 128]⟩
abbrev S1x64x128 : Shape := ⟨3, ![1, 64, 128]⟩
abbrev S128x128 : Shape := ⟨2, ![128, 128]⟩
abbrev S4096x128 : Shape := ⟨2, ![4096, 128]⟩
abbrev S128 : Shape := ⟨1, ![128]⟩
abbrev S6272 : Shape := ⟨1, ![6272]⟩
abbrev S6400 : Shape := ⟨1, ![6400]⟩
abbrev S1x16 : Shape := ⟨2, ![1, 16]⟩
abbrev S32x128 : Shape := ⟨2, ![32, 128]⟩
abbrev S4096x1 : Shape := ⟨2, ![4096, 1]⟩
abbrev S4096x16 : Shape := ⟨2, ![4096, 16]⟩

abbrev nBuf : Table → Nat
  | .hbm => 65
  | .local .tc .vmem => 10
  | .local .scVector .vmem => 13
  | _ => 0

abbrev bufTy : (tb : Table) → Fin (nBuf tb) → BufTy
  | .hbm, ⟨0, _⟩ => ⟨S204800, .i32⟩
  | .hbm, ⟨1, _⟩ => ⟨S4096, .i32⟩
  | .hbm, ⟨2, _⟩ => ⟨S1000000x64, .f32⟩
  | .hbm, ⟨3, _⟩ => ⟨S16x64, .f32⟩
  | .hbm, ⟨4, _⟩ => ⟨S16, .f32⟩
  | .hbm, ⟨5, _⟩ => ⟨S64x1000000, .f32⟩
  | .hbm, ⟨6, _⟩ => ⟨S64x16, .f32⟩
  | .hbm, ⟨7, _⟩ => ⟨S_, .f32⟩
  | .hbm, ⟨8, _⟩ => ⟨S8x64x128, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S8x64x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S8x64x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S8x64x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S8x64x128, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S8x64x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S8x64x128, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S8x64x128, .f32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S8x64x128, .f32⟩
  | .hbm, ⟨57, _⟩ => ⟨S126976x128, .f32⟩
  | .hbm, ⟨58, _⟩ => ⟨S4096x128, .f32⟩
  | .hbm, ⟨59, _⟩ => ⟨S4096, .f32⟩
  | .hbm, ⟨60, _⟩ => ⟨S32x128, .f32⟩
  | .hbm, ⟨61, _⟩ => ⟨S4096, .i32⟩
  | .hbm, ⟨62, _⟩ => ⟨S4096x1, .i32⟩
  | .hbm, ⟨63, _⟩ => ⟨S1x16, .f32⟩
  | .hbm, ⟨64, _⟩ => ⟨S4096x16, .f32⟩
  | .local .tc .vmem, ⟨0, _⟩ => ⟨S64x8192, .f32⟩
  | .local .tc .vmem, ⟨1, _⟩ => ⟨S64x8192, .f32⟩
  | .local .tc .vmem, ⟨2, _⟩ => ⟨S8x64x128, .f32⟩
  | .local .tc .vmem, ⟨3, _⟩ => ⟨S1024x128, .f32⟩
  | .local .tc .vmem, ⟨4, _⟩ => ⟨S1024x128, .f32⟩
  | .local .tc .vmem, ⟨5, _⟩ => ⟨S4096x128, .f32⟩
  | .local .tc .vmem, ⟨6, _⟩ => ⟨S32x128, .f32⟩
  | .local .tc .vmem, ⟨7, _⟩ => ⟨S4096x1, .i32⟩
  | .local .tc .vmem, ⟨8, _⟩ => ⟨S1x16, .f32⟩
  | .local .tc .vmem, ⟨9, _⟩ => ⟨S4096x16, .f32⟩
  | .local .scVector .vmem, ⟨0, _⟩ => ⟨S128, .i32⟩
  | .local .scVector .vmem, ⟨1, _⟩ => ⟨S128x128, .f32⟩
  | .local .scVector .vmem, ⟨2, _⟩ => ⟨S6272, .i32⟩
  | .local .scVector .vmem, ⟨3, _⟩ => ⟨S6400, .i32⟩
  | .local .scVector .vmem, ⟨4, _⟩ => ⟨S6400, .i32⟩
  | .local .scVector .vmem, ⟨5, _⟩ => ⟨S6400, .i32⟩
  | .local .scVector .vmem, ⟨6, _⟩ => ⟨S6400, .i32⟩
  | .local .scVector .vmem, ⟨7, _⟩ => ⟨S6400, .i32⟩
  | .local .scVector .vmem, ⟨8, _⟩ => ⟨S6400, .i32⟩
  | .local .scVector .vmem, ⟨9, _⟩ => ⟨S6400, .i32⟩
  | .local .scVector .vmem, ⟨10, _⟩ => ⟨S6400, .i32⟩
  | .local .scVector .vmem, ⟨11, _⟩ => ⟨S128x128, .f32⟩
  | .local .scVector .vmem, ⟨12, _⟩ => ⟨S128, .f32⟩
  | _, _ => ⟨S204800, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_c_6 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_7 : Ref sig .tc := ⟨.hbm, 33, rfl⟩
abbrev main_v19 : Ref sig .tc := ⟨.hbm, 34, rfl⟩
abbrev main_c_8 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_9 : Ref sig .tc := ⟨.hbm, 39, rfl⟩
abbrev main_v23 : Ref sig .tc := ⟨.hbm, 40, rfl⟩
abbrev main_c_10 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_11 : Ref sig .tc := ⟨.hbm, 45, rfl⟩
abbrev main_v27 : Ref sig .tc := ⟨.hbm, 46, rfl⟩
abbrev main_c_12 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_13 : Ref sig .tc := ⟨.hbm, 51, rfl⟩
abbrev main_v31 : Ref sig .tc := ⟨.hbm, 52, rfl⟩
abbrev main_c_14 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36_0 : Ref sig .tc := ⟨.hbm, 58, rfl⟩
abbrev main_v36_1 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_arg0_scv : Ref sig .scVector := ⟨.hbm, 0, rfl⟩
abbrev main_v35_scv : Ref sig .scVector := ⟨.hbm, 57, rfl⟩
abbrev main_v36_0_scv : Ref sig .scVector := ⟨.hbm, 58, rfl⟩
abbrev main_v36_1_scv : Ref sig .scVector := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg4_0 : Ref sig .tc := ⟨.vmem, 9, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc1_scratch11 : Ref sig .scVector := ⟨.vmem, 11, rfl⟩
abbrev cc1_scratch12 : Ref sig .scVector := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![124], ![false]⟩

def k0_cond1 (i : grid0.Coords) : BitVec 1 :=
  let arg0 : BitVec 32 := BitVec.ofNat 32 (i 0).val
  let c123_i32 : BitVec 32 := 123#32
  let v0 : BitVec 1 := Scalar.cmpi .slt arg0 c123_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c123_i32_0 : BitVec 32 := 123#32
  let v3 : BitVec 1 := Scalar.cmpi .eq arg0 c123_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c122_i32 : BitVec 32 := 122#32
  let v0 : BitVec 32 := Scalar.minsi arg0 c122_i32
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_166_r1 : BitVec 32 := 0#32
  ![v2.toNat, 0]
def k1_off3 (i : grid1.Coords) : Fin 1 → Nat :=
  let c4096_i32 : BitVec 32 := 4096#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6272_i32 : BitVec 32 := 6272#32
  let v77 : BitVec 32 := Scalar.muli v1 c6272_i32
  let v78 : BitVec 32 := Scalar.addi c4096_i32 v77
  ![v78.toNat]
@[reducible] def k1_t1_loop : Scf.Loop 32 :=
  let c0_i32_33 : BitVec 32 := 0#32
  let c400_i32 : BitVec 32 := 400#32
  let v80 : BitVec 32 := Scalar.addi c0_i32_33 c400_i32
  let c1_i32 : BitVec 32 := 1#32
  ⟨c0_i32_33, v80, c1_i32⟩
def k1_off4 (k1_t1 : Fin k1_t1_loop.trips) : Fin 1 → Nat :=
  let c16_i32_168 : BitVec 32 := 16#32
  let c0_i32_33 : BitVec 32 := 0#32
  let c1_i32 : BitVec 32 := 1#32
  let arg20 : BitVec 32 := Scf.iv c0_i32_33 c1_i32 k1_t1
  let v362 : BitVec 32 := Scalar.muli c16_i32_168 arg20
  let v363 : Index := Scalar.indexCast v362
  ![v363.toNat]
@[reducible] def k1_t2_loop : Scf.Loop 32 :=
  let c0_i32_37 : BitVec 32 := 0#32
  let c392_i32 : BitVec 32 := 392#32
  let v84 : BitVec 32 := Scalar.addi c0_i32_37 c392_i32
  let c1_i32_38 : BitVec 32 := 1#32
  ⟨c0_i32_37, v84, c1_i32_38⟩
def k1_off5 (k1_t2 : Fin k1_t2_loop.trips) : Fin 1 → Nat :=
  let c16_i32_166 : BitVec 32 := 16#32
  let c0_i32_37 : BitVec 32 := 0#32
  let c1_i32_38 : BitVec 32 := 1#32
  let arg20 : BitVec 32 := Scf.iv c0_i32_37 c1_i32_38 k1_t2
  let v353 : BitVec 32 := Scalar.muli c16_i32_166 arg20
  let v354 : Index := Scalar.indexCast v353
  ![v354.toNat]

def k1_chk1 (v375 : IVec S16 32) : Prop :=
  (∀ a x, ((![v375] : Fin 1 → IVec S16 32) a x).toNat < S6400.size a)
theorem k1_idx1_inb : ∀ (v375 : IVec S16 32) (k1_hw1 : k1_chk1 v375), ∀ a x, ((![v375] : Fin 1 → IVec S16 32) a x).toNat < S6400.size a := fun v375 k1_hw1 => k1_hw1

def k1_chk2 (v390 : IVec S16 32) : Prop :=
  (∀ a x, ((![v390] : Fin 1 → IVec S16 32) a x).toNat < S6400.size a)
theorem k1_idx2_inb : ∀ (v390 : IVec S16 32) (k1_hw2 : k1_chk2 v390), ∀ a x, ((![v390] : Fin 1 → IVec S16 32) a x).toNat < S6400.size a := fun v390 k1_hw2 => k1_hw2

def k1_chk3 (v405 : IVec S16 32) : Prop :=
  (∀ a x, ((![v405] : Fin 1 → IVec S16 32) a x).toNat < S6400.size a)
theorem k1_idx3_inb : ∀ (v405 : IVec S16 32) (k1_hw3 : k1_chk3 v405), ∀ a x, ((![v405] : Fin 1 → IVec S16 32) a x).toNat < S6400.size a := fun v405 k1_hw3 => k1_hw3

def k1_chk4 (v420 : IVec S16 32) : Prop :=
  (∀ a x, ((![v420] : Fin 1 → IVec S16 32) a x).toNat < S6400.size a)
theorem k1_idx4_inb : ∀ (v420 : IVec S16 32) (k1_hw4 : k1_chk4 v420), ∀ a x, ((![v420] : Fin 1 → IVec S16 32) a x).toNat < S6400.size a := fun v420 k1_hw4 => k1_hw4

def k1_chk5 (v435 : IVec S16 32) : Prop :=
  (∀ a x, ((![v435] : Fin 1 → IVec S16 32) a x).toNat < S6400.size a)
theorem k1_idx5_inb : ∀ (v435 : IVec S16 32) (k1_hw5 : k1_chk5 v435), ∀ a x, ((![v435] : Fin 1 → IVec S16 32) a x).toNat < S6400.size a := fun v435 k1_hw5 => k1_hw5

def k1_chk6 (v450 : IVec S16 32) : Prop :=
  (∀ a x, ((![v450] : Fin 1 → IVec S16 32) a x).toNat < S6400.size a)
theorem k1_idx6_inb : ∀ (v450 : IVec S16 32) (k1_hw6 : k1_chk6 v450), ∀ a x, ((![v450] : Fin 1 → IVec S16 32) a x).toNat < S6400.size a := fun v450 k1_hw6 => k1_hw6

def k1_chk7 (v465 : IVec S16 32) : Prop :=
  (∀ a x, ((![v465] : Fin 1 → IVec S16 32) a x).toNat < S6400.size a)
theorem k1_idx7_inb : ∀ (v465 : IVec S16 32) (k1_hw7 : k1_chk7 v465), ∀ a x, ((![v465] : Fin 1 → IVec S16 32) a x).toNat < S6400.size a := fun v465 k1_hw7 => k1_hw7

def k1_chk8 (v480 : IVec S16 32) : Prop :=
  (∀ a x, ((![v480] : Fin 1 → IVec S16 32) a x).toNat < S6400.size a)
theorem k1_idx8_inb : ∀ (v480 : IVec S16 32) (k1_hw8 : k1_chk8 v480), ∀ a x, ((![v480] : Fin 1 → IVec S16 32) a x).toNat < S6400.size a := fun v480 k1_hw8 => k1_hw8
@[reducible] def k1_t3_loop (v92 : BitVec 32) : Scf.Loop 32 :=
  let c0_i32_49 : BitVec 32 := 0#32
  let c128_i32_40 : BitVec 32 := 128#32
  let v93 : BitVec 32 := Scalar.addi v92 c128_i32_40
  let c1_i32_41 : BitVec 32 := 1#32
  let v94 : BitVec 32 := Scalar.subi v93 c1_i32_41
  let c0_i32_43 : BitVec 32 := 0#32
  let v96 : BitVec 1 := Scalar.cmpi .sgt v94 c0_i32_43
  let v97 : BitVec 32 := Scalar.extui v96
  let c0_i32_44 : BitVec 32 := 0#32
  let v98 : BitVec 1 := Scalar.cmpi .slt v94 c0_i32_44
  let v99 : BitVec 32 := Scalar.extui v98
  let v100 : BitVec 32 := Scalar.subi v97 v99
  let c128_i32_42 : BitVec 32 := 128#32
  let c0_i32_45 : BitVec 32 := 0#32
  let v101 : BitVec 1 := Scalar.cmpi .sgt c128_i32_42 c0_i32_45
  let v102 : BitVec 32 := Scalar.extui v101
  let c0_i32_46 : BitVec 32 := 0#32
  let v103 : BitVec 1 := Scalar.cmpi .slt c128_i32_42 c0_i32_46
  let v104 : BitVec 32 := Scalar.extui v103
  let v105 : BitVec 32 := Scalar.subi v102 v104
  let v106 : BitVec 1 := Scalar.cmpi .ne v100 v105
  let v107 : BitVec 32 := Scalar.remsi v94 c128_i32_42
  let c0_i32_47 : BitVec 32 := 0#32
  let v108 : BitVec 1 := Scalar.cmpi .ne v107 c0_i32_47
  let v109 : BitVec 1 := Scalar.andi v106 v108
  let v95 : BitVec 32 := Scalar.divsi v94 c128_i32_42
  let c1_i32_48 : BitVec 32 := 1#32
  let v110 : BitVec 32 := Scalar.subi v95 c1_i32_48
  let v111 : BitVec 32 := Scalar.select v109 v110 v95
  let v112 : BitVec 32 := Scalar.subi v111 c0_i32_49
  let c1_i32_50 : BitVec 32 := 1#32
  let v114 : BitVec 32 := Scalar.divsi v112 c1_i32_50
  let v115 : BitVec 32 := Scalar.muli v114 c1_i32_50
  let v116 : BitVec 32 := Scalar.addi c0_i32_49 v115
  let c1_i32_51 : BitVec 32 := 1#32
  ⟨c0_i32_49, v116, c1_i32_51⟩

def k1_off6 (v92 : BitVec 32) (k1_t3 : Fin (k1_t3_loop v92).trips) : Fin 1 → Nat :=
  let c0_i32_49 : BitVec 32 := 0#32
  let c1_i32_51 : BitVec 32 := 1#32
  let arg20 : BitVec 32 := Scf.iv c0_i32_49 c1_i32_51 k1_t3
  let c128_i32_166 : BitVec 32 := 128#32
  let v353 : BitVec 32 := Scalar.muli arg20 c128_i32_166
  ![v353.toNat]
@[reducible] def k1_t4_loop : Scf.Loop 32 :=
  let c0_i32_171 : BitVec 32 := 0#32
  let c128_i32_172 : BitVec 32 := 128#32
  let v358 : BitVec 32 := Scalar.addi c0_i32_171 c128_i32_172
  let c1_i32_173 : BitVec 32 := 1#32
  ⟨c0_i32_171, v358, c1_i32_173⟩
def k1_off7 (k1_t4 : Fin k1_t4_loop.trips) : Fin 2 → Nat :=
  let c0_i32_171 : BitVec 32 := 0#32
  let c1_i32_173 : BitVec 32 := 1#32
  let arg22 : BitVec 32 := Scf.iv c0_i32_171 c1_i32_173 k1_t4
  let v360 : Index := Scalar.indexCast arg22
  let c0_175 : Index := 0#32
  ![v360.toNat, 0]
@[reducible] def k1_t5_loop (v92 : BitVec 32) : Scf.Loop 32 :=
  let c0_i32_49 : BitVec 32 := 0#32
  let c128_i32_40 : BitVec 32 := 128#32
  let v93 : BitVec 32 := Scalar.addi v92 c128_i32_40
  let c1_i32_41 : BitVec 32 := 1#32
  let v94 : BitVec 32 := Scalar.subi v93 c1_i32_41
  let c0_i32_43 : BitVec 32 := 0#32
  let v96 : BitVec 1 := Scalar.cmpi .sgt v94 c0_i32_43
  let v97 : BitVec 32 := Scalar.extui v96
  let c0_i32_44 : BitVec 32 := 0#32
  let v98 : BitVec 1 := Scalar.cmpi .slt v94 c0_i32_44
  let v99 : BitVec 32 := Scalar.extui v98
  let v100 : BitVec 32 := Scalar.subi v97 v99
  let c128_i32_42 : BitVec 32 := 128#32
  let c0_i32_45 : BitVec 32 := 0#32
  let v101 : BitVec 1 := Scalar.cmpi .sgt c128_i32_42 c0_i32_45
  let v102 : BitVec 32 := Scalar.extui v101
  let c0_i32_46 : BitVec 32 := 0#32
  let v103 : BitVec 1 := Scalar.cmpi .slt c128_i32_42 c0_i32_46
  let v104 : BitVec 32 := Scalar.extui v103
  let v105 : BitVec 32 := Scalar.subi v102 v104
  let v106 : BitVec 1 := Scalar.cmpi .ne v100 v105
  let v107 : BitVec 32 := Scalar.remsi v94 c128_i32_42
  let c0_i32_47 : BitVec 32 := 0#32
  let v108 : BitVec 1 := Scalar.cmpi .ne v107 c0_i32_47
  let v109 : BitVec 1 := Scalar.andi v106 v108
  let v95 : BitVec 32 := Scalar.divsi v94 c128_i32_42
  let c1_i32_48 : BitVec 32 := 1#32
  let v110 : BitVec 32 := Scalar.subi v95 c1_i32_48
  let v111 : BitVec 32 := Scalar.select v109 v110 v95
  let v112 : BitVec 32 := Scalar.subi v111 c0_i32_49
  let c1_i32_50 : BitVec 32 := 1#32
  let v114 : BitVec 32 := Scalar.divsi v112 c1_i32_50
  let v115 : BitVec 32 := Scalar.muli v114 c1_i32_50
  let v116 : BitVec 32 := Scalar.addi c0_i32_49 v115
  let v113 : BitVec 32 := Scalar.addi c0_i32_49 v112
  let c1_i32_52 : BitVec 32 := 1#32
  ⟨v116, v113, c1_i32_52⟩
def k1_off8 (v92 : BitVec 32) (k1_t5 : Fin (k1_t5_loop v92).trips) : Fin 1 → Nat :=
  let c0_i32_49 : BitVec 32 := 0#32
  let c128_i32_40 : BitVec 32 := 128#32
  let v93 : BitVec 32 := Scalar.addi v92 c128_i32_40
  let c1_i32_41 : BitVec 32 := 1#32
  let v94 : BitVec 32 := Scalar.subi v93 c1_i32_41
  let c0_i32_43 : BitVec 32 := 0#32
  let v96 : BitVec 1 := Scalar.cmpi .sgt v94 c0_i32_43
  let v97 : BitVec 32 := Scalar.extui v96
  let c0_i32_44 : BitVec 32 := 0#32
  let v98 : BitVec 1 := Scalar.cmpi .slt v94 c0_i32_44
  let v99 : BitVec 32 := Scalar.extui v98
  let v100 : BitVec 32 := Scalar.subi v97 v99
  let c128_i32_42 : BitVec 32 := 128#32
  let c0_i32_45 : BitVec 32 := 0#32
  let v101 : BitVec 1 := Scalar.cmpi .sgt c128_i32_42 c0_i32_45
  let v102 : BitVec 32 := Scalar.extui v101
  let c0_i32_46 : BitVec 32 := 0#32
  let v103 : BitVec 1 := Scalar.cmpi .slt c128_i32_42 c0_i32_46
  let v104 : BitVec 32 := Scalar.extui v103
  let v105 : BitVec 32 := Scalar.subi v102 v104
  let v106 : BitVec 1 := Scalar.cmpi .ne v100 v105
  let v107 : BitVec 32 := Scalar.remsi v94 c128_i32_42
  let c0_i32_47 : BitVec 32 := 0#32
  let v108 : BitVec 1 := Scalar.cmpi .ne v107 c0_i32_47
  let v109 : BitVec 1 := Scalar.andi v106 v108
  let v95 : BitVec 32 := Scalar.divsi v94 c128_i32_42
  let c1_i32_48 : BitVec 32 := 1#32
  let v110 : BitVec 32 := Scalar.subi v95 c1_i32_48
  let v111 : BitVec 32 := Scalar.select v109 v110 v95
  let v112 : BitVec 32 := Scalar.subi v111 c0_i32_49
  let c1_i32_50 : BitVec 32 := 1#32
  let v114 : BitVec 32 := Scalar.divsi v112 c1_i32_50
  let v115 : BitVec 32 := Scalar.muli v114 c1_i32_50
  let v116 : BitVec 32 := Scalar.addi c0_i32_49 v115
  let c1_i32_52 : BitVec 32 := 1#32
  let arg20 : BitVec 32 := Scf.iv v116 c1_i32_52 k1_t5
  let c128_i32_166 : BitVec 32 := 128#32
  let v353 : BitVec 32 := Scalar.muli arg20 c128_i32_166
  ![v353.toNat]

def k1_chk9 (v92 : BitVec 32) : Prop :=
  ((k1_t3_loop v92).OK) ∧
  (∀ k1_t3 : Fin (k1_t3_loop v92).trips, ∀ a, (k1_off6 v92 k1_t3) a + S128.size a ≤ S6400.size a) ∧
  ((k1_t5_loop v92).OK) ∧
  (∀ k1_t5 : Fin (k1_t5_loop v92).trips, ∀ a, (k1_off8 v92 k1_t5) a + S128.size a ≤ S6400.size a)
theorem k1_t3_ok : ∀ (v92 : BitVec 32) (k1_hw9 : k1_chk9 v92), (k1_t3_loop v92).OK := fun v92 k1_hw9 => k1_hw9.1
theorem k1_off6_inb : ∀ (v92 : BitVec 32) (k1_hw9 : k1_chk9 v92) (k1_t3 : Fin (k1_t3_loop v92).trips), ∀ a, (k1_off6 v92 k1_t3) a + S128.size a ≤ S6400.size a := fun v92 k1_hw9 k1_t3 => k1_hw9.2.1 k1_t3
theorem k1_t5_ok : ∀ (v92 : BitVec 32) (k1_hw9 : k1_chk9 v92), (k1_t5_loop v92).OK := fun v92 k1_hw9 => k1_hw9.2.2.1
theorem k1_off8_inb : ∀ (v92 : BitVec 32) (k1_hw9 : k1_chk9 v92) (k1_t5 : Fin (k1_t5_loop v92).trips), ∀ a, (k1_off8 v92 k1_t5) a + S128.size a ≤ S6400.size a := fun v92 k1_hw9 k1_t5 => k1_hw9.2.2.2 k1_t5

@[reducible] def k1_t6_loop : Scf.Loop 32 :=
  let c0_i32_171 : BitVec 32 := 0#32
  let c128_i32_172 : BitVec 32 := 128#32
  let v358 : BitVec 32 := Scalar.addi c0_i32_171 c128_i32_172
  let c1_i32_173 : BitVec 32 := 1#32
  ⟨c0_i32_171, v358, c1_i32_173⟩
def k1_off9 (k1_t6 : Fin k1_t6_loop.trips) : Fin 2 → Nat :=
  let c0_i32_171 : BitVec 32 := 0#32
  let c1_i32_173 : BitVec 32 := 1#32
  let arg22 : BitVec 32 := Scf.iv c0_i32_171 c1_i32_173 k1_t6
  let v360 : Index := Scalar.indexCast arg22
  let c0_175 : Index := 0#32
  ![v360.toNat, 0]
@[reducible] def k1_t7_loop (v125 : BitVec 32) : Scf.Loop 32 :=
  let c0_i32_65 : BitVec 32 := 0#32
  let c128_i32_56 : BitVec 32 := 128#32
  let v126 : BitVec 32 := Scalar.addi v125 c128_i32_56
  let c1_i32_57 : BitVec 32 := 1#32
  let v127 : BitVec 32 := Scalar.subi v126 c1_i32_57
  let c0_i32_59 : BitVec 32 := 0#32
  let v129 : BitVec 1 := Scalar.cmpi .sgt v127 c0_i32_59
  let v130 : BitVec 32 := Scalar.extui v129
  let c0_i32_60 : BitVec 32 := 0#32
  let v131 : BitVec 1 := Scalar.cmpi .slt v127 c0_i32_60
  let v132 : BitVec 32 := Scalar.extui v131
  let v133 : BitVec 32 := Scalar.subi v130 v132
  let c128_i32_58 : BitVec 32 := 128#32
  let c0_i32_61 : BitVec 32 := 0#32
  let v134 : BitVec 1 := Scalar.cmpi .sgt c128_i32_58 c0_i32_61
  let v135 : BitVec 32 := Scalar.extui v134
  let c0_i32_62 : BitVec 32 := 0#32
  let v136 : BitVec 1 := Scalar.cmpi .slt c128_i32_58 c0_i32_62
  let v137 : BitVec 32 := Scalar.extui v136
  let v138 : BitVec 32 := Scalar.subi v135 v137
  let v139 : BitVec 1 := Scalar.cmpi .ne v133 v138
  let v140 : BitVec 32 := Scalar.remsi v127 c128_i32_58
  let c0_i32_63 : BitVec 32 := 0#32
  let v141 : BitVec 1 := Scalar.cmpi .ne v140 c0_i32_63
  let v142 : BitVec 1 := Scalar.andi v139 v141
  let v128 : BitVec 32 := Scalar.divsi v127 c128_i32_58
  let c1_i32_64 : BitVec 32 := 1#32
  let v143 : BitVec 32 := Scalar.subi v128 c1_i32_64
  let v144 : BitVec 32 := Scalar.select v142 v143 v128
  let v145 : BitVec 32 := Scalar.subi v144 c0_i32_65
  let c1_i32_66 : BitVec 32 := 1#32
  let v147 : BitVec 32 := Scalar.divsi v145 c1_i32_66
  let v148 : BitVec 32 := Scalar.muli v147 c1_i32_66
  let v149 : BitVec 32 := Scalar.addi c0_i32_65 v148
  let c1_i32_67 : BitVec 32 := 1#32
  ⟨c0_i32_65, v149, c1_i32_67⟩

def k1_off10 (v125 : BitVec 32) (k1_t7 : Fin (k1_t7_loop v125).trips) : Fin 1 → Nat :=
  let c0_i32_65 : BitVec 32 := 0#32
  let c1_i32_67 : BitVec 32 := 1#32
  let arg20 : BitVec 32 := Scf.iv c0_i32_65 c1_i32_67 k1_t7
  let c128_i32_166 : BitVec 32 := 128#32
  let v353 : BitVec 32 := Scalar.muli arg20 c128_i32_166
  ![v353.toNat]
@[reducible] def k1_t8_loop : Scf.Loop 32 :=
  let c0_i32_171 : BitVec 32 := 0#32
  let c128_i32_172 : BitVec 32 := 128#32
  let v358 : BitVec 32 := Scalar.addi c0_i32_171 c128_i32_172
  let c1_i32_173 : BitVec 32 := 1#32
  ⟨c0_i32_171, v358, c1_i32_173⟩
def k1_off11 (k1_t8 : Fin k1_t8_loop.trips) : Fin 2 → Nat :=
  let c0_i32_171 : BitVec 32 := 0#32
  let c1_i32_173 : BitVec 32 := 1#32
  let arg22 : BitVec 32 := Scf.iv c0_i32_171 c1_i32_173 k1_t8
  let v360 : Index := Scalar.indexCast arg22
  let c16_175 : Index := 16#32
  ![v360.toNat, 16]
@[reducible] def k1_t9_loop (v125 : BitVec 32) : Scf.Loop 32 :=
  let c0_i32_65 : BitVec 32 := 0#32
  let c128_i32_56 : BitVec 32 := 128#32
  let v126 : BitVec 32 := Scalar.addi v125 c128_i32_56
  let c1_i32_57 : BitVec 32 := 1#32
  let v127 : BitVec 32 := Scalar.subi v126 c1_i32_57
  let c0_i32_59 : BitVec 32 := 0#32
  let v129 : BitVec 1 := Scalar.cmpi .sgt v127 c0_i32_59
  let v130 : BitVec 32 := Scalar.extui v129
  let c0_i32_60 : BitVec 32 := 0#32
  let v131 : BitVec 1 := Scalar.cmpi .slt v127 c0_i32_60
  let v132 : BitVec 32 := Scalar.extui v131
  let v133 : BitVec 32 := Scalar.subi v130 v132
  let c128_i32_58 : BitVec 32 := 128#32
  let c0_i32_61 : BitVec 32 := 0#32
  let v134 : BitVec 1 := Scalar.cmpi .sgt c128_i32_58 c0_i32_61
  let v135 : BitVec 32 := Scalar.extui v134
  let c0_i32_62 : BitVec 32 := 0#32
  let v136 : BitVec 1 := Scalar.cmpi .slt c128_i32_58 c0_i32_62
  let v137 : BitVec 32 := Scalar.extui v136
  let v138 : BitVec 32 := Scalar.subi v135 v137
  let v139 : BitVec 1 := Scalar.cmpi .ne v133 v138
  let v140 : BitVec 32 := Scalar.remsi v127 c128_i32_58
  let c0_i32_63 : BitVec 32 := 0#32
  let v141 : BitVec 1 := Scalar.cmpi .ne v140 c0_i32_63
  let v142 : BitVec 1 := Scalar.andi v139 v141
  let v128 : BitVec 32 := Scalar.divsi v127 c128_i32_58
  let c1_i32_64 : BitVec 32 := 1#32
  let v143 : BitVec 32 := Scalar.subi v128 c1_i32_64
  let v144 : BitVec 32 := Scalar.select v142 v143 v128
  let v145 : BitVec 32 := Scalar.subi v144 c0_i32_65
  let c1_i32_66 : BitVec 32 := 1#32
  let v147 : BitVec 32 := Scalar.divsi v145 c1_i32_66
  let v148 : BitVec 32 := Scalar.muli v147 c1_i32_66
  let v149 : BitVec 32 := Scalar.addi c0_i32_65 v148
  let v146 : BitVec 32 := Scalar.addi c0_i32_65 v145
  let c1_i32_68 : BitVec 32 := 1#32
  ⟨v149, v146, c1_i32_68⟩
def k1_off12 (v125 : BitVec 32) (k1_t9 : Fin (k1_t9_loop v125).trips) : Fin 1 → Nat :=
  let c0_i32_65 : BitVec 32 := 0#32
  let c128_i32_56 : BitVec 32 := 128#32
  let v126 : BitVec 32 := Scalar.addi v125 c128_i32_56
  let c1_i32_57 : BitVec 32 := 1#32
  let v127 : BitVec 32 := Scalar.subi v126 c1_i32_57
  let c0_i32_59 : BitVec 32 := 0#32
  let v129 : BitVec 1 := Scalar.cmpi .sgt v127 c0_i32_59
  let v130 : BitVec 32 := Scalar.extui v129
  let c0_i32_60 : BitVec 32 := 0#32
  let v131 : BitVec 1 := Scalar.cmpi .slt v127 c0_i32_60
  let v132 : BitVec 32 := Scalar.extui v131
  let v133 : BitVec 32 := Scalar.subi v130 v132
  let c128_i32_58 : BitVec 32 := 128#32
  let c0_i32_61 : BitVec 32 := 0#32
  let v134 : BitVec 1 := Scalar.cmpi .sgt c128_i32_58 c0_i32_61
  let v135 : BitVec 32 := Scalar.extui v134
  let c0_i32_62 : BitVec 32 := 0#32
  let v136 : BitVec 1 := Scalar.cmpi .slt c128_i32_58 c0_i32_62
  let v137 : BitVec 32 := Scalar.extui v136
  let v138 : BitVec 32 := Scalar.subi v135 v137
  let v139 : BitVec 1 := Scalar.cmpi .ne v133 v138
  let v140 : BitVec 32 := Scalar.remsi v127 c128_i32_58
  let c0_i32_63 : BitVec 32 := 0#32
  let v141 : BitVec 1 := Scalar.cmpi .ne v140 c0_i32_63
  let v142 : BitVec 1 := Scalar.andi v139 v141
  let v128 : BitVec 32 := Scalar.divsi v127 c128_i32_58
  let c1_i32_64 : BitVec 32 := 1#32
  let v143 : BitVec 32 := Scalar.subi v128 c1_i32_64
  let v144 : BitVec 32 := Scalar.select v142 v143 v128
  let v145 : BitVec 32 := Scalar.subi v144 c0_i32_65
  let c1_i32_66 : BitVec 32 := 1#32
  let v147 : BitVec 32 := Scalar.divsi v145 c1_i32_66
  let v148 : BitVec 32 := Scalar.muli v147 c1_i32_66
  let v149 : BitVec 32 := Scalar.addi c0_i32_65 v148
  let c1_i32_68 : BitVec 32 := 1#32
  let arg20 : BitVec 32 := Scf.iv v149 c1_i32_68 k1_t9
  let c128_i32_166 : BitVec 32 := 128#32
  let v353 : BitVec 32 := Scalar.muli arg20 c128_i32_166
  ![v353.toNat]

def k1_chk10 (v125 : BitVec 32) : Prop :=
  ((k1_t7_loop v125).OK) ∧
  (∀ k1_t7 : Fin (k1_t7_loop v125).trips, ∀ a, (k1_off10 v125 k1_t7) a + S128.size a ≤ S6400.size a) ∧
  ((k1_t9_loop v125).OK) ∧
  (∀ k1_t9 : Fin (k1_t9_loop v125).trips, ∀ a, (k1_off12 v125 k1_t9) a + S128.size a ≤ S6400.size a)
theorem k1_t7_ok : ∀ (v125 : BitVec 32) (k1_hw10 : k1_chk10 v125), (k1_t7_loop v125).OK := fun v125 k1_hw10 => k1_hw10.1
theorem k1_off10_inb : ∀ (v125 : BitVec 32) (k1_hw10 : k1_chk10 v125) (k1_t7 : Fin (k1_t7_loop v125).trips), ∀ a, (k1_off10 v125 k1_t7) a + S128.size a ≤ S6400.size a := fun v125 k1_hw10 k1_t7 => k1_hw10.2.1 k1_t7
theorem k1_t9_ok : ∀ (v125 : BitVec 32) (k1_hw10 : k1_chk10 v125), (k1_t9_loop v125).OK := fun v125 k1_hw10 => k1_hw10.2.2.1
theorem k1_off12_inb : ∀ (v125 : BitVec 32) (k1_hw10 : k1_chk10 v125) (k1_t9 : Fin (k1_t9_loop v125).trips), ∀ a, (k1_off12 v125 k1_t9) a + S128.size a ≤ S6400.size a := fun v125 k1_hw10 k1_t9 => k1_hw10.2.2.2 k1_t9

@[reducible] def k1_t10_loop : Scf.Loop 32 :=
  let c0_i32_171 : BitVec 32 := 0#32
  let c128_i32_172 : BitVec 32 := 128#32
  let v358 : BitVec 32 := Scalar.addi c0_i32_171 c128_i32_172
  let c1_i32_173 : BitVec 32 := 1#32
  ⟨c0_i32_171, v358, c1_i32_173⟩
def k1_off13 (k1_t10 : Fin k1_t10_loop.trips) : Fin 2 → Nat :=
  let c0_i32_171 : BitVec 32 := 0#32
  let c1_i32_173 : BitVec 32 := 1#32
  let arg22 : BitVec 32 := Scf.iv c0_i32_171 c1_i32_173 k1_t10
  let v360 : Index := Scalar.indexCast arg22
  let c16_175 : Index := 16#32
  ![v360.toNat, 16]
@[reducible] def k1_t11_loop (v158 : BitVec 32) : Scf.Loop 32 :=
  let c0_i32_81 : BitVec 32 := 0#32
  let c128_i32_72 : BitVec 32 := 128#32
  let v159 : BitVec 32 := Scalar.addi v158 c128_i32_72
  let c1_i32_73 : BitVec 32 := 1#32
  let v160 : BitVec 32 := Scalar.subi v159 c1_i32_73
  let c0_i32_75 : BitVec 32 := 0#32
  let v162 : BitVec 1 := Scalar.cmpi .sgt v160 c0_i32_75
  let v163 : BitVec 32 := Scalar.extui v162
  let c0_i32_76 : BitVec 32 := 0#32
  let v164 : BitVec 1 := Scalar.cmpi .slt v160 c0_i32_76
  let v165 : BitVec 32 := Scalar.extui v164
  let v166 : BitVec 32 := Scalar.subi v163 v165
  let c128_i32_74 : BitVec 32 := 128#32
  let c0_i32_77 : BitVec 32 := 0#32
  let v167 : BitVec 1 := Scalar.cmpi .sgt c128_i32_74 c0_i32_77
  let v168 : BitVec 32 := Scalar.extui v167
  let c0_i32_78 : BitVec 32 := 0#32
  let v169 : BitVec 1 := Scalar.cmpi .slt c128_i32_74 c0_i32_78
  let v170 : BitVec 32 := Scalar.extui v169
  let v171 : BitVec 32 := Scalar.subi v168 v170
  let v172 : BitVec 1 := Scalar.cmpi .ne v166 v171
  let v173 : BitVec 32 := Scalar.remsi v160 c128_i32_74
  let c0_i32_79 : BitVec 32 := 0#32
  let v174 : BitVec 1 := Scalar.cmpi .ne v173 c0_i32_79
  let v175 : BitVec 1 := Scalar.andi v172 v174
  let v161 : BitVec 32 := Scalar.divsi v160 c128_i32_74
  let c1_i32_80 : BitVec 32 := 1#32
  let v176 : BitVec 32 := Scalar.subi v161 c1_i32_80
  let v177 : BitVec 32 := Scalar.select v175 v176 v161
  let v178 : BitVec 32 := Scalar.subi v177 c0_i32_81
  let c1_i32_82 : BitVec 32 := 1#32
  let v180 : BitVec 32 := Scalar.divsi v178 c1_i32_82
  let v181 : BitVec 32 := Scalar.muli v180 c1_i32_82
  let v182 : BitVec 32 := Scalar.addi c0_i32_81 v181
  let c1_i32_83 : BitVec 32 := 1#32
  ⟨c0_i32_81, v182, c1_i32_83⟩

def k1_off14 (v158 : BitVec 32) (k1_t11 : Fin (k1_t11_loop v158).trips) : Fin 1 → Nat :=
  let c0_i32_81 : BitVec 32 := 0#32
  let c1_i32_83 : BitVec 32 := 1#32
  let arg20 : BitVec 32 := Scf.iv c0_i32_81 c1_i32_83 k1_t11
  let c128_i32_166 : BitVec 32 := 128#32
  let v353 : BitVec 32 := Scalar.muli arg20 c128_i32_166
  ![v353.toNat]
@[reducible] def k1_t12_loop : Scf.Loop 32 :=
  let c0_i32_171 : BitVec 32 := 0#32
  let c128_i32_172 : BitVec 32 := 128#32
  let v358 : BitVec 32 := Scalar.addi c0_i32_171 c128_i32_172
  let c1_i32_173 : BitVec 32 := 1#32
  ⟨c0_i32_171, v358, c1_i32_173⟩
def k1_off15 (k1_t12 : Fin k1_t12_loop.trips) : Fin 2 → Nat :=
  let c0_i32_171 : BitVec 32 := 0#32
  let c1_i32_173 : BitVec 32 := 1#32
  let arg22 : BitVec 32 := Scf.iv c0_i32_171 c1_i32_173 k1_t12
  let v360 : Index := Scalar.indexCast arg22
  let c32_175 : Index := 32#32
  ![v360.toNat, 32]
@[reducible] def k1_t13_loop (v158 : BitVec 32) : Scf.Loop 32 :=
  let c0_i32_81 : BitVec 32 := 0#32
  let c128_i32_72 : BitVec 32 := 128#32
  let v159 : BitVec 32 := Scalar.addi v158 c128_i32_72
  let c1_i32_73 : BitVec 32 := 1#32
  let v160 : BitVec 32 := Scalar.subi v159 c1_i32_73
  let c0_i32_75 : BitVec 32 := 0#32
  let v162 : BitVec 1 := Scalar.cmpi .sgt v160 c0_i32_75
  let v163 : BitVec 32 := Scalar.extui v162
  let c0_i32_76 : BitVec 32 := 0#32
  let v164 : BitVec 1 := Scalar.cmpi .slt v160 c0_i32_76
  let v165 : BitVec 32 := Scalar.extui v164
  let v166 : BitVec 32 := Scalar.subi v163 v165
  let c128_i32_74 : BitVec 32 := 128#32
  let c0_i32_77 : BitVec 32 := 0#32
  let v167 : BitVec 1 := Scalar.cmpi .sgt c128_i32_74 c0_i32_77
  let v168 : BitVec 32 := Scalar.extui v167
  let c0_i32_78 : BitVec 32 := 0#32
  let v169 : BitVec 1 := Scalar.cmpi .slt c128_i32_74 c0_i32_78
  let v170 : BitVec 32 := Scalar.extui v169
  let v171 : BitVec 32 := Scalar.subi v168 v170
  let v172 : BitVec 1 := Scalar.cmpi .ne v166 v171
  let v173 : BitVec 32 := Scalar.remsi v160 c128_i32_74
  let c0_i32_79 : BitVec 32 := 0#32
  let v174 : BitVec 1 := Scalar.cmpi .ne v173 c0_i32_79
  let v175 : BitVec 1 := Scalar.andi v172 v174
  let v161 : BitVec 32 := Scalar.divsi v160 c128_i32_74
  let c1_i32_80 : BitVec 32 := 1#32
  let v176 : BitVec 32 := Scalar.subi v161 c1_i32_80
  let v177 : BitVec 32 := Scalar.select v175 v176 v161
  let v178 : BitVec 32 := Scalar.subi v177 c0_i32_81
  let c1_i32_82 : BitVec 32 := 1#32
  let v180 : BitVec 32 := Scalar.divsi v178 c1_i32_82
  let v181 : BitVec 32 := Scalar.muli v180 c1_i32_82
  let v182 : BitVec 32 := Scalar.addi c0_i32_81 v181
  let v179 : BitVec 32 := Scalar.addi c0_i32_81 v178
  let c1_i32_84 : BitVec 32 := 1#32
  ⟨v182, v179, c1_i32_84⟩
def k1_off16 (v158 : BitVec 32) (k1_t13 : Fin (k1_t13_loop v158).trips) : Fin 1 → Nat :=
  let c0_i32_81 : BitVec 32 := 0#32
  let c128_i32_72 : BitVec 32 := 128#32
  let v159 : BitVec 32 := Scalar.addi v158 c128_i32_72
  let c1_i32_73 : BitVec 32 := 1#32
  let v160 : BitVec 32 := Scalar.subi v159 c1_i32_73
  let c0_i32_75 : BitVec 32 := 0#32
  let v162 : BitVec 1 := Scalar.cmpi .sgt v160 c0_i32_75
  let v163 : BitVec 32 := Scalar.extui v162
  let c0_i32_76 : BitVec 32 := 0#32
  let v164 : BitVec 1 := Scalar.cmpi .slt v160 c0_i32_76
  let v165 : BitVec 32 := Scalar.extui v164
  let v166 : BitVec 32 := Scalar.subi v163 v165
  let c128_i32_74 : BitVec 32 := 128#32
  let c0_i32_77 : BitVec 32 := 0#32
  let v167 : BitVec 1 := Scalar.cmpi .sgt c128_i32_74 c0_i32_77
  let v168 : BitVec 32 := Scalar.extui v167
  let c0_i32_78 : BitVec 32 := 0#32
  let v169 : BitVec 1 := Scalar.cmpi .slt c128_i32_74 c0_i32_78
  let v170 : BitVec 32 := Scalar.extui v169
  let v171 : BitVec 32 := Scalar.subi v168 v170
  let v172 : BitVec 1 := Scalar.cmpi .ne v166 v171
  let v173 : BitVec 32 := Scalar.remsi v160 c128_i32_74
  let c0_i32_79 : BitVec 32 := 0#32
  let v174 : BitVec 1 := Scalar.cmpi .ne v173 c0_i32_79
  let v175 : BitVec 1 := Scalar.andi v172 v174
  let v161 : BitVec 32 := Scalar.divsi v160 c128_i32_74
  let c1_i32_80 : BitVec 32 := 1#32
  let v176 : BitVec 32 := Scalar.subi v161 c1_i32_80
  let v177 : BitVec 32 := Scalar.select v175 v176 v161
  let v178 : BitVec 32 := Scalar.subi v177 c0_i32_81
  let c1_i32_82 : BitVec 32 := 1#32
  let v180 : BitVec 32 := Scalar.divsi v178 c1_i32_82
  let v181 : BitVec 32 := Scalar.muli v180 c1_i32_82
  let v182 : BitVec 32 := Scalar.addi c0_i32_81 v181
  let c1_i32_84 : BitVec 32 := 1#32
  let arg20 : BitVec 32 := Scf.iv v182 c1_i32_84 k1_t13
  let c128_i32_166 : BitVec 32 := 128#32
  let v353 : BitVec 32 := Scalar.muli arg20 c128_i32_166
  ![v353.toNat]

def k1_chk11 (v158 : BitVec 32) : Prop :=
  ((k1_t11_loop v158).OK) ∧
  (∀ k1_t11 : Fin (k1_t11_loop v158).trips, ∀ a, (k1_off14 v158 k1_t11) a + S128.size a ≤ S6400.size a) ∧
  ((k1_t13_loop v158).OK) ∧
  (∀ k1_t13 : Fin (k1_t13_loop v158).trips, ∀ a, (k1_off16 v158 k1_t13) a + S128.size a ≤ S6400.size a)
theorem k1_t11_ok : ∀ (v158 : BitVec 32) (k1_hw11 : k1_chk11 v158), (k1_t11_loop v158).OK := fun v158 k1_hw11 => k1_hw11.1
theorem k1_off14_inb : ∀ (v158 : BitVec 32) (k1_hw11 : k1_chk11 v158) (k1_t11 : Fin (k1_t11_loop v158).trips), ∀ a, (k1_off14 v158 k1_t11) a + S128.size a ≤ S6400.size a := fun v158 k1_hw11 k1_t11 => k1_hw11.2.1 k1_t11
theorem k1_t13_ok : ∀ (v158 : BitVec 32) (k1_hw11 : k1_chk11 v158), (k1_t13_loop v158).OK := fun v158 k1_hw11 => k1_hw11.2.2.1
theorem k1_off16_inb : ∀ (v158 : BitVec 32) (k1_hw11 : k1_chk11 v158) (k1_t13 : Fin (k1_t13_loop v158).trips), ∀ a, (k1_off16 v158 k1_t13) a + S128.size a ≤ S6400.size a := fun v158 k1_hw11 k1_t13 => k1_hw11.2.2.2 k1_t13

@[reducible] def k1_t14_loop : Scf.Loop 32 :=
  let c0_i32_171 : BitVec 32 := 0#32
  let c128_i32_172 : BitVec 32 := 128#32
  let v358 : BitVec 32 := Scalar.addi c0_i32_171 c128_i32_172
  let c1_i32_173 : BitVec 32 := 1#32
  ⟨c0_i32_171, v358, c1_i32_173⟩
def k1_off17 (k1_t14 : Fin k1_t14_loop.trips) : Fin 2 → Nat :=
  let c0_i32_171 : BitVec 32 := 0#32
  let c1_i32_173 : BitVec 32 := 1#32
  let arg22 : BitVec 32 := Scf.iv c0_i32_171 c1_i32_173 k1_t14
  let v360 : Index := Scalar.indexCast arg22
  let c32_175 : Index := 32#32
  ![v360.toNat, 32]
@[reducible] def k1_t15_loop (v191 : BitVec 32) : Scf.Loop 32 :=
  let c0_i32_97 : BitVec 32 := 0#32
  let c128_i32_88 : BitVec 32 := 128#32
  let v192 : BitVec 32 := Scalar.addi v191 c128_i32_88
  let c1_i32_89 : BitVec 32 := 1#32
  let v193 : BitVec 32 := Scalar.subi v192 c1_i32_89
  let c0_i32_91 : BitVec 32 := 0#32
  let v195 : BitVec 1 := Scalar.cmpi .sgt v193 c0_i32_91
  let v196 : BitVec 32 := Scalar.extui v195
  let c0_i32_92 : BitVec 32 := 0#32
  let v197 : BitVec 1 := Scalar.cmpi .slt v193 c0_i32_92
  let v198 : BitVec 32 := Scalar.extui v197
  let v199 : BitVec 32 := Scalar.subi v196 v198
  let c128_i32_90 : BitVec 32 := 128#32
  let c0_i32_93 : BitVec 32 := 0#32
  let v200 : BitVec 1 := Scalar.cmpi .sgt c128_i32_90 c0_i32_93
  let v201 : BitVec 32 := Scalar.extui v200
  let c0_i32_94 : BitVec 32 := 0#32
  let v202 : BitVec 1 := Scalar.cmpi .slt c128_i32_90 c0_i32_94
  let v203 : BitVec 32 := Scalar.extui v202
  let v204 : BitVec 32 := Scalar.subi v201 v203
  let v205 : BitVec 1 := Scalar.cmpi .ne v199 v204
  let v206 : BitVec 32 := Scalar.remsi v193 c128_i32_90
  let c0_i32_95 : BitVec 32 := 0#32
  let v207 : BitVec 1 := Scalar.cmpi .ne v206 c0_i32_95
  let v208 : BitVec 1 := Scalar.andi v205 v207
  let v194 : BitVec 32 := Scalar.divsi v193 c128_i32_90
  let c1_i32_96 : BitVec 32 := 1#32
  let v209 : BitVec 32 := Scalar.subi v194 c1_i32_96
  let v210 : BitVec 32 := Scalar.select v208 v209 v194
  let v211 : BitVec 32 := Scalar.subi v210 c0_i32_97
  let c1_i32_98 : BitVec 32 := 1#32
  let v213 : BitVec 32 := Scalar.divsi v211 c1_i32_98
  let v214 : BitVec 32 := Scalar.muli v213 c1_i32_98
  let v215 : BitVec 32 := Scalar.addi c0_i32_97 v214
  let c1_i32_99 : BitVec 32 := 1#32
  ⟨c0_i32_97, v215, c1_i32_99⟩

def k1_off18 (v191 : BitVec 32) (k1_t15 : Fin (k1_t15_loop v191).trips) : Fin 1 → Nat :=
  let c0_i32_97 : BitVec 32 := 0#32
  let c1_i32_99 : BitVec 32 := 1#32
  let arg20 : BitVec 32 := Scf.iv c0_i32_97 c1_i32_99 k1_t15
  let c128_i32_166 : BitVec 32 := 128#32
  let v353 : BitVec 32 := Scalar.muli arg20 c128_i32_166
  ![v353.toNat]
@[reducible] def k1_t16_loop : Scf.Loop 32 :=
  let c0_i32_171 : BitVec 32 := 0#32
  let c128_i32_172 : BitVec 32 := 128#32
  let v358 : BitVec 32 := Scalar.addi c0_i32_171 c128_i32_172
  let c1_i32_173 : BitVec 32 := 1#32
  ⟨c0_i32_171, v358, c1_i32_173⟩
def k1_off19 (k1_t16 : Fin k1_t16_loop.trips) : Fin 2 → Nat :=
  let c0_i32_171 : BitVec 32 := 0#32
  let c1_i32_173 : BitVec 32 := 1#32
  let arg22 : BitVec 32 := Scf.iv c0_i32_171 c1_i32_173 k1_t16
  let v360 : Index := Scalar.indexCast arg22
  let c48_175 : Index := 48#32
  ![v360.toNat, 48]
@[reducible] def k1_t17_loop (v191 : BitVec 32) : Scf.Loop 32 :=
  let c0_i32_97 : BitVec 32 := 0#32
  let c128_i32_88 : BitVec 32 := 128#32
  let v192 : BitVec 32 := Scalar.addi v191 c128_i32_88
  let c1_i32_89 : BitVec 32 := 1#32
  let v193 : BitVec 32 := Scalar.subi v192 c1_i32_89
  let c0_i32_91 : BitVec 32 := 0#32
  let v195 : BitVec 1 := Scalar.cmpi .sgt v193 c0_i32_91
  let v196 : BitVec 32 := Scalar.extui v195
  let c0_i32_92 : BitVec 32 := 0#32
  let v197 : BitVec 1 := Scalar.cmpi .slt v193 c0_i32_92
  let v198 : BitVec 32 := Scalar.extui v197
  let v199 : BitVec 32 := Scalar.subi v196 v198
  let c128_i32_90 : BitVec 32 := 128#32
  let c0_i32_93 : BitVec 32 := 0#32
  let v200 : BitVec 1 := Scalar.cmpi .sgt c128_i32_90 c0_i32_93
  let v201 : BitVec 32 := Scalar.extui v200
  let c0_i32_94 : BitVec 32 := 0#32
  let v202 : BitVec 1 := Scalar.cmpi .slt c128_i32_90 c0_i32_94
  let v203 : BitVec 32 := Scalar.extui v202
  let v204 : BitVec 32 := Scalar.subi v201 v203
  let v205 : BitVec 1 := Scalar.cmpi .ne v199 v204
  let v206 : BitVec 32 := Scalar.remsi v193 c128_i32_90
  let c0_i32_95 : BitVec 32 := 0#32
  let v207 : BitVec 1 := Scalar.cmpi .ne v206 c0_i32_95
  let v208 : BitVec 1 := Scalar.andi v205 v207
  let v194 : BitVec 32 := Scalar.divsi v193 c128_i32_90
  let c1_i32_96 : BitVec 32 := 1#32
  let v209 : BitVec 32 := Scalar.subi v194 c1_i32_96
  let v210 : BitVec 32 := Scalar.select v208 v209 v194
  let v211 : BitVec 32 := Scalar.subi v210 c0_i32_97
  let c1_i32_98 : BitVec 32 := 1#32
  let v213 : BitVec 32 := Scalar.divsi v211 c1_i32_98
  let v214 : BitVec 32 := Scalar.muli v213 c1_i32_98
  let v215 : BitVec 32 := Scalar.addi c0_i32_97 v214
  let v212 : BitVec 32 := Scalar.addi c0_i32_97 v211
  let c1_i32_100 : BitVec 32 := 1#32
  ⟨v215, v212, c1_i32_100⟩
def k1_off20 (v191 : BitVec 32) (k1_t17 : Fin (k1_t17_loop v191).trips) : Fin 1 → Nat :=
  let c0_i32_97 : BitVec 32 := 0#32
  let c128_i32_88 : BitVec 32 := 128#32
  let v192 : BitVec 32 := Scalar.addi v191 c128_i32_88
  let c1_i32_89 : BitVec 32 := 1#32
  let v193 : BitVec 32 := Scalar.subi v192 c1_i32_89
  let c0_i32_91 : BitVec 32 := 0#32
  let v195 : BitVec 1 := Scalar.cmpi .sgt v193 c0_i32_91
  let v196 : BitVec 32 := Scalar.extui v195
  let c0_i32_92 : BitVec 32 := 0#32
  let v197 : BitVec 1 := Scalar.cmpi .slt v193 c0_i32_92
  let v198 : BitVec 32 := Scalar.extui v197
  let v199 : BitVec 32 := Scalar.subi v196 v198
  let c128_i32_90 : BitVec 32 := 128#32
  let c0_i32_93 : BitVec 32 := 0#32
  let v200 : BitVec 1 := Scalar.cmpi .sgt c128_i32_90 c0_i32_93
  let v201 : BitVec 32 := Scalar.extui v200
  let c0_i32_94 : BitVec 32 := 0#32
  let v202 : BitVec 1 := Scalar.cmpi .slt c128_i32_90 c0_i32_94
  let v203 : BitVec 32 := Scalar.extui v202
  let v204 : BitVec 32 := Scalar.subi v201 v203
  let v205 : BitVec 1 := Scalar.cmpi .ne v199 v204
  let v206 : BitVec 32 := Scalar.remsi v193 c128_i32_90
  let c0_i32_95 : BitVec 32 := 0#32
  let v207 : BitVec 1 := Scalar.cmpi .ne v206 c0_i32_95
  let v208 : BitVec 1 := Scalar.andi v205 v207
  let v194 : BitVec 32 := Scalar.divsi v193 c128_i32_90
  let c1_i32_96 : BitVec 32 := 1#32
  let v209 : BitVec 32 := Scalar.subi v194 c1_i32_96
  let v210 : BitVec 32 := Scalar.select v208 v209 v194
  let v211 : BitVec 32 := Scalar.subi v210 c0_i32_97
  let c1_i32_98 : BitVec 32 := 1#32
  let v213 : BitVec 32 := Scalar.divsi v211 c1_i32_98
  let v214 : BitVec 32 := Scalar.muli v213 c1_i32_98
  let v215 : BitVec 32 := Scalar.addi c0_i32_97 v214
  let c1_i32_100 : BitVec 32 := 1#32
  let arg20 : BitVec 32 := Scf.iv v215 c1_i32_100 k1_t17
  let c128_i32_166 : BitVec 32 := 128#32
  let v353 : BitVec 32 := Scalar.muli arg20 c128_i32_166
  ![v353.toNat]

def k1_chk12 (v191 : BitVec 32) : Prop :=
  ((k1_t15_loop v191).OK) ∧
  (∀ k1_t15 : Fin (k1_t15_loop v191).trips, ∀ a, (k1_off18 v191 k1_t15) a + S128.size a ≤ S6400.size a) ∧
  ((k1_t17_loop v191).OK) ∧
  (∀ k1_t17 : Fin (k1_t17_loop v191).trips, ∀ a, (k1_off20 v191 k1_t17) a + S128.size a ≤ S6400.size a)
theorem k1_t15_ok : ∀ (v191 : BitVec 32) (k1_hw12 : k1_chk12 v191), (k1_t15_loop v191).OK := fun v191 k1_hw12 => k1_hw12.1
theorem k1_off18_inb : ∀ (v191 : BitVec 32) (k1_hw12 : k1_chk12 v191) (k1_t15 : Fin (k1_t15_loop v191).trips), ∀ a, (k1_off18 v191 k1_t15) a + S128.size a ≤ S6400.size a := fun v191 k1_hw12 k1_t15 => k1_hw12.2.1 k1_t15
theorem k1_t17_ok : ∀ (v191 : BitVec 32) (k1_hw12 : k1_chk12 v191), (k1_t17_loop v191).OK := fun v191 k1_hw12 => k1_hw12.2.2.1
theorem k1_off20_inb : ∀ (v191 : BitVec 32) (k1_hw12 : k1_chk12 v191) (k1_t17 : Fin (k1_t17_loop v191).trips), ∀ a, (k1_off20 v191 k1_t17) a + S128.size a ≤ S6400.size a := fun v191 k1_hw12 k1_t17 => k1_hw12.2.2.2 k1_t17

@[reducible] def k1_t18_loop : Scf.Loop 32 :=
  let c0_i32_171 : BitVec 32 := 0#32
  let c128_i32_172 : BitVec 32 := 128#32
  let v358 : BitVec 32 := Scalar.addi c0_i32_171 c128_i32_172
  let c1_i32_173 : BitVec 32 := 1#32
  ⟨c0_i32_171, v358, c1_i32_173⟩
def k1_off21 (k1_t18 : Fin k1_t18_loop.trips) : Fin 2 → Nat :=
  let c0_i32_171 : BitVec 32 := 0#32
  let c1_i32_173 : BitVec 32 := 1#32
  let arg22 : BitVec 32 := Scf.iv c0_i32_171 c1_i32_173 k1_t18
  let v360 : Index := Scalar.indexCast arg22
  let c48_175 : Index := 48#32
  ![v360.toNat, 48]
@[reducible] def k1_t19_loop (v224 : BitVec 32) : Scf.Loop 32 :=
  let c0_i32_113 : BitVec 32 := 0#32
  let c128_i32_104 : BitVec 32 := 128#32
  let v225 : BitVec 32 := Scalar.addi v224 c128_i32_104
  let c1_i32_105 : BitVec 32 := 1#32
  let v226 : BitVec 32 := Scalar.subi v225 c1_i32_105
  let c0_i32_107 : BitVec 32 := 0#32
  let v228 : BitVec 1 := Scalar.cmpi .sgt v226 c0_i32_107
  let v229 : BitVec 32 := Scalar.extui v228
  let c0_i32_108 : BitVec 32 := 0#32
  let v230 : BitVec 1 := Scalar.cmpi .slt v226 c0_i32_108
  let v231 : BitVec 32 := Scalar.extui v230
  let v232 : BitVec 32 := Scalar.subi v229 v231
  let c128_i32_106 : BitVec 32 := 128#32
  let c0_i32_109 : BitVec 32 := 0#32
  let v233 : BitVec 1 := Scalar.cmpi .sgt c128_i32_106 c0_i32_109
  let v234 : BitVec 32 := Scalar.extui v233
  let c0_i32_110 : BitVec 32 := 0#32
  let v235 : BitVec 1 := Scalar.cmpi .slt c128_i32_106 c0_i32_110
  let v236 : BitVec 32 := Scalar.extui v235
  let v237 : BitVec 32 := Scalar.subi v234 v236
  let v238 : BitVec 1 := Scalar.cmpi .ne v232 v237
  let v239 : BitVec 32 := Scalar.remsi v226 c128_i32_106
  let c0_i32_111 : BitVec 32 := 0#32
  let v240 : BitVec 1 := Scalar.cmpi .ne v239 c0_i32_111
  let v241 : BitVec 1 := Scalar.andi v238 v240
  let v227 : BitVec 32 := Scalar.divsi v226 c128_i32_106
  let c1_i32_112 : BitVec 32 := 1#32
  let v242 : BitVec 32 := Scalar.subi v227 c1_i32_112
  let v243 : BitVec 32 := Scalar.select v241 v242 v227
  let v244 : BitVec 32 := Scalar.subi v243 c0_i32_113
  let c1_i32_114 : BitVec 32 := 1#32
  let v246 : BitVec 32 := Scalar.divsi v244 c1_i32_114
  let v247 : BitVec 32 := Scalar.muli v246 c1_i32_114
  let v248 : BitVec 32 := Scalar.addi c0_i32_113 v247
  let c1_i32_115 : BitVec 32 := 1#32
  ⟨c0_i32_113, v248, c1_i32_115⟩

def k1_off22 (v224 : BitVec 32) (k1_t19 : Fin (k1_t19_loop v224).trips) : Fin 1 → Nat :=
  let c0_i32_113 : BitVec 32 := 0#32
  let c1_i32_115 : BitVec 32 := 1#32
  let arg20 : BitVec 32 := Scf.iv c0_i32_113 c1_i32_115 k1_t19
  let c128_i32_166 : BitVec 32 := 128#32
  let v353 : BitVec 32 := Scalar.muli arg20 c128_i32_166
  ![v353.toNat]
@[reducible] def k1_t20_loop : Scf.Loop 32 :=
  let c0_i32_171 : BitVec 32 := 0#32
  let c128_i32_172 : BitVec 32 := 128#32
  let v358 : BitVec 32 := Scalar.addi c0_i32_171 c128_i32_172
  let c1_i32_173 : BitVec 32 := 1#32
  ⟨c0_i32_171, v358, c1_i32_173⟩
def k1_off23 (k1_t20 : Fin k1_t20_loop.trips) : Fin 2 → Nat :=
  let c0_i32_171 : BitVec 32 := 0#32
  let c1_i32_173 : BitVec 32 := 1#32
  let arg22 : BitVec 32 := Scf.iv c0_i32_171 c1_i32_173 k1_t20
  let v360 : Index := Scalar.indexCast arg22
  let c64_175 : Index := 64#32
  ![v360.toNat, 64]
@[reducible] def k1_t21_loop (v224 : BitVec 32) : Scf.Loop 32 :=
  let c0_i32_113 : BitVec 32 := 0#32
  let c128_i32_104 : BitVec 32 := 128#32
  let v225 : BitVec 32 := Scalar.addi v224 c128_i32_104
  let c1_i32_105 : BitVec 32 := 1#32
  let v226 : BitVec 32 := Scalar.subi v225 c1_i32_105
  let c0_i32_107 : BitVec 32 := 0#32
  let v228 : BitVec 1 := Scalar.cmpi .sgt v226 c0_i32_107
  let v229 : BitVec 32 := Scalar.extui v228
  let c0_i32_108 : BitVec 32 := 0#32
  let v230 : BitVec 1 := Scalar.cmpi .slt v226 c0_i32_108
  let v231 : BitVec 32 := Scalar.extui v230
  let v232 : BitVec 32 := Scalar.subi v229 v231
  let c128_i32_106 : BitVec 32 := 128#32
  let c0_i32_109 : BitVec 32 := 0#32
  let v233 : BitVec 1 := Scalar.cmpi .sgt c128_i32_106 c0_i32_109
  let v234 : BitVec 32 := Scalar.extui v233
  let c0_i32_110 : BitVec 32 := 0#32
  let v235 : BitVec 1 := Scalar.cmpi .slt c128_i32_106 c0_i32_110
  let v236 : BitVec 32 := Scalar.extui v235
  let v237 : BitVec 32 := Scalar.subi v234 v236
  let v238 : BitVec 1 := Scalar.cmpi .ne v232 v237
  let v239 : BitVec 32 := Scalar.remsi v226 c128_i32_106
  let c0_i32_111 : BitVec 32 := 0#32
  let v240 : BitVec 1 := Scalar.cmpi .ne v239 c0_i32_111
  let v241 : BitVec 1 := Scalar.andi v238 v240
  let v227 : BitVec 32 := Scalar.divsi v226 c128_i32_106
  let c1_i32_112 : BitVec 32 := 1#32
  let v242 : BitVec 32 := Scalar.subi v227 c1_i32_112
  let v243 : BitVec 32 := Scalar.select v241 v242 v227
  let v244 : BitVec 32 := Scalar.subi v243 c0_i32_113
  let c1_i32_114 : BitVec 32 := 1#32
  let v246 : BitVec 32 := Scalar.divsi v244 c1_i32_114
  let v247 : BitVec 32 := Scalar.muli v246 c1_i32_114
  let v248 : BitVec 32 := Scalar.addi c0_i32_113 v247
  let v245 : BitVec 32 := Scalar.addi c0_i32_113 v244
  let c1_i32_116 : BitVec 32 := 1#32
  ⟨v248, v245, c1_i32_116⟩
def k1_off24 (v224 : BitVec 32) (k1_t21 : Fin (k1_t21_loop v224).trips) : Fin 1 → Nat :=
  let c0_i32_113 : BitVec 32 := 0#32
  let c128_i32_104 : BitVec 32 := 128#32
  let v225 : BitVec 32 := Scalar.addi v224 c128_i32_104
  let c1_i32_105 : BitVec 32 := 1#32
  let v226 : BitVec 32 := Scalar.subi v225 c1_i32_105
  let c0_i32_107 : BitVec 32 := 0#32
  let v228 : BitVec 1 := Scalar.cmpi .sgt v226 c0_i32_107
  let v229 : BitVec 32 := Scalar.extui v228
  let c0_i32_108 : BitVec 32 := 0#32
  let v230 : BitVec 1 := Scalar.cmpi .slt v226 c0_i32_108
  let v231 : BitVec 32 := Scalar.extui v230
  let v232 : BitVec 32 := Scalar.subi v229 v231
  let c128_i32_106 : BitVec 32 := 128#32
  let c0_i32_109 : BitVec 32 := 0#32
  let v233 : BitVec 1 := Scalar.cmpi .sgt c128_i32_106 c0_i32_109
  let v234 : BitVec 32 := Scalar.extui v233
  let c0_i32_110 : BitVec 32 := 0#32
  let v235 : BitVec 1 := Scalar.cmpi .slt c128_i32_106 c0_i32_110
  let v236 : BitVec 32 := Scalar.extui v235
  let v237 : BitVec 32 := Scalar.subi v234 v236
  let v238 : BitVec 1 := Scalar.cmpi .ne v232 v237
  let v239 : BitVec 32 := Scalar.remsi v226 c128_i32_106
  let c0_i32_111 : BitVec 32 := 0#32
  let v240 : BitVec 1 := Scalar.cmpi .ne v239 c0_i32_111
  let v241 : BitVec 1 := Scalar.andi v238 v240
  let v227 : BitVec 32 := Scalar.divsi v226 c128_i32_106
  let c1_i32_112 : BitVec 32 := 1#32
  let v242 : BitVec 32 := Scalar.subi v227 c1_i32_112
  let v243 : BitVec 32 := Scalar.select v241 v242 v227
  let v244 : BitVec 32 := Scalar.subi v243 c0_i32_113
  let c1_i32_114 : BitVec 32 := 1#32
  let v246 : BitVec 32 := Scalar.divsi v244 c1_i32_114
  let v247 : BitVec 32 := Scalar.muli v246 c1_i32_114
  let v248 : BitVec 32 := Scalar.addi c0_i32_113 v247
  let c1_i32_116 : BitVec 32 := 1#32
  let arg20 : BitVec 32 := Scf.iv v248 c1_i32_116 k1_t21
  let c128_i32_166 : BitVec 32 := 128#32
  let v353 : BitVec 32 := Scalar.muli arg20 c128_i32_166
  ![v353.toNat]

def k1_chk13 (v224 : BitVec 32) : Prop :=
  ((k1_t19_loop v224).OK) ∧
  (∀ k1_t19 : Fin (k1_t19_loop v224).trips, ∀ a, (k1_off22 v224 k1_t19) a + S128.size a ≤ S6400.size a) ∧
  ((k1_t21_loop v224).OK) ∧
  (∀ k1_t21 : Fin (k1_t21_loop v224).trips, ∀ a, (k1_off24 v224 k1_t21) a + S128.size a ≤ S6400.size a)
theorem k1_t19_ok : ∀ (v224 : BitVec 32) (k1_hw13 : k1_chk13 v224), (k1_t19_loop v224).OK := fun v224 k1_hw13 => k1_hw13.1
theorem k1_off22_inb : ∀ (v224 : BitVec 32) (k1_hw13 : k1_chk13 v224) (k1_t19 : Fin (k1_t19_loop v224).trips), ∀ a, (k1_off22 v224 k1_t19) a + S128.size a ≤ S6400.size a := fun v224 k1_hw13 k1_t19 => k1_hw13.2.1 k1_t19
theorem k1_t21_ok : ∀ (v224 : BitVec 32) (k1_hw13 : k1_chk13 v224), (k1_t21_loop v224).OK := fun v224 k1_hw13 => k1_hw13.2.2.1
theorem k1_off24_inb : ∀ (v224 : BitVec 32) (k1_hw13 : k1_chk13 v224) (k1_t21 : Fin (k1_t21_loop v224).trips), ∀ a, (k1_off24 v224 k1_t21) a + S128.size a ≤ S6400.size a := fun v224 k1_hw13 k1_t21 => k1_hw13.2.2.2 k1_t21

@[reducible] def k1_t22_loop : Scf.Loop 32 :=
  let c0_i32_171 : BitVec 32 := 0#32
  let c128_i32_172 : BitVec 32 := 128#32
  let v358 : BitVec 32 := Scalar.addi c0_i32_171 c128_i32_172
  let c1_i32_173 : BitVec 32 := 1#32
  ⟨c0_i32_171, v358, c1_i32_173⟩
def k1_off25 (k1_t22 : Fin k1_t22_loop.trips) : Fin 2 → Nat :=
  let c0_i32_171 : BitVec 32 := 0#32
  let c1_i32_173 : BitVec 32 := 1#32
  let arg22 : BitVec 32 := Scf.iv c0_i32_171 c1_i32_173 k1_t22
  let v360 : Index := Scalar.indexCast arg22
  let c64_175 : Index := 64#32
  ![v360.toNat, 64]
@[reducible] def k1_t23_loop (v257 : BitVec 32) : Scf.Loop 32 :=
  let c0_i32_129 : BitVec 32 := 0#32
  let c128_i32_120 : BitVec 32 := 128#32
  let v258 : BitVec 32 := Scalar.addi v257 c128_i32_120
  let c1_i32_121 : BitVec 32 := 1#32
  let v259 : BitVec 32 := Scalar.subi v258 c1_i32_121
  let c0_i32_123 : BitVec 32 := 0#32
  let v261 : BitVec 1 := Scalar.cmpi .sgt v259 c0_i32_123
  let v262 : BitVec 32 := Scalar.extui v261
  let c0_i32_124 : BitVec 32 := 0#32
  let v263 : BitVec 1 := Scalar.cmpi .slt v259 c0_i32_124
  let v264 : BitVec 32 := Scalar.extui v263
  let v265 : BitVec 32 := Scalar.subi v262 v264
  let c128_i32_122 : BitVec 32 := 128#32
  let c0_i32_125 : BitVec 32 := 0#32
  let v266 : BitVec 1 := Scalar.cmpi .sgt c128_i32_122 c0_i32_125
  let v267 : BitVec 32 := Scalar.extui v266
  let c0_i32_126 : BitVec 32 := 0#32
  let v268 : BitVec 1 := Scalar.cmpi .slt c128_i32_122 c0_i32_126
  let v269 : BitVec 32 := Scalar.extui v268
  let v270 : BitVec 32 := Scalar.subi v267 v269
  let v271 : BitVec 1 := Scalar.cmpi .ne v265 v270
  let v272 : BitVec 32 := Scalar.remsi v259 c128_i32_122
  let c0_i32_127 : BitVec 32 := 0#32
  let v273 : BitVec 1 := Scalar.cmpi .ne v272 c0_i32_127
  let v274 : BitVec 1 := Scalar.andi v271 v273
  let v260 : BitVec 32 := Scalar.divsi v259 c128_i32_122
  let c1_i32_128 : BitVec 32 := 1#32
  let v275 : BitVec 32 := Scalar.subi v260 c1_i32_128
  let v276 : BitVec 32 := Scalar.select v274 v275 v260
  let v277 : BitVec 32 := Scalar.subi v276 c0_i32_129
  let c1_i32_130 : BitVec 32 := 1#32
  let v279 : BitVec 32 := Scalar.divsi v277 c1_i32_130
  let v280 : BitVec 32 := Scalar.muli v279 c1_i32_130
  let v281 : BitVec 32 := Scalar.addi c0_i32_129 v280
  let c1_i32_131 : BitVec 32 := 1#32
  ⟨c0_i32_129, v281, c1_i32_131⟩

def k1_off26 (v257 : BitVec 32) (k1_t23 : Fin (k1_t23_loop v257).trips) : Fin 1 → Nat :=
  let c0_i32_129 : BitVec 32 := 0#32
  let c1_i32_131 : BitVec 32 := 1#32
  let arg20 : BitVec 32 := Scf.iv c0_i32_129 c1_i32_131 k1_t23
  let c128_i32_166 : BitVec 32 := 128#32
  let v353 : BitVec 32 := Scalar.muli arg20 c128_i32_166
  ![v353.toNat]
@[reducible] def k1_t24_loop : Scf.Loop 32 :=
  let c0_i32_171 : BitVec 32 := 0#32
  let c128_i32_172 : BitVec 32 := 128#32
  let v358 : BitVec 32 := Scalar.addi c0_i32_171 c128_i32_172
  let c1_i32_173 : BitVec 32 := 1#32
  ⟨c0_i32_171, v358, c1_i32_173⟩
def k1_off27 (k1_t24 : Fin k1_t24_loop.trips) : Fin 2 → Nat :=
  let c0_i32_171 : BitVec 32 := 0#32
  let c1_i32_173 : BitVec 32 := 1#32
  let arg22 : BitVec 32 := Scf.iv c0_i32_171 c1_i32_173 k1_t24
  let v360 : Index := Scalar.indexCast arg22
  let c80_175 : Index := 80#32
  ![v360.toNat, 80]
@[reducible] def k1_t25_loop (v257 : BitVec 32) : Scf.Loop 32 :=
  let c0_i32_129 : BitVec 32 := 0#32
  let c128_i32_120 : BitVec 32 := 128#32
  let v258 : BitVec 32 := Scalar.addi v257 c128_i32_120
  let c1_i32_121 : BitVec 32 := 1#32
  let v259 : BitVec 32 := Scalar.subi v258 c1_i32_121
  let c0_i32_123 : BitVec 32 := 0#32
  let v261 : BitVec 1 := Scalar.cmpi .sgt v259 c0_i32_123
  let v262 : BitVec 32 := Scalar.extui v261
  let c0_i32_124 : BitVec 32 := 0#32
  let v263 : BitVec 1 := Scalar.cmpi .slt v259 c0_i32_124
  let v264 : BitVec 32 := Scalar.extui v263
  let v265 : BitVec 32 := Scalar.subi v262 v264
  let c128_i32_122 : BitVec 32 := 128#32
  let c0_i32_125 : BitVec 32 := 0#32
  let v266 : BitVec 1 := Scalar.cmpi .sgt c128_i32_122 c0_i32_125
  let v267 : BitVec 32 := Scalar.extui v266
  let c0_i32_126 : BitVec 32 := 0#32
  let v268 : BitVec 1 := Scalar.cmpi .slt c128_i32_122 c0_i32_126
  let v269 : BitVec 32 := Scalar.extui v268
  let v270 : BitVec 32 := Scalar.subi v267 v269
  let v271 : BitVec 1 := Scalar.cmpi .ne v265 v270
  let v272 : BitVec 32 := Scalar.remsi v259 c128_i32_122
  let c0_i32_127 : BitVec 32 := 0#32
  let v273 : BitVec 1 := Scalar.cmpi .ne v272 c0_i32_127
  let v274 : BitVec 1 := Scalar.andi v271 v273
  let v260 : BitVec 32 := Scalar.divsi v259 c128_i32_122
  let c1_i32_128 : BitVec 32 := 1#32
  let v275 : BitVec 32 := Scalar.subi v260 c1_i32_128
  let v276 : BitVec 32 := Scalar.select v274 v275 v260
  let v277 : BitVec 32 := Scalar.subi v276 c0_i32_129
  let c1_i32_130 : BitVec 32 := 1#32
  let v279 : BitVec 32 := Scalar.divsi v277 c1_i32_130
  let v280 : BitVec 32 := Scalar.muli v279 c1_i32_130
  let v281 : BitVec 32 := Scalar.addi c0_i32_129 v280
  let v278 : BitVec 32 := Scalar.addi c0_i32_129 v277
  let c1_i32_132 : BitVec 32 := 1#32
  ⟨v281, v278, c1_i32_132⟩
def k1_off28 (v257 : BitVec 32) (k1_t25 : Fin (k1_t25_loop v257).trips) : Fin 1 → Nat :=
  let c0_i32_129 : BitVec 32 := 0#32
  let c128_i32_120 : BitVec 32 := 128#32
  let v258 : BitVec 32 := Scalar.addi v257 c128_i32_120
  let c1_i32_121 : BitVec 32 := 1#32
  let v259 : BitVec 32 := Scalar.subi v258 c1_i32_121
  let c0_i32_123 : BitVec 32 := 0#32
  let v261 : BitVec 1 := Scalar.cmpi .sgt v259 c0_i32_123
  let v262 : BitVec 32 := Scalar.extui v261
  let c0_i32_124 : BitVec 32 := 0#32
  let v263 : BitVec 1 := Scalar.cmpi .slt v259 c0_i32_124
  let v264 : BitVec 32 := Scalar.extui v263
  let v265 : BitVec 32 := Scalar.subi v262 v264
  let c128_i32_122 : BitVec 32 := 128#32
  let c0_i32_125 : BitVec 32 := 0#32
  let v266 : BitVec 1 := Scalar.cmpi .sgt c128_i32_122 c0_i32_125
  let v267 : BitVec 32 := Scalar.extui v266
  let c0_i32_126 : BitVec 32 := 0#32
  let v268 : BitVec 1 := Scalar.cmpi .slt c128_i32_122 c0_i32_126
  let v269 : BitVec 32 := Scalar.extui v268
  let v270 : BitVec 32 := Scalar.subi v267 v269
  let v271 : BitVec 1 := Scalar.cmpi .ne v265 v270
  let v272 : BitVec 32 := Scalar.remsi v259 c128_i32_122
  let c0_i32_127 : BitVec 32 := 0#32
  let v273 : BitVec 1 := Scalar.cmpi .ne v272 c0_i32_127
  let v274 : BitVec 1 := Scalar.andi v271 v273
  let v260 : BitVec 32 := Scalar.divsi v259 c128_i32_122
  let c1_i32_128 : BitVec 32 := 1#32
  let v275 : BitVec 32 := Scalar.subi v260 c1_i32_128
  let v276 : BitVec 32 := Scalar.select v274 v275 v260
  let v277 : BitVec 32 := Scalar.subi v276 c0_i32_129
  let c1_i32_130 : BitVec 32 := 1#32
  let v279 : BitVec 32 := Scalar.divsi v277 c1_i32_130
  let v280 : BitVec 32 := Scalar.muli v279 c1_i32_130
  let v281 : BitVec 32 := Scalar.addi c0_i32_129 v280
  let c1_i32_132 : BitVec 32 := 1#32
  let arg20 : BitVec 32 := Scf.iv v281 c1_i32_132 k1_t25
  let c128_i32_166 : BitVec 32 := 128#32
  let v353 : BitVec 32 := Scalar.muli arg20 c128_i32_166
  ![v353.toNat]

def k1_chk14 (v257 : BitVec 32) : Prop :=
  ((k1_t23_loop v257).OK) ∧
  (∀ k1_t23 : Fin (k1_t23_loop v257).trips, ∀ a, (k1_off26 v257 k1_t23) a + S128.size a ≤ S6400.size a) ∧
  ((k1_t25_loop v257).OK) ∧
  (∀ k1_t25 : Fin (k1_t25_loop v257).trips, ∀ a, (k1_off28 v257 k1_t25) a + S128.size a ≤ S6400.size a)
theorem k1_t23_ok : ∀ (v257 : BitVec 32) (k1_hw14 : k1_chk14 v257), (k1_t23_loop v257).OK := fun v257 k1_hw14 => k1_hw14.1
theorem k1_off26_inb : ∀ (v257 : BitVec 32) (k1_hw14 : k1_chk14 v257) (k1_t23 : Fin (k1_t23_loop v257).trips), ∀ a, (k1_off26 v257 k1_t23) a + S128.size a ≤ S6400.size a := fun v257 k1_hw14 k1_t23 => k1_hw14.2.1 k1_t23
theorem k1_t25_ok : ∀ (v257 : BitVec 32) (k1_hw14 : k1_chk14 v257), (k1_t25_loop v257).OK := fun v257 k1_hw14 => k1_hw14.2.2.1
theorem k1_off28_inb : ∀ (v257 : BitVec 32) (k1_hw14 : k1_chk14 v257) (k1_t25 : Fin (k1_t25_loop v257).trips), ∀ a, (k1_off28 v257 k1_t25) a + S128.size a ≤ S6400.size a := fun v257 k1_hw14 k1_t25 => k1_hw14.2.2.2 k1_t25

@[reducible] def k1_t26_loop : Scf.Loop 32 :=
  let c0_i32_171 : BitVec 32 := 0#32
  let c128_i32_172 : BitVec 32 := 128#32
  let v358 : BitVec 32 := Scalar.addi c0_i32_171 c128_i32_172
  let c1_i32_173 : BitVec 32 := 1#32
  ⟨c0_i32_171, v358, c1_i32_173⟩
def k1_off29 (k1_t26 : Fin k1_t26_loop.trips) : Fin 2 → Nat :=
  let c0_i32_171 : BitVec 32 := 0#32
  let c1_i32_173 : BitVec 32 := 1#32
  let arg22 : BitVec 32 := Scf.iv c0_i32_171 c1_i32_173 k1_t26
  let v360 : Index := Scalar.indexCast arg22
  let c80_175 : Index := 80#32
  ![v360.toNat, 80]
@[reducible] def k1_t27_loop (v290 : BitVec 32) : Scf.Loop 32 :=
  let c0_i32_145 : BitVec 32 := 0#32
  let c128_i32_136 : BitVec 32 := 128#32
  let v291 : BitVec 32 := Scalar.addi v290 c128_i32_136
  let c1_i32_137 : BitVec 32 := 1#32
  let v292 : BitVec 32 := Scalar.subi v291 c1_i32_137
  let c0_i32_139 : BitVec 32 := 0#32
  let v294 : BitVec 1 := Scalar.cmpi .sgt v292 c0_i32_139
  let v295 : BitVec 32 := Scalar.extui v294
  let c0_i32_140 : BitVec 32 := 0#32
  let v296 : BitVec 1 := Scalar.cmpi .slt v292 c0_i32_140
  let v297 : BitVec 32 := Scalar.extui v296
  let v298 : BitVec 32 := Scalar.subi v295 v297
  let c128_i32_138 : BitVec 32 := 128#32
  let c0_i32_141 : BitVec 32 := 0#32
  let v299 : BitVec 1 := Scalar.cmpi .sgt c128_i32_138 c0_i32_141
  let v300 : BitVec 32 := Scalar.extui v299
  let c0_i32_142 : BitVec 32 := 0#32
  let v301 : BitVec 1 := Scalar.cmpi .slt c128_i32_138 c0_i32_142
  let v302 : BitVec 32 := Scalar.extui v301
  let v303 : BitVec 32 := Scalar.subi v300 v302
  let v304 : BitVec 1 := Scalar.cmpi .ne v298 v303
  let v305 : BitVec 32 := Scalar.remsi v292 c128_i32_138
  let c0_i32_143 : BitVec 32 := 0#32
  let v306 : BitVec 1 := Scalar.cmpi .ne v305 c0_i32_143
  let v307 : BitVec 1 := Scalar.andi v304 v306
  let v293 : BitVec 32 := Scalar.divsi v292 c128_i32_138
  let c1_i32_144 : BitVec 32 := 1#32
  let v308 : BitVec 32 := Scalar.subi v293 c1_i32_144
  let v309 : BitVec 32 := Scalar.select v307 v308 v293
  let v310 : BitVec 32 := Scalar.subi v309 c0_i32_145
  let c1_i32_146 : BitVec 32 := 1#32
  let v312 : BitVec 32 := Scalar.divsi v310 c1_i32_146
  let v313 : BitVec 32 := Scalar.muli v312 c1_i32_146
  let v314 : BitVec 32 := Scalar.addi c0_i32_145 v313
  let c1_i32_147 : BitVec 32 := 1#32
  ⟨c0_i32_145, v314, c1_i32_147⟩

def k1_off30 (v290 : BitVec 32) (k1_t27 : Fin (k1_t27_loop v290).trips) : Fin 1 → Nat :=
  let c0_i32_145 : BitVec 32 := 0#32
  let c1_i32_147 : BitVec 32 := 1#32
  let arg20 : BitVec 32 := Scf.iv c0_i32_145 c1_i32_147 k1_t27
  let c128_i32_166 : BitVec 32 := 128#32
  let v353 : BitVec 32 := Scalar.muli arg20 c128_i32_166
  ![v353.toNat]
@[reducible] def k1_t28_loop : Scf.Loop 32 :=
  let c0_i32_171 : BitVec 32 := 0#32
  let c128_i32_172 : BitVec 32 := 128#32
  let v358 : BitVec 32 := Scalar.addi c0_i32_171 c128_i32_172
  let c1_i32_173 : BitVec 32 := 1#32
  ⟨c0_i32_171, v358, c1_i32_173⟩
def k1_off31 (k1_t28 : Fin k1_t28_loop.trips) : Fin 2 → Nat :=
  let c0_i32_171 : BitVec 32 := 0#32
  let c1_i32_173 : BitVec 32 := 1#32
  let arg22 : BitVec 32 := Scf.iv c0_i32_171 c1_i32_173 k1_t28
  let v360 : Index := Scalar.indexCast arg22
  let c96_175 : Index := 96#32
  ![v360.toNat, 96]
@[reducible] def k1_t29_loop (v290 : BitVec 32) : Scf.Loop 32 :=
  let c0_i32_145 : BitVec 32 := 0#32
  let c128_i32_136 : BitVec 32 := 128#32
  let v291 : BitVec 32 := Scalar.addi v290 c128_i32_136
  let c1_i32_137 : BitVec 32 := 1#32
  let v292 : BitVec 32 := Scalar.subi v291 c1_i32_137
  let c0_i32_139 : BitVec 32 := 0#32
  let v294 : BitVec 1 := Scalar.cmpi .sgt v292 c0_i32_139
  let v295 : BitVec 32 := Scalar.extui v294
  let c0_i32_140 : BitVec 32 := 0#32
  let v296 : BitVec 1 := Scalar.cmpi .slt v292 c0_i32_140
  let v297 : BitVec 32 := Scalar.extui v296
  let v298 : BitVec 32 := Scalar.subi v295 v297
  let c128_i32_138 : BitVec 32 := 128#32
  let c0_i32_141 : BitVec 32 := 0#32
  let v299 : BitVec 1 := Scalar.cmpi .sgt c128_i32_138 c0_i32_141
  let v300 : BitVec 32 := Scalar.extui v299
  let c0_i32_142 : BitVec 32 := 0#32
  let v301 : BitVec 1 := Scalar.cmpi .slt c128_i32_138 c0_i32_142
  let v302 : BitVec 32 := Scalar.extui v301
  let v303 : BitVec 32 := Scalar.subi v300 v302
  let v304 : BitVec 1 := Scalar.cmpi .ne v298 v303
  let v305 : BitVec 32 := Scalar.remsi v292 c128_i32_138
  let c0_i32_143 : BitVec 32 := 0#32
  let v306 : BitVec 1 := Scalar.cmpi .ne v305 c0_i32_143
  let v307 : BitVec 1 := Scalar.andi v304 v306
  let v293 : BitVec 32 := Scalar.divsi v292 c128_i32_138
  let c1_i32_144 : BitVec 32 := 1#32
  let v308 : BitVec 32 := Scalar.subi v293 c1_i32_144
  let v309 : BitVec 32 := Scalar.select v307 v308 v293
  let v310 : BitVec 32 := Scalar.subi v309 c0_i32_145
  let c1_i32_146 : BitVec 32 := 1#32
  let v312 : BitVec 32 := Scalar.divsi v310 c1_i32_146
  let v313 : BitVec 32 := Scalar.muli v312 c1_i32_146
  let v314 : BitVec 32 := Scalar.addi c0_i32_145 v313
  let v311 : BitVec 32 := Scalar.addi c0_i32_145 v310
  let c1_i32_148 : BitVec 32 := 1#32
  ⟨v314, v311, c1_i32_148⟩
def k1_off32 (v290 : BitVec 32) (k1_t29 : Fin (k1_t29_loop v290).trips) : Fin 1 → Nat :=
  let c0_i32_145 : BitVec 32 := 0#32
  let c128_i32_136 : BitVec 32 := 128#32
  let v291 : BitVec 32 := Scalar.addi v290 c128_i32_136
  let c1_i32_137 : BitVec 32 := 1#32
  let v292 : BitVec 32 := Scalar.subi v291 c1_i32_137
  let c0_i32_139 : BitVec 32 := 0#32
  let v294 : BitVec 1 := Scalar.cmpi .sgt v292 c0_i32_139
  let v295 : BitVec 32 := Scalar.extui v294
  let c0_i32_140 : BitVec 32 := 0#32
  let v296 : BitVec 1 := Scalar.cmpi .slt v292 c0_i32_140
  let v297 : BitVec 32 := Scalar.extui v296
  let v298 : BitVec 32 := Scalar.subi v295 v297
  let c128_i32_138 : BitVec 32 := 128#32
  let c0_i32_141 : BitVec 32 := 0#32
  let v299 : BitVec 1 := Scalar.cmpi .sgt c128_i32_138 c0_i32_141
  let v300 : BitVec 32 := Scalar.extui v299
  let c0_i32_142 : BitVec 32 := 0#32
  let v301 : BitVec 1 := Scalar.cmpi .slt c128_i32_138 c0_i32_142
  let v302 : BitVec 32 := Scalar.extui v301
  let v303 : BitVec 32 := Scalar.subi v300 v302
  let v304 : BitVec 1 := Scalar.cmpi .ne v298 v303
  let v305 : BitVec 32 := Scalar.remsi v292 c128_i32_138
  let c0_i32_143 : BitVec 32 := 0#32
  let v306 : BitVec 1 := Scalar.cmpi .ne v305 c0_i32_143
  let v307 : BitVec 1 := Scalar.andi v304 v306
  let v293 : BitVec 32 := Scalar.divsi v292 c128_i32_138
  let c1_i32_144 : BitVec 32 := 1#32
  let v308 : BitVec 32 := Scalar.subi v293 c1_i32_144
  let v309 : BitVec 32 := Scalar.select v307 v308 v293
  let v310 : BitVec 32 := Scalar.subi v309 c0_i32_145
  let c1_i32_146 : BitVec 32 := 1#32
  let v312 : BitVec 32 := Scalar.divsi v310 c1_i32_146
  let v313 : BitVec 32 := Scalar.muli v312 c1_i32_146
  let v314 : BitVec 32 := Scalar.addi c0_i32_145 v313
  let c1_i32_148 : BitVec 32 := 1#32
  let arg20 : BitVec 32 := Scf.iv v314 c1_i32_148 k1_t29
  let c128_i32_166 : BitVec 32 := 128#32
  let v353 : BitVec 32 := Scalar.muli arg20 c128_i32_166
  ![v353.toNat]

def k1_chk15 (v290 : BitVec 32) : Prop :=
  ((k1_t27_loop v290).OK) ∧
  (∀ k1_t27 : Fin (k1_t27_loop v290).trips, ∀ a, (k1_off30 v290 k1_t27) a + S128.size a ≤ S6400.size a) ∧
  ((k1_t29_loop v290).OK) ∧
  (∀ k1_t29 : Fin (k1_t29_loop v290).trips, ∀ a, (k1_off32 v290 k1_t29) a + S128.size a ≤ S6400.size a)
theorem k1_t27_ok : ∀ (v290 : BitVec 32) (k1_hw15 : k1_chk15 v290), (k1_t27_loop v290).OK := fun v290 k1_hw15 => k1_hw15.1
theorem k1_off30_inb : ∀ (v290 : BitVec 32) (k1_hw15 : k1_chk15 v290) (k1_t27 : Fin (k1_t27_loop v290).trips), ∀ a, (k1_off30 v290 k1_t27) a + S128.size a ≤ S6400.size a := fun v290 k1_hw15 k1_t27 => k1_hw15.2.1 k1_t27
theorem k1_t29_ok : ∀ (v290 : BitVec 32) (k1_hw15 : k1_chk15 v290), (k1_t29_loop v290).OK := fun v290 k1_hw15 => k1_hw15.2.2.1
theorem k1_off32_inb : ∀ (v290 : BitVec 32) (k1_hw15 : k1_chk15 v290) (k1_t29 : Fin (k1_t29_loop v290).trips), ∀ a, (k1_off32 v290 k1_t29) a + S128.size a ≤ S6400.size a := fun v290 k1_hw15 k1_t29 => k1_hw15.2.2.2 k1_t29

@[reducible] def k1_t30_loop : Scf.Loop 32 :=
  let c0_i32_171 : BitVec 32 := 0#32
  let c128_i32_172 : BitVec 32 := 128#32
  let v358 : BitVec 32 := Scalar.addi c0_i32_171 c128_i32_172
  let c1_i32_173 : BitVec 32 := 1#32
  ⟨c0_i32_171, v358, c1_i32_173⟩
def k1_off33 (k1_t30 : Fin k1_t30_loop.trips) : Fin 2 → Nat :=
  let c0_i32_171 : BitVec 32 := 0#32
  let c1_i32_173 : BitVec 32 := 1#32
  let arg22 : BitVec 32 := Scf.iv c0_i32_171 c1_i32_173 k1_t30
  let v360 : Index := Scalar.indexCast arg22
  let c96_175 : Index := 96#32
  ![v360.toNat, 96]
@[reducible] def k1_t31_loop (v323 : BitVec 32) : Scf.Loop 32 :=
  let c0_i32_161 : BitVec 32 := 0#32
  let c128_i32_152 : BitVec 32 := 128#32
  let v324 : BitVec 32 := Scalar.addi v323 c128_i32_152
  let c1_i32_153 : BitVec 32 := 1#32
  let v325 : BitVec 32 := Scalar.subi v324 c1_i32_153
  let c0_i32_155 : BitVec 32 := 0#32
  let v327 : BitVec 1 := Scalar.cmpi .sgt v325 c0_i32_155
  let v328 : BitVec 32 := Scalar.extui v327
  let c0_i32_156 : BitVec 32 := 0#32
  let v329 : BitVec 1 := Scalar.cmpi .slt v325 c0_i32_156
  let v330 : BitVec 32 := Scalar.extui v329
  let v331 : BitVec 32 := Scalar.subi v328 v330
  let c128_i32_154 : BitVec 32 := 128#32
  let c0_i32_157 : BitVec 32 := 0#32
  let v332 : BitVec 1 := Scalar.cmpi .sgt c128_i32_154 c0_i32_157
  let v333 : BitVec 32 := Scalar.extui v332
  let c0_i32_158 : BitVec 32 := 0#32
  let v334 : BitVec 1 := Scalar.cmpi .slt c128_i32_154 c0_i32_158
  let v335 : BitVec 32 := Scalar.extui v334
  let v336 : BitVec 32 := Scalar.subi v333 v335
  let v337 : BitVec 1 := Scalar.cmpi .ne v331 v336
  let v338 : BitVec 32 := Scalar.remsi v325 c128_i32_154
  let c0_i32_159 : BitVec 32 := 0#32
  let v339 : BitVec 1 := Scalar.cmpi .ne v338 c0_i32_159
  let v340 : BitVec 1 := Scalar.andi v337 v339
  let v326 : BitVec 32 := Scalar.divsi v325 c128_i32_154
  let c1_i32_160 : BitVec 32 := 1#32
  let v341 : BitVec 32 := Scalar.subi v326 c1_i32_160
  let v342 : BitVec 32 := Scalar.select v340 v341 v326
  let v343 : BitVec 32 := Scalar.subi v342 c0_i32_161
  let c1_i32_162 : BitVec 32 := 1#32
  let v345 : BitVec 32 := Scalar.divsi v343 c1_i32_162
  let v346 : BitVec 32 := Scalar.muli v345 c1_i32_162
  let v347 : BitVec 32 := Scalar.addi c0_i32_161 v346
  let c1_i32_163 : BitVec 32 := 1#32
  ⟨c0_i32_161, v347, c1_i32_163⟩

def k1_off34 (v323 : BitVec 32) (k1_t31 : Fin (k1_t31_loop v323).trips) : Fin 1 → Nat :=
  let c0_i32_161 : BitVec 32 := 0#32
  let c1_i32_163 : BitVec 32 := 1#32
  let arg20 : BitVec 32 := Scf.iv c0_i32_161 c1_i32_163 k1_t31
  let c128_i32_166 : BitVec 32 := 128#32
  let v353 : BitVec 32 := Scalar.muli arg20 c128_i32_166
  ![v353.toNat]
@[reducible] def k1_t32_loop : Scf.Loop 32 :=
  let c0_i32_171 : BitVec 32 := 0#32
  let c128_i32_172 : BitVec 32 := 128#32
  let v358 : BitVec 32 := Scalar.addi c0_i32_171 c128_i32_172
  let c1_i32_173 : BitVec 32 := 1#32
  ⟨c0_i32_171, v358, c1_i32_173⟩
def k1_off35 (k1_t32 : Fin k1_t32_loop.trips) : Fin 2 → Nat :=
  let c0_i32_171 : BitVec 32 := 0#32
  let c1_i32_173 : BitVec 32 := 1#32
  let arg22 : BitVec 32 := Scf.iv c0_i32_171 c1_i32_173 k1_t32
  let v360 : Index := Scalar.indexCast arg22
  let c112_175 : Index := 112#32
  ![v360.toNat, 112]
@[reducible] def k1_t33_loop (v323 : BitVec 32) : Scf.Loop 32 :=
  let c0_i32_161 : BitVec 32 := 0#32
  let c128_i32_152 : BitVec 32 := 128#32
  let v324 : BitVec 32 := Scalar.addi v323 c128_i32_152
  let c1_i32_153 : BitVec 32 := 1#32
  let v325 : BitVec 32 := Scalar.subi v324 c1_i32_153
  let c0_i32_155 : BitVec 32 := 0#32
  let v327 : BitVec 1 := Scalar.cmpi .sgt v325 c0_i32_155
  let v328 : BitVec 32 := Scalar.extui v327
  let c0_i32_156 : BitVec 32 := 0#32
  let v329 : BitVec 1 := Scalar.cmpi .slt v325 c0_i32_156
  let v330 : BitVec 32 := Scalar.extui v329
  let v331 : BitVec 32 := Scalar.subi v328 v330
  let c128_i32_154 : BitVec 32 := 128#32
  let c0_i32_157 : BitVec 32 := 0#32
  let v332 : BitVec 1 := Scalar.cmpi .sgt c128_i32_154 c0_i32_157
  let v333 : BitVec 32 := Scalar.extui v332
  let c0_i32_158 : BitVec 32 := 0#32
  let v334 : BitVec 1 := Scalar.cmpi .slt c128_i32_154 c0_i32_158
  let v335 : BitVec 32 := Scalar.extui v334
  let v336 : BitVec 32 := Scalar.subi v333 v335
  let v337 : BitVec 1 := Scalar.cmpi .ne v331 v336
  let v338 : BitVec 32 := Scalar.remsi v325 c128_i32_154
  let c0_i32_159 : BitVec 32 := 0#32
  let v339 : BitVec 1 := Scalar.cmpi .ne v338 c0_i32_159
  let v340 : BitVec 1 := Scalar.andi v337 v339
  let v326 : BitVec 32 := Scalar.divsi v325 c128_i32_154
  let c1_i32_160 : BitVec 32 := 1#32
  let v341 : BitVec 32 := Scalar.subi v326 c1_i32_160
  let v342 : BitVec 32 := Scalar.select v340 v341 v326
  let v343 : BitVec 32 := Scalar.subi v342 c0_i32_161
  let c1_i32_162 : BitVec 32 := 1#32
  let v345 : BitVec 32 := Scalar.divsi v343 c1_i32_162
  let v346 : BitVec 32 := Scalar.muli v345 c1_i32_162
  let v347 : BitVec 32 := Scalar.addi c0_i32_161 v346
  let v344 : BitVec 32 := Scalar.addi c0_i32_161 v343
  let c1_i32_164 : BitVec 32 := 1#32
  ⟨v347, v344, c1_i32_164⟩
def k1_off36 (v323 : BitVec 32) (k1_t33 : Fin (k1_t33_loop v323).trips) : Fin 1 → Nat :=
  let c0_i32_161 : BitVec 32 := 0#32
  let c128_i32_152 : BitVec 32 := 128#32
  let v324 : BitVec 32 := Scalar.addi v323 c128_i32_152
  let c1_i32_153 : BitVec 32 := 1#32
  let v325 : BitVec 32 := Scalar.subi v324 c1_i32_153
  let c0_i32_155 : BitVec 32 := 0#32
  let v327 : BitVec 1 := Scalar.cmpi .sgt v325 c0_i32_155
  let v328 : BitVec 32 := Scalar.extui v327
  let c0_i32_156 : BitVec 32 := 0#32
  let v329 : BitVec 1 := Scalar.cmpi .slt v325 c0_i32_156
  let v330 : BitVec 32 := Scalar.extui v329
  let v331 : BitVec 32 := Scalar.subi v328 v330
  let c128_i32_154 : BitVec 32 := 128#32
  let c0_i32_157 : BitVec 32 := 0#32
  let v332 : BitVec 1 := Scalar.cmpi .sgt c128_i32_154 c0_i32_157
  let v333 : BitVec 32 := Scalar.extui v332
  let c0_i32_158 : BitVec 32 := 0#32
  let v334 : BitVec 1 := Scalar.cmpi .slt c128_i32_154 c0_i32_158
  let v335 : BitVec 32 := Scalar.extui v334
  let v336 : BitVec 32 := Scalar.subi v333 v335
  let v337 : BitVec 1 := Scalar.cmpi .ne v331 v336
  let v338 : BitVec 32 := Scalar.remsi v325 c128_i32_154
  let c0_i32_159 : BitVec 32 := 0#32
  let v339 : BitVec 1 := Scalar.cmpi .ne v338 c0_i32_159
  let v340 : BitVec 1 := Scalar.andi v337 v339
  let v326 : BitVec 32 := Scalar.divsi v325 c128_i32_154
  let c1_i32_160 : BitVec 32 := 1#32
  let v341 : BitVec 32 := Scalar.subi v326 c1_i32_160
  let v342 : BitVec 32 := Scalar.select v340 v341 v326
  let v343 : BitVec 32 := Scalar.subi v342 c0_i32_161
  let c1_i32_162 : BitVec 32 := 1#32
  let v345 : BitVec 32 := Scalar.divsi v343 c1_i32_162
  let v346 : BitVec 32 := Scalar.muli v345 c1_i32_162
  let v347 : BitVec 32 := Scalar.addi c0_i32_161 v346
  let c1_i32_164 : BitVec 32 := 1#32
  let arg20 : BitVec 32 := Scf.iv v347 c1_i32_164 k1_t33
  let c128_i32_166 : BitVec 32 := 128#32
  let v353 : BitVec 32 := Scalar.muli arg20 c128_i32_166
  ![v353.toNat]

def k1_chk16 (v323 : BitVec 32) : Prop :=
  ((k1_t31_loop v323).OK) ∧
  (∀ k1_t31 : Fin (k1_t31_loop v323).trips, ∀ a, (k1_off34 v323 k1_t31) a + S128.size a ≤ S6400.size a) ∧
  ((k1_t33_loop v323).OK) ∧
  (∀ k1_t33 : Fin (k1_t33_loop v323).trips, ∀ a, (k1_off36 v323 k1_t33) a + S128.size a ≤ S6400.size a)
theorem k1_t31_ok : ∀ (v323 : BitVec 32) (k1_hw16 : k1_chk16 v323), (k1_t31_loop v323).OK := fun v323 k1_hw16 => k1_hw16.1
theorem k1_off34_inb : ∀ (v323 : BitVec 32) (k1_hw16 : k1_chk16 v323) (k1_t31 : Fin (k1_t31_loop v323).trips), ∀ a, (k1_off34 v323 k1_t31) a + S128.size a ≤ S6400.size a := fun v323 k1_hw16 k1_t31 => k1_hw16.2.1 k1_t31
theorem k1_t33_ok : ∀ (v323 : BitVec 32) (k1_hw16 : k1_chk16 v323), (k1_t33_loop v323).OK := fun v323 k1_hw16 => k1_hw16.2.2.1
theorem k1_off36_inb : ∀ (v323 : BitVec 32) (k1_hw16 : k1_chk16 v323) (k1_t33 : Fin (k1_t33_loop v323).trips), ∀ a, (k1_off36 v323 k1_t33) a + S128.size a ≤ S6400.size a := fun v323 k1_hw16 k1_t33 => k1_hw16.2.2.2 k1_t33

@[reducible] def k1_t34_loop : Scf.Loop 32 :=
  let c0_i32_171 : BitVec 32 := 0#32
  let c128_i32_172 : BitVec 32 := 128#32
  let v358 : BitVec 32 := Scalar.addi c0_i32_171 c128_i32_172
  let c1_i32_173 : BitVec 32 := 1#32
  ⟨c0_i32_171, v358, c1_i32_173⟩
def k1_off37 (k1_t34 : Fin k1_t34_loop.trips) : Fin 2 → Nat :=
  let c0_i32_171 : BitVec 32 := 0#32
  let c1_i32_173 : BitVec 32 := 1#32
  let arg22 : BitVec 32 := Scf.iv c0_i32_171 c1_i32_173 k1_t34
  let v360 : Index := Scalar.indexCast arg22
  let c112_175 : Index := 112#32
  ![v360.toNat, 112]
def k1_off38 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v351 : BitVec 32 := Scalar.muli v1 c8_i32
  let c16_i32 : BitVec 32 := 16#32
  let v352 : BitVec 32 := Scalar.muli v351 c16_i32
  ![v352.toNat]
abbrev grid2 : Pipeline.Grid := .none

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4096x1 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S4096x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S204800 : Shape := ⟨1, ![204800]⟩
abbrev S4096 : Shape := ⟨1, ![4096]⟩
abbrev S1000000x64 : Shape := ⟨2, ![1000000, 64]⟩
abbrev S16x64 : Shape := ⟨2, ![16, 64]⟩
abbrev S16 : Shape := ⟨1, ![16]⟩
abbrev S1x4096 : Shape := ⟨2, ![1, 4096]⟩
abbrev S204800x1 : Shape := ⟨2, ![204800, 1]⟩
abbrev S204800x4096 : Shape := ⟨2, ![204800, 4096]⟩
abbrev S_ : Shape := ⟨0, ![]⟩
abbrev S1 : Shape := ⟨1, ![1]⟩
abbrev S1x1 : Shape := ⟨2, ![1, 1]⟩
abbrev S204800x64 : Shape := ⟨2, ![204800, 64]⟩
abbrev S4096x64 : Shape := ⟨2, ![4096, 64]⟩
abbrev S4096x1 : Shape := ⟨2, ![4096, 1]⟩
abbrev S64x16 : Shape := ⟨2, ![64, 16]⟩
abbrev S4096x16 : Shape := ⟨2, ![4096, 16]⟩
abbrev S1x16 : Shape := ⟨2, ![1, 16]⟩

abbrev nBuf : Space → Nat
  | .hbm => 61
  | .vmem => 0
  | .smem => 0
  | _ => 0

abbrev bufTy : (tb : Table) → Fin (tcTables nBuf tb) → BufTy
  | .hbm, ⟨0, _⟩ => ⟨S204800, .i32⟩
  | .hbm, ⟨1, _⟩ => ⟨S4096, .i32⟩
  | .hbm, ⟨2, _⟩ => ⟨S1000000x64, .f32⟩
  | .hbm, ⟨3, _⟩ => ⟨S16x64, .f32⟩
  | .hbm, ⟨4, _⟩ => ⟨S16, .f32⟩
  | .hbm, ⟨5, _⟩ => ⟨S1x4096, .i32⟩
  | .hbm, ⟨6, _⟩ => ⟨S204800, .i32⟩
  | .hbm, ⟨7, _⟩ => ⟨S204800x1, .i32⟩
  | .hbm, ⟨8, _⟩ => ⟨S204800x4096, .i32⟩
  | .hbm, ⟨9, _⟩ => ⟨S204800x4096, .i32⟩
  | .hbm, ⟨10, _⟩ => ⟨S204800x4096, .i1⟩
  | .hbm, ⟨11, _⟩ => ⟨S204800x4096, .i32⟩
  | .hbm, ⟨12, _⟩ => ⟨S_, .i32⟩
  | .hbm, ⟨13, _⟩ => ⟨S204800, .i32⟩
  | .hbm, ⟨14, _⟩ => ⟨S_, .i32⟩
  | .hbm, ⟨15, _⟩ => ⟨S204800, .i32⟩
  | .hbm, ⟨16, _⟩ => ⟨S204800, .i32⟩
  | .hbm, ⟨17, _⟩ => ⟨S_, .i32⟩
  | .hbm, ⟨18, _⟩ => ⟨S204800, .i32⟩
  | .hbm, ⟨19, _⟩ => ⟨S204800, .i1⟩
  | .hbm, ⟨20, _⟩ => ⟨S_, .i32⟩
  | .hbm, ⟨21, _⟩ => ⟨S204800, .i32⟩
  | .hbm, ⟨22, _⟩ => ⟨S204800, .i32⟩
  | .hbm, ⟨23, _⟩ => ⟨S204800, .i32⟩
  | .hbm, ⟨24, _⟩ => ⟨S204800x1, .i32⟩
  | .hbm, ⟨25, _⟩ => ⟨S1, .i32⟩
  | .hbm, ⟨26, _⟩ => ⟨S_, .i32⟩
  | .hbm, ⟨27, _⟩ => ⟨S204800x1, .i32⟩
  | .hbm, ⟨28, _⟩ => ⟨S204800x1, .i1⟩
  | .hbm, ⟨29, _⟩ => ⟨S1x1, .i32⟩
  | .hbm, ⟨30, _⟩ => ⟨S204800x1, .i32⟩
  | .hbm, ⟨31, _⟩ => ⟨S204800x1, .i1⟩
  | .hbm, ⟨32, _⟩ => ⟨S204800x1, .i1⟩
  | .hbm, ⟨33, _⟩ => ⟨S_, .i1⟩
  | .hbm, ⟨34, _⟩ => ⟨S204800, .i1⟩
  | .hbm, ⟨35, _⟩ => ⟨S204800x64, .f32⟩
  | .hbm, ⟨36, _⟩ => ⟨S204800x64, .i1⟩
  | .hbm, ⟨37, _⟩ => ⟨S_, .f32⟩
  | .hbm, ⟨38, _⟩ => ⟨S204800x64, .f32⟩
  | .hbm, ⟨39, _⟩ => ⟨S204800x64, .f32⟩
  | .hbm, ⟨40, _⟩ => ⟨S_, .f32⟩
  | .hbm, ⟨41, _⟩ => ⟨S4096x64, .f32⟩
  | .hbm, ⟨42, _⟩ => ⟨S204800x1, .i32⟩
  | .hbm, ⟨43, _⟩ => ⟨S4096x64, .f32⟩
  | .hbm, ⟨44, _⟩ => ⟨S_, .f32⟩
  | .hbm, ⟨45, _⟩ => ⟨S204800, .f32⟩
  | .hbm, ⟨46, _⟩ => ⟨S_, .f32⟩
  | .hbm, ⟨47, _⟩ => ⟨S4096, .f32⟩
  | .hbm, ⟨48, _⟩ => ⟨S204800x1, .i32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096x1, .f32⟩
  | .hbm, ⟨54, _⟩ => ⟨S4096x64, .f32⟩
  | .hbm, ⟨55, _⟩ => ⟨S4096x64, .f32⟩
  | .hbm, ⟨56, _⟩ => ⟨S64x16, .f32⟩
  | .hbm, ⟨57, _⟩ => ⟨S4096x16, .f32⟩
  | .hbm, ⟨58, _⟩ => ⟨S1x16, .f32⟩
  | .hbm, ⟨59, _⟩ => ⟨S4096x16, .f32⟩
  | .hbm, ⟨60, _⟩ => ⟨S4096x16, .f32⟩
  | _, _ => ⟨S204800, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_1 : Ref sig .tc := ⟨.hbm, 44, rfl⟩
abbrev main_v14 : Ref sig .tc := ⟨.hbm, 45, rfl⟩
abbrev main_cst_2 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩

abbrev nD : Nat := 1
abbrev τ : Topo := Topo.v7x

variable {F : FTy → Type} [FloatOps F]
-- ==== Proof.Words.lean ====
/-
  The words of the tile task, apart from any memory: the row and the lane group of a token, the running counts that the
  prefix sum gives, what a masked scatter does to an index list, and how many chunks of 128 a list takes.
-/
module

public import proofs.«01_k».proof.Defs
public import Idealize.ShloMosaic.Lib.Tactic
public import proofs.«01_k».proof.Proof.Gen.KernelIdeal
public import proofs.«01_k».proof.Proof.Gen.KernelIdeal.Skeleton

@[expose] public section

noncomputable section

namespace Cert.Proof.Words

open Cert.KernelIdeal Cert.KernelIdeal.Gen
open Idealize.ShloMosaic

variable {F : FTy → Type} [FloatOps F]

/-! ## A token's row and lane group -/

/-- The row of the packed table that a token reads. -/
def rowW (v : BitVec 32) : BitVec 32 := ((v >>> 10#32) <<< 7#32) ||| (v &&& 127#32)
/-- The lane group of that row that is the token's. -/
def subW (v : BitVec 32) : BitVec 32 := (v >>> 7#32) &&& 7#32
/-- The row that entry `n` of an index list names before any token is appended: a zero row. -/
def padW (wid n : ℕ) : BitVec 32 := 125952#32 + ((BitVec.ofNat 32 n + BitVec.ofNat 32 wid) &&& 127#32)

theorem and127 (v : BitVec 32) : (v &&& 127#32).toNat = v.toNat % 128 := by
  rw [BitVec.toNat_and]; exact Nat.and_two_pow_sub_one_eq_mod _ 7

theorem subW_toNat (v : BitVec 32) : (subW v).toNat = v.toNat / 128 % 8 := by
  unfold subW
  rw [BitVec.toNat_and, BitVec.ushiftRight_eq', BitVec.toNat_ushiftRight, Nat.shiftRight_eq_div_pow]
  exact Nat.and_two_pow_sub_one_eq_mod _ 3

theorem rowW_toNat (v : BitVec 32) (h : v.toNat < 1000000) : (rowW v).toNat = v.toNat / 1024 * 128 + v.toNat % 128 := by
  unfold rowW
  have hs : ((v >>> 10#32) <<< 7#32).toNat = v.toNat / 1024 * 128 := by
    rw [BitVec.shiftLeft_eq', BitVec.toNat_shiftLeft, BitVec.ushiftRight_eq', BitVec.toNat_ushiftRight, Nat.shiftRight_eq_div_pow,
      Nat.shiftLeft_eq]
    exact Nat.mod_eq_of_lt (by show v.toNat / 2 ^ 10 * 2 ^ 7 < 2 ^ 32; omega)
  rw [BitVec.toNat_or, hs, and127]
  have := Nat.two_pow_add_eq_or_of_lt (i := 7) (b := v.toNat % 128) (by omega) (v.toNat / 1024)
  rw [show v.toNat / 1024 * 128 = 2 ^ 7 * (v.toNat / 1024) by omega]
  exact this.symm

theorem rowW_lt (v : BitVec 32) (h : v.toNat < 1000000) : (rowW v).toNat < 125056 := by rw [rowW_toNat v h]; omega

theorem padW_toNat (wid n : ℕ) : 125952 ≤ (padW wid n).toNat ∧ (padW wid n).toNat < 126080 := by
  unfold padW
  have h := and127 (BitVec.ofNat 32 n + BitVec.ofNat 32 wid)
  rw [BitVec.toNat_add, h]; constructor
  · show 125952 ≤ (125952 + _) % 2 ^ 32; omega
  · show (125952 + _) % 2 ^ 32 < 126080; omega

/-! ## The lanes -/

abbrev ln (k : Fin 16) : S16.Idx := Shape.ofLane (d := ![16]) k

theorem ln_surj (x : S16.Idx) : ∃ k, x = ln k := ⟨x 0, by funext a; match a with | 0 => rfl⟩

/-- Ones where the mask holds. -/
def onesV (mask : IVec S16 1) : IVec S16 32 := fun x => if mask x = 1#1 then 1#32 else 0#32

/-- How many of the lanes below `n` the mask holds at. -/
def cntTo (mask : IVec S16 1) (n : ℕ) : ℕ := ((List.finRange 16).take n).countP fun k => mask (ln k) = 1#1

theorem foldl_ones (mask : IVec S16 1) (l : List (Fin 16)) (a : BitVec 32) :
    l.foldl (fun r k => r + onesV mask (ln k)) a = a + BitVec.ofNat 32 (l.countP fun k => mask (ln k) = 1#1) := by
  induction l generalizing a with
  | nil => simp
  | cons x l ih =>
    rw [List.foldl_cons, ih, List.countP_cons]
    unfold onesV
    by_cases h : mask (ln x) = 1#1
    · simp only [h, ↓reduceIte, decide_true]; rw [Nat.add_comm, BitVec.ofNat_add]; exact BitVec.add_assoc _ _ _
    · simp [h]

theorem scan_ones (mask : IVec S16 1) (i : Fin 16) : scan .sum (onesV mask) (ln i) = BitVec.ofNat 32 (cntTo mask (i.val + 1)) := by
  have hl : (List.finRange 16).take (i.val + 1) = 0 :: ((List.finRange 16).filter fun k => decide (0 < k.val ∧ k.val ≤ i.val)) := by
    revert i; decide
  unfold cntTo
  rw [hl]
  have h := foldl_ones mask (0 :: ((List.finRange 16).filter fun k => decide (0 < k.val ∧ k.val ≤ i.val))) 0#32
  rw [BitVec.zero_add, List.foldl_cons, BitVec.zero_add] at h
  exact h

theorem cntTo_succ (mask : IVec S16 1) (i : Fin 16) : cntTo mask (i.val + 1) = cntTo mask i.val + if mask (ln i) = 1#1 then 1 else 0 := by
  unfold cntTo
  have : (List.finRange 16).take (i.val + 1) = (List.finRange 16).take i.val ++ [i] := by revert i; decide
  rw [this, List.countP_append, List.countP_singleton]; simp

theorem cntTo_le (mask : IVec S16 1) (n : ℕ) : cntTo mask n ≤ 16 :=
  (List.countP_le_length).trans ((List.length_take_le' n _).trans (by simp))

theorem cntTo_le' (mask : IVec S16 1) (n : ℕ) : cntTo mask n ≤ n :=
  (List.countP_le_length).trans (List.length_take_le n _)

/-- The index vector of a masked scatter that appends at position `c`: the running count at the lanes of the mask, zero elsewhere. -/
def idxV (mask : IVec S16 1) (c : BitVec 32) : IVec S16 32 :=
  fun x => if mask x = 1#1 then c + scan .sum (onesV mask) x - 1#32 else 0#32

theorem idxV_of (mask : IVec S16 1) (n : ℕ) (hn : n ≤ 6400) (k : Fin 16) (h : mask (ln k) = 1#1) :
    (idxV mask (BitVec.ofNat 32 n) (ln k)).toNat = n + cntTo mask k.val := by
  unfold idxV
  rw [if_pos h, scan_ones, cntTo_succ, if_pos h]
  have := cntTo_le mask k.val
  rw [BitVec.ofNat_add (cntTo mask k.val) 1]
  rw [show BitVec.ofNat 32 n + (BitVec.ofNat 32 (cntTo mask k.val) + BitVec.ofNat 32 1) - 1#32 = BitVec.ofNat 32 n + BitVec.ofNat 32 (cntTo mask k.val) from by
    rw [← BitVec.add_assoc]; exact BitVec.add_sub_cancel _ _, ← BitVec.ofNat_add, BitVec.toNat_ofNat]
  omega

theorem idxV_lt (mask : IVec S16 1) (n : ℕ) (hn : n + 16 ≤ 6400) (x : S16.Idx) : (idxV mask (BitVec.ofNat 32 n) x).toNat < 6400 := by
  obtain ⟨k, rfl⟩ := ln_surj x
  by_cases h : mask (ln k) = 1#1
  · rw [idxV_of mask n (by omega) k h]
    have := cntTo_le' mask k.val; have := k.isLt; omega
  · unfold idxV; rw [if_neg h]; decide

/-! ## What a scatter does to an index list -/

/-- The buffer `f` holds the list `L`, and from its end on the padding `pad`. -/
def Fills (L : List (BitVec 32)) (pad : ℕ → BitVec 32) (f : S6400.Idx → BitVec 32) : Prop :=
  ∀ j : S6400.Idx, f j = (L[(j 0).val]?).getD (pad (j 0).val)

/-- The values at the lanes of the mask, in order. -/
def picks (mask : IVec S16 1) (val : IVec S16 32) (l : List (Fin 16)) : List (BitVec 32) :=
  (l.filter fun k => mask (ln k) = 1#1).map fun k => val (ln k)

theorem picks_length (mask : IVec S16 1) (val : IVec S16 32) (n : ℕ) : (picks mask val ((List.finRange 16).take n)).length = cntTo mask n := by
  unfold picks cntTo; rw [List.length_map, List.countP_eq_length_filter]

theorem Fills.append {L : List (BitVec 32)} {pad : ℕ → BitVec 32} {f : S6400.Idx → BitVec 32} (h : Fills L pad f) (v : BitVec 32) (p : ℕ)
    (hp : p = L.length) : Fills (L ++ [v]) pad fun j => if (j 0).val = p then v else f j := by
  intro j
  show (if (j 0).val = p then v else f j) = _
  subst hp
  by_cases e : (j 0).val = L.length
  · rw [if_pos e, e]; simp
  · rw [if_neg e, h j]
    rcases Nat.lt_or_gt_of_ne e with e' | e'
    · rw [List.getElem?_append_left e']
    · rw [List.getElem?_eq_none (l := L) (by omega), List.getElem?_eq_none (by simp; omega)]

/-- A masked scatter at the running counts appends the picked values. -/
theorem Fills.storeIdx {L : List (BitVec 32)} {pad : ℕ → BitVec 32} {f : S6400.Idx → BitVec 32} (h : Fills L pad f) (mask : IVec S16 1)
    (val idx : IVec S16 32) (hidx : ∀ k, mask (ln k) = 1#1 → (idx (ln k)).toNat = L.length + cntTo mask k.val)
    (hb : ∀ a x, ((![idx] : Fin 1 → IVec S16 32) a x).toNat < S6400.size a) :
    Fills (L ++ picks mask val (List.finRange 16)) pad (storeIdx (F := F) (e := .i32) f ![idx] val mask false hb) := by
  have key : ∀ n ≤ 16, Fills (L ++ picks mask val ((List.finRange 16).take n)) pad
      (((List.finRange 16).take n).foldl (fun g k =>
        if mask (ln k) = 1#1 then
          fun j => if (∀ a, (j a).val = (idxAt (s := S6400) ![idx] hb (ln k) a).val) then val (ln k) else g j
        else g) f) := by
    intro n hn
    induction n with
    | zero => simpa [picks] using h
    | succ n ih =>
      have ih := ih (by omega)
      have e : (List.finRange 16).take (n + 1) = (List.finRange 16).take n ++ [(⟨n, by omega⟩ : Fin 16)] := by
        have : ∀ k : Fin 16, (List.finRange 16).take (k.val + 1) = (List.finRange 16).take k.val ++ [k] := by decide
        exact this ⟨n, by omega⟩
      rw [e, List.foldl_append, List.foldl_cons, List.foldl_nil]
      by_cases hm : mask (ln ⟨n, by omega⟩) = 1#1
      · rw [if_pos hm]
        have hp : picks mask val ((List.finRange 16).take n ++ [(⟨n, by omega⟩ : Fin 16)])
            = picks mask val ((List.finRange 16).take n) ++ [val (ln ⟨n, by omega⟩)] := by
          unfold picks; rw [List.filter_append, List.map_append]; simp [hm]
        rw [hp, ← List.append_assoc]
        have hq := ih.append (val (ln ⟨n, by omega⟩)) ((idx (ln ⟨n, by omega⟩)).toNat)
          (by rw [List.length_append, picks_length, hidx _ hm])
        intro j
        rw [← hq j]
        have : (∀ a, (j a).val = (idxAt (s := S6400) ![idx] hb (ln ⟨n, by omega⟩) a).val) ↔ (j 0).val = (idx (ln ⟨n, by omega⟩)).toNat :=
          ⟨fun h => h 0, fun h a => by match a with | 0 => exact h⟩
        simp only [this]
      · rw [if_neg hm]
        have hp : picks mask val ((List.finRange 16).take n ++ [(⟨n, by omega⟩ : Fin 16)]) = picks mask val ((List.finRange 16).take n) := by
          unfold picks; rw [List.filter_append, List.map_append]; simp [hm]
        rw [hp]; exact ih
  have := key 16 (le_refl _)
  rw [show (List.finRange 16).take 16 = List.finRange 16 by decide] at this
  unfold Idealize.ShloMosaic.storeIdx
  simp only [Bool.false_eq_true, if_false]
  exact this

/-! ## The list of one lane group -/

/-- The rows of the tokens below `m` that belong to lane group `k`, in order. -/
def rowsOf (tok : ℕ → BitVec 32) (k : ℕ) (m : ℕ) : List (BitVec 32) :=
  (((List.range m).map tok).filter fun v => (subW v).toNat = k).map rowW

theorem rowsOf_zero (tok : ℕ → BitVec 32) (k : ℕ) : rowsOf tok k 0 = [] := rfl

theorem rowsOf_length_le (tok : ℕ → BitVec 32) (k m : ℕ) : (rowsOf tok k m).length ≤ m := by
  unfold rowsOf; rw [List.length_map]; exact (List.length_filter_le _ _).trans (by simp)

theorem rowsOf_add16 (tok : ℕ → BitVec 32) (k m : ℕ) (mask : IVec S16 1) (val : IVec S16 32)
    (hm : ∀ x : Fin 16, mask (ln x) = 1#1 ↔ (subW (tok (m + x.val))).toNat = k) (hv : ∀ x : Fin 16, val (ln x) = rowW (tok (m + x.val))) :
    rowsOf tok k (m + 16) = rowsOf tok k m ++ picks mask val (List.finRange 16) := by
  unfold rowsOf picks
  rw [List.range_add, List.map_append, List.filter_append, List.map_append]
  congr 1
  rw [show List.range 16 = (List.finRange 16).map Fin.val by decide, List.map_map, List.map_map, List.filter_map, List.map_map]
  rw [show (List.finRange 16).filter ((fun v => decide ((subW v).toNat = k)) ∘ ((tok ∘ fun x => m + x) ∘ Fin.val))
    = (List.finRange 16).filter fun x => mask (ln x) = 1#1 from List.filter_congr fun x _ => by
      simp only [Function.comp_apply, decide_eq_decide]; exact (hm x).symm]
  exact List.map_congr_left fun x _ => (hv x).symm

theorem mem_rowsOf {tok : ℕ → BitVec 32} {k m : ℕ} {w : BitVec 32} (h : w ∈ rowsOf tok k m) : ∃ n < m, w = rowW (tok n) ∧ (subW (tok n)).toNat = k := by
  unfold rowsOf at h
  rw [List.mem_map] at h
  obtain ⟨v, hv, rfl⟩ := h
  rw [List.mem_filter, List.mem_map] at hv
  obtain ⟨⟨n, hn, rfl⟩, hk⟩ := hv
  exact ⟨n, List.mem_range.mp hn, rfl, by simpa using hk⟩

/-- Every entry of a list names a row of the table. -/
theorem Fills.lt {tok : ℕ → BitVec 32} {k m wid : ℕ} {f : S6400.Idx → BitVec 32} (h : Fills (rowsOf tok k m) (padW wid) f)
    (ht : ∀ n < m, (tok n).toNat < 1000000) (j : S6400.Idx) : (f j).toNat < 126976 := by
  rw [h j]
  cases e : (rowsOf tok k m)[(j 0).val]? with
  | none => exact lt_trans (padW_toNat wid _).2 (by decide)
  | some w =>
    obtain ⟨n, hn, rfl, -⟩ := mem_rowsOf (List.mem_of_getElem? e)
    exact lt_trans (rowW_lt _ (ht n hn)) (by decide)

/-! ## The words the task computes -/

theorem maxui_self (a : BitVec 32) : IntOp.maxui a a = a := by unfold IntOp.maxui; split <;> rfl

theorem foldl_max (a : BitVec 32) (l : List (Fin 16)) : l.foldl (fun r _ => ScanKind.max.step r a) a = a := by
  induction l with
  | nil => rfl
  | cons x l ih => rw [List.foldl_cons, show ScanKind.max.step a a = a from maxui_self a]; exact ih

theorem xor_xor (a b : BitVec 32) : (a ^^^ b) ^^^ b = a := by rw [BitVec.xor_assoc, BitVec.xor_self, BitVec.xor_zero]

/-- The largest of sixteen equal counts is the count. -/
theorem lane15_max (c : BitVec 32) : extractAt ![15] (k1_pay41 fun _ => c) inpos_S16_p15 = c := by
  have : scan .max (fun _ : S16.Idx => c ^^^ 2147483648#32) = fun _ => c ^^^ 2147483648#32 := by
    funext i; exact foldl_max _ _
  show (scan .max (fun _ : S16.Idx => c ^^^ 2147483648#32) _) ^^^ 2147483648#32 = c
  rw [this]; exact xor_xor _ _

/-! ## The same, as the kernel prints them -/

/-- Where a token of lane group `k` stands among sixteen. -/
def maskV (k : BitVec 32) (v : IVec S16 32) : IVec S16 1 := fun x => if subW (v x) = k then 1#1 else 0#1

theorem maskV_iff (k : ℕ) (hk : k < 8) (v : IVec S16 32) (x : S16.Idx) : maskV (BitVec.ofNat 32 k) v x = 1#1 ↔ (subW (v x)).toNat = k := by
  unfold maskV
  constructor
  · intro h
    by_cases e : subW (v x) = BitVec.ofNat 32 k
    · rw [e, BitVec.toNat_ofNat]; omega
    · rw [if_neg e] at h; exact absurd h (by decide)
  · intro h
    rw [if_pos (BitVec.eq_of_toNat_eq (by rw [h, BitVec.toNat_ofNat]; omega))]

theorem pay1_eq (v : Vec F S16 .i32) : k1_pay1 v = fun x => rowW (v x) := rfl

theorem cmpi_eq (k : BitVec 32) (v : Vec F S16 .i32) : cmpi .eq (k1_pay2 v) (broadcast S16 k) = maskV k v := by
  funext x
  show BitVec.ofBool (subW (v x) == k) = if subW (v x) = k then 1#1 else 0#1
  by_cases e : subW (v x) = k
  · rw [if_pos e, e, beq_self_eq_true]; rfl
  · rw [if_neg e, beq_eq_false_iff_ne.mpr e]; rfl

theorem sel_eq (mask : IVec S16 1) : select mask k1_pay38 k1_pay37 = onesV mask := by funext x; rfl

/-- The printed index vector at a constant count, over any mask. -/
theorem idx_eq (mask : IVec S16 1) (c : BitVec 32) :
    select mask (subi (addi (fun _ => c) (scan .sum (select mask k1_pay38 k1_pay37))) (broadcast S16 1#32)) k1_pay37 = idxV mask c := by
  rw [sel_eq]; funext x; rfl

theorem lane15 (v : IVec S16 32) : extractAt ![15] v inpos_S16_p15 = v (ln 15) :=
  congrArg v (funext fun a => by match a with | 0 => rfl)

theorem scan_last (mask : IVec S16 1) : scan .sum (onesV mask) (ln 15) = BitVec.ofNat 32 (cntTo mask 16) := scan_ones mask 15

/-- The printed next count at a constant count, over any mask. -/
theorem cnt_eq (mask : IVec S16 1) (n : ℕ) :
    addi (fun _ : S16.Idx => BitVec.ofNat 32 n) (broadcast S16 (extractAt ![15] (scan .sum (select mask k1_pay38 k1_pay37)) inpos_S16_p15))
      = fun _ => BitVec.ofNat 32 (n + cntTo mask 16) := by
  rw [sel_eq, lane15, scan_last, BitVec.ofNat_add]; rfl

end Cert.Proof.Words

end
-- ==== Proof.Common.lean ====
/-
  The set-up that every module of the proof shares: the program as the launch theorem sees it, the resource algebra, the
  tile task's buffers by name, and what the tile task computes, written on words and on elements alone.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Words

@[expose] public section

noncomputable section

namespace Cert.Proof

open Cert.KernelIdeal Cert.KernelIdeal.Gen
open Idealize.ShloMosaic
open Idealize.ShloMosaic.SparseCore (S V T)
open Idealize.SL Idealize.SL.RA Idealize.SL.BI
open Idealize.SL.Sem
open Idealize.ShloMosaic.Rounds
open Cert.Proof.Words

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

/-! ## The tile task's operands -/

abbrev cV (L : grid1.Coords) : Fin τ.nSC := (L 0).castLE hcore1
abbrev jV (L : grid1.Coords) : Fin τ.nSub := (L 1).castLE hsub1
/-- The task's number among the thirty-two. -/
abbrev wid (L : grid1.Coords) : ℕ := 2 * (L 1).val + (L 0).val
/-- The task's thread. -/
abbrev thr (d : Dev nD) (L : grid1.Coords) : Thread nD τ := V d (cV L) (jV L)

theorem wid_lt (L : grid1.Coords) : wid L < 32 := by
  have h0 : (L 0).val < 2 := (L 0).isLt
  have h1 : (L 1).val < 16 := (L 1).isLt
  show 2 * (L 1).val + (L 0).val < 32; omega

abbrev txV : Memref sig .scVector .hbm S204800 .i32 := Memref.whole main_arg0_scv
abbrev tabV : Memref sig .scVector .hbm S126976x128 .f32 := Memref.whole main_v35_scv
abbrev sgV : Memref sig .scVector .hbm S4096x128 .f32 := Memref.whole main_v36_0_scv
abbrev ptV : Memref sig .scVector .hbm S4096 .f32 := Memref.whole main_v36_1_scv
abbrev iaV : Memref sig .scVector .vmem S128 .i32 := Memref.whole cc1_scratch0
abbrev raV : Memref sig .scVector .vmem S128x128 .f32 := Memref.whole cc1_scratch1
abbrev ibV : Memref sig .scVector .vmem S6272 .i32 := Memref.whole cc1_scratch2
abbrev g0V : Memref sig .scVector .vmem S6400 .i32 := Memref.whole cc1_scratch3
abbrev g1V : Memref sig .scVector .vmem S6400 .i32 := Memref.whole cc1_scratch4
abbrev g2V : Memref sig .scVector .vmem S6400 .i32 := Memref.whole cc1_scratch5
abbrev g3V : Memref sig .scVector .vmem S6400 .i32 := Memref.whole cc1_scratch6
abbrev g4V : Memref sig .scVector .vmem S6400 .i32 := Memref.whole cc1_scratch7
abbrev g5V : Memref sig .scVector .vmem S6400 .i32 := Memref.whole cc1_scratch8
abbrev g6V : Memref sig .scVector .vmem S6400 .i32 := Memref.whole cc1_scratch9
abbrev g7V : Memref sig .scVector .vmem S6400 .i32 := Memref.whole cc1_scratch10
abbrev rbV : Memref sig .scVector .vmem S128x128 .f32 := Memref.whole cc1_scratch11
abbrev acV : Memref sig .scVector .vmem S128 .f32 := Memref.whole cc1_scratch12
/-- The whole table, as the gathers name it. -/
abbrev tabS : Memref sig .scVector .hbm S126976x128 .f32 :=
  tabV.slice (Rect.unit (s := S126976x128) ![0, 0] S126976x128.size inb_S126976x128_S126976x128_0_0) (fun _ => rfl)

theorem hwhole {b : Ref sig .scVector} : (Memref.whole b).IsWhole := Memref.isWhole_whole _

/-! ## What the task computes -/

/-- Position `n` of the text. -/
def ixT (n : ℕ) : S204800.Idx := fun | ⟨0, _⟩ => ⟨n % 204800, Nat.mod_lt _ (by decide)⟩
/-- Position `n` of an index list. -/
def ixG (n : ℕ) : S6400.Idx := fun | ⟨0, _⟩ => ⟨n % 6400, Nat.mod_lt _ (by decide)⟩
/-- Row `r`, lane `c` of the packed table. -/
def ixP (r c : ℕ) : S126976x128.Idx := fun
  | ⟨0, _⟩ => ⟨r % 126976, Nat.mod_lt _ (by decide)⟩
  | ⟨1, _⟩ => ⟨c % 128, Nat.mod_lt _ (by decide)⟩

/-- The rows that `B` names, their lanes `o … o + 15` added up from zero in order, the first `n` of them. -/
def accTo [FloatOps F] (G : S126976x128.Idx → F .f32) (B : ℕ → ℕ) (o : ℕ) : ℕ → FVec F S16 .f32
  | 0 => fun _ => Scalar.ofBits .f32 0x00000000#32
  | n + 1 => fun x => FloatOps.addf (accTo G B o n x) (G (ixP (B n) (o + (x 0).val)))

/-- Token `n` of the task's share of the last bag. -/
def tok (T : S204800.Idx → BitVec 32) (w n : ℕ) : BitVec 32 := T (ixT (4096 + 6272 * w + n))

/-- Entry `n` of the task's index list of lane group `k`. -/
def entry (T : S204800.Idx → BitVec 32) (w k n : ℕ) : BitVec 32 := ((rowsOf (tok T w) k 6272)[n]?).getD (padW w n)

/-- How many tokens of the task's share are in lane group `k`. -/
def cntK (T : S204800.Idx → BitVec 32) (w k : ℕ) : ℕ := (rowsOf (tok T w) k 6272).length

/-- How many chunks of 128 that takes. -/
def chunksK (T : S204800.Idx → BitVec 32) (w k : ℕ) : ℕ := (cntK T w k + 127) / 128

theorem cntK_le (T : S204800.Idx → BitVec 32) (w k : ℕ) : cntK T w k ≤ 6272 := rowsOf_length_le _ _ _

/-- Lane group `k`'s sums of the task. -/
def groupV [FloatOps F] (G : S126976x128.Idx → F .f32) (T : S204800.Idx → BitVec 32) (w k : ℕ) : FVec F S16 .f32 :=
  accTo G (fun n => (entry T w k n).toNat) (16 * k) (128 * chunksK T w k)

end Cert.Proof

end
-- ==== Proof.Counts.lean ====
/-
  How many chunks of 128 a list of at most 6272 entries takes, as the kernel's loop bounds compute it: the trip counts of
  the two loops of a lane group, and that every chunk lies in the index buffer.
-/
module

public import proofs.«01_k».proof.Defs
public import Idealize.ShloMosaic.Lib.Tactic
public import proofs.«01_k».proof.Proof.Gen.KernelIdeal
public import proofs.«01_k».proof.Proof.Gen.KernelIdeal.Skeleton

@[expose] public section

noncomputable section

namespace Cert.Proof.Counts

open Cert.KernelIdeal Cert.KernelIdeal.Gen
open Idealize.ShloMosaic

/-- The number of chunks of 128 that a list of `n` entries takes. -/
def chunks (n : ℕ) : ℕ := (n + 127) / 128

theorem loop_trips (n : ℕ) (h : n ≤ 6272) : (k1_t3_loop (BitVec.ofNat 32 n)).trips = chunks n := by
  have : ∀ n : Fin 6273, (k1_t3_loop (BitVec.ofNat 32 n.val)).trips = chunks n.val := by decide +kernel
  exact this ⟨n, by omega⟩

theorem loop5_trips (n : ℕ) (h : n ≤ 6272) : (k1_t5_loop (BitVec.ofNat 32 n)).trips = 0 := by
  have : ∀ n : Fin 6273, (k1_t5_loop (BitVec.ofNat 32 n.val)).trips = 0 := by decide +kernel
  exact this ⟨n, by omega⟩

theorem chunks_le (n : ℕ) (h : n ≤ 6272) : chunks n ≤ 49 := by unfold chunks; omega

theorem off6_eq (v : BitVec 32) (t : Fin (k1_t3_loop v).trips) (h : t.val < 50) : k1_off6 v t = ![t.val * 128] := by
  have : ∀ k : Fin 50, (BitVec.toNat (Scf.iv 0#32 1#32 k.val * 128#32)) = k.val * 128 := by decide
  exact congrArg (fun x => ![x]) (this ⟨t.val, h⟩)

theorem chk9 (n : ℕ) (h : n ≤ 6272) : k1_chk9 (BitVec.ofNat 32 n) := by
  have hok : ∀ n : Fin 6273, (k1_t3_loop (BitVec.ofNat 32 n.val)).OK ∧ (k1_t5_loop (BitVec.ofNat 32 n.val)).OK := by decide +kernel
  have ht := loop_trips n h
  have ht5 := loop5_trips n h
  have hc := chunks_le n h
  refine ⟨(hok ⟨n, by omega⟩).1, fun t a => ?_, (hok ⟨n, by omega⟩).2, fun t => absurd t.isLt (Nat.not_lt.mpr (ht5.le.trans (Nat.zero_le _)))⟩
  have hl : t.val < 49 := lt_of_lt_of_le t.isLt (ht.le.trans hc)
  rw [off6_eq _ t (by omega)]
  match a with | 0 => show t.val * 128 + 128 ≤ 6400; omega

end Cert.Proof.Counts

end
-- ==== Proof.Chunks.lean ====
/-
  One lane group's chunks: for each chunk of 128 entries of its index list the task gathers the rows the entries name and
  adds their sixteen lanes up, row by row. Stated once over any index list, lane offset and loop body of that form, and
  used at the eight lane groups.
-/
module

public import proofs.«01_k».proof.Proof.Common
public import proofs.«01_k».proof.Proof.Counts
public import Idealize.ShloMosaic.Lib.Pipeline.Value

@[expose] public section

noncomputable section

namespace Cert.Proof.Chunks

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words Cert.Proof.Counts

variable {F : FTy → Type} [FloatOps F]

local notation "𝕄" => MT nD τ sig (HIx 1) (Elt F) ℕ UU ℕ

/-! ## Reading the rows -/

/-- The gathered rows: entry `(r, c)` is lane `c` of the row that word `r` of the list names. -/
theorem gather_apply (G : S126976x128.Idx → F .f32) (w : S128.Idx → BitVec 32) (hin : ∀ x, (w x).toNat < S126976x128.size gathers_S126976x128_S128x128.axis)
    (hn : S128.numel = S128x128.size gathers_S126976x128_S128x128.axis') (j : S128x128.Idx) :
    SparseCore.gatherPayload (F := F) (e := .f32) gathers_S126976x128_S128x128 G (SparseCore.rows (F := F) w hn hin) j
      = G (ixP (w (fun | ⟨0, _⟩ => j 0)).toNat (j 1).val) := by
  unfold SparseCore.gatherPayload
  congr 1
  funext b
  match b with
  | ⟨0, _⟩ =>
    apply Fin.ext
    have h := congrArg Fin.val (Shape.Gathers.idx_axis gathers_S126976x128_S128x128 (SparseCore.rows (F := F) w hn hin) j)
    have hx : (S128.rowMajor.symm ((j gathers_S126976x128_S128x128.axis').cast hn.symm)) = (fun | ⟨0, _⟩ => j 0 : S128.Idx) := by
      rw [Equiv.symm_apply_eq]
      apply Fin.ext
      exact (Shape.rowMajor_val_one (d := ![128]) (fun | ⟨0, _⟩ => j 0)).symm
    refine h.trans ?_
    show (w (S128.rowMajor.symm ((j gathers_S126976x128_S128x128.axis').cast hn.symm))).toNat = (w (fun | ⟨0, _⟩ => j 0)).toNat % 126976
    rw [hx]
    exact (Nat.mod_eq_of_lt (hin _)).symm
  | ⟨1, _⟩ =>
    apply Fin.ext
    have h := Shape.Gathers.idx_of_ne gathers_S126976x128_S128x128 (SparseCore.rows (F := F) w hn hin) j ⟨1, by decide⟩ (by decide)
    refine h.trans ?_
    show (j 1).val = (j 1).val % 128
    exact (Nat.mod_eq_of_lt (j 1).isLt).symm

theorem tabS_read (G : S126976x128.Idx → F .f32) : (tabS).view.read (Elt F) G = G := by
  funext x
  show G ((Rect.unit (s := S126976x128) ![0, 0] S126976x128.size inb_S126976x128_S126976x128_0_0).emb x) = G x
  congr 1
  funext a
  apply Fin.ext
  rw [Rect.emb_apply]
  match a with
  | ⟨0, _⟩ => show 0 + 1 * (x 0).val = (x 0).val; omega
  | ⟨1, _⟩ => show 0 + 1 * (x 1).val = (x 1).val; omega

/-- Lane `x` of a row of sixteen lanes. -/
def ixL (x : S16.Idx) : S1x16.Idx := fun | ⟨0, _⟩ => ⟨0, Nat.zero_lt_one⟩ | ⟨1, _⟩ => x 0

/-- The sixteen lanes from `o` of row `t`, as the row step adds them. -/
theorem row_step (acc : FVec F S16 .f32) (ld : Vec F S1x16 .f32) (v : FVec F S16 .f32)
    (h : ∀ x : S16.Idx, v x = FloatOps.addf (acc x) (ld (ixL x))) : k1_pay42 acc ld = v := by
  funext x
  rw [h x]
  show FloatOps.addf (acc x) (shapeCast S16 ld shapeCasts_S1x16_S16 x) = _
  rw [shapeCast_apply ld shapeCasts_S1x16_S16 x (ixL x)]
  rw [Shape.rowMajor_val_one, Shape.rowMajor_val_two]
  show 0 * 16 + (x 0).val = (x 0).val
  omega

/-! ## One chunk and all chunks -/

section Loop

variable (d : Dev nD) (L : grid1.Coords)

/-- The row step's body at lane offset given by `off`. -/
def rowBody (off : Fin k1_t4_loop.trips → Fin 2 → ℕ) (inb : ∀ t, ∀ a, off t a + S1x16.size a ≤ S128x128.size a) :
    Fin k1_t4_loop.trips → FVec F S16 .f32 → Prog (TpuEff nD τ sig (Elt F) Λ₀ (.scVector (cV L) (jV L))) (FVec F S16 .f32) :=
  fun t acc => do
    let ld : Vec F S1x16 .f32 ← Prog.lift (.load rbV (Rect.unit (s := S128x128) (off t) S1x16.size (inb t)).toLoadRect (View.loadsAt_vmem h_S1x16))
    pure (k1_pay42 acc ld)

/-- One chunk: the gather of the rows its 128 entries name, its wait, the row steps. -/
def chunkBody (g : Memref sig .scVector .vmem S6400 .i32) (off : Fin k1_t4_loop.trips → Fin 2 → ℕ)
    (inb : ∀ t, ∀ a, off t a + S1x16.size a ≤ S128x128.size a) (v : BitVec 32) (hw : k1_chk9 v) :
    Fin (k1_t3_loop v).trips → FVec F S16 .f32 → Prog (TpuEff nD τ sig (Elt F) Λ₀ (.scVector (cV L) (jV L))) (FVec F S16 .f32) :=
  fun t acc => do
    SparseCore.enqueueIndirectGather rfl tabS rbV gathers_S126976x128_S128x128
      (g.slice (Rect.unit (s := S6400) (k1_off6 v t) S128.size (k1_off6_inb v hw t)) (fun _ => rfl)) rfl cc1_scratch13.sem
      (View.wordExact_bits rfl) rfl (Or.inl rfl)
    SparseCore.waitIndirectGather cc1_scratch13.sem tabS rbV (View.wordExact_bits rfl) hwhole.wordExact
    Scf.Loop.for k1_t4_loop k1_t4_ok acc (rowBody L off inb) >>= fun r => pure r

variable (g : Memref sig .scVector .vmem S6400 .i32) (f : Buf (Elt F) (g.view.loc (thr d L))) (q : PosShare TreeShare)
  (G : S126976x128.Idx → F .f32) (o : ℕ) (B : ℕ → ℕ) (O : CellTallies nD τ sig (HIx 1)) (W : Waits sig (HIx 1))

/-- What the row steps keep: the rows in place, the sum so far. -/
def rowInv (b : ℕ) (R : S128x128.Idx → F .f32) (u : ℕ) (acc : FVec F S16 .f32) : sProp 𝕄 :=
  iprop(⌜acc = accTo G B o (b + u)⌝ ∗ ((rbV).view.loc (thr d L) ↦{fullShare} (R : Buf (Elt F) ((rbV).view.loc (thr d L)))))

/-- What the chunks keep: the share of the table, the index list, the row buffer at anything, the stream's semaphore at
    zero, the sum so far. -/
def chunkInv (t : ℕ) (acc : FVec F S16 .f32) : sProp 𝕄 :=
  iprop(⌜acc = accTo G B o (128 * t)⌝ ∗ Transfers.MayWaits (thr d L) (none : HIx 1) O
    ∗ ((tabS).view.loc (thr d L) ↦[(tabS).view.set]{q} (G : Buf (Elt F) ((tabS).view.loc (thr d L))))
    ∗ (g.view.loc (thr d L) ↦[g.view.set]{fullShare} f)
    ∗ (∃ r, (rbV).view.loc (thr d L) ↦{fullShare} r)
    ∗ semVal (thr d L, SemLoc.dma cc1_scratch13.sem) 0
    ∗ ∃ W', ⌜∀ p ∈ W', p ∈ W ∨ p.2 = none⌝ ∗ owes (thr d L) O W')

theorem wp_rows (off : Fin k1_t4_loop.trips → Fin 2 → ℕ) (inb : ∀ t, ∀ a, off t a + S1x16.size a ≤ S128x128.size a)
    (hoff : ∀ t, off t = ![t.val, o]) (ho : o + 16 ≤ 128) (b : ℕ) (R : S128x128.Idx → F .f32)
    (hR : ∀ j : S128x128.Idx, R j = G (ixP (B (b + (j 0).val)) (j 1).val)) (t : Fin k1_t4_loop.trips) (acc : FVec F S16 .f32) :
    rowInv d L G o B b R t.val acc ⊢ wp frame (wpE (defs₀ (F := F)) 𝒱₀ (thr d L) none) Set.univ (rowBody L off inb t acc)
      (rowInv d L G o B b R (t.val + 1)) := by
  unfold rowInv rowBody
  iintro ⟨%hacc, HR⟩
  sl_exec
  sl_step
  isplitr
  · ipureintro
    subst hacc
    have hb : b + (t.val + 1) = (b + t.val) + 1 := by omega
    rw [hb]
    apply row_step
    intro x
    show FloatOps.addf (accTo G B o (b + t.val) x) (G (ixP (B (b + t.val)) (o + (x 0).val))) = _
    congr 1
    have hx : (x 0).val < 16 := (x 0).isLt
    have e0 : ((Rect.unit (s := S128x128) (off t) S1x16.size (inb t)).emb (ixL x) 0).val = t.val := by
      rw [Rect.emb_apply]; show off t 0 + 1 * 0 = t.val; rw [hoff]; rfl
    have e1 : ((Rect.unit (s := S128x128) (off t) S1x16.size (inb t)).emb (ixL x) 1).val = o + (x 0).val := by
      rw [Rect.emb_apply]; show off t 1 + 1 * (x 0).val = o + (x 0).val; rw [hoff, Nat.one_mul]; rfl
    have h := hR ((Rect.unit (s := S128x128) (off t) S1x16.size (inb t)).emb (ixL x))
    rw [e0, e1] at h
    rw [View.readAt_apply]
    exact h.symm
  · iexact HR

theorem sum_credit : ∑ j, ((rbV).slice (S128x128.rowRect gathers_S126976x128_S128x128.axis' j) (S128x128.stride_rowRect gathers_S126976x128_S128x128.axis' j)).view.dmaCredit
    = (rbV).view.dmaCredit := by decide

theorem list_read (t : ℕ) (off6 : Fin 1 → ℕ) (inb6 : ∀ a, off6 a + S128.size a ≤ S6400.size a) (h6 : off6 = ![t * 128])
    (hB : ∀ j : S6400.Idx, (g.view.read (Elt F) f j).toNat = B (j 0).val) (x : S128.Idx) :
    ((g.slice (Rect.unit (s := S6400) off6 S128.size inb6) (fun _ => rfl)).view.read (Elt F) f x : BitVec 32).toNat = B (128 * t + (x 0).val) := by
  subst h6
  refine (hB ((Rect.unit (s := S6400) ![t * 128] S128.size inb6).emb x)).trans (congrArg B ?_)
  rw [Rect.emb_apply]
  show t * 128 + 1 * (x 0).val = 128 * t + (x 0).val
  omega

set_option maxHeartbeats 2000000 in
theorem wp_chunk (off : Fin k1_t4_loop.trips → Fin 2 → ℕ) (inb : ∀ t, ∀ a, off t a + S1x16.size a ≤ S128x128.size a)
    (hoff : ∀ t, off t = ![t.val, o]) (ho : o + 16 ≤ 128) (hB : ∀ j : S6400.Idx, (g.view.read (Elt F) f j : BitVec 32).toNat = B (j 0).val)
    (hlt : ∀ j : S6400.Idx, (g.view.read (Elt F) f j : BitVec 32).toNat < 126976)
    (v : BitVec 32) (hw : k1_chk9 v) (t : Fin (k1_t3_loop v).trips) (ht : t.val < 50) (acc : FVec F S16 .f32) :
    chunkInv d L g f q G o B O W t.val acc ⊢ wp frame (wpE (defs₀ (F := F)) 𝒱₀ (thr d L) none) Set.univ (chunkBody L g off inb v hw t acc)
      (chunkInv d L g f q G o B O W (t.val + 1)) := by
  unfold chunkInv chunkBody
  iintro ⟨%hacc, #Hmw, Ht, Hg, ⟨%r, Hr⟩, Hs, %W', %hW', HO⟩
  have h6 := off6_eq v t ht
  have hl := list_read d L g f B t.val (k1_off6 v t) (k1_off6_inb v hw t) h6 hB
  have hin : ∀ x, ((g.slice (Rect.unit (s := S6400) (k1_off6 v t) S128.size (k1_off6_inb v hw t)) (fun _ => rfl)).view.read (Elt F) f x : BitVec 32).toNat
      < S126976x128.size gathers_S126976x128_S128x128.axis := fun x => hlt _
  ihave Hgs := (pointsTo_split_subset (q := fullShare) (f := f) (S := g.view.set)
    (View.set_slice_subset g.view (Rect.unit (s := S6400) (k1_off6 v t) S128.size (k1_off6_inb v hw t)))).1 $$ Hg
  icases Hgs with ⟨Hgs, Hgr⟩
  have hrs : (rbV).view.set = Finset.univ := View.set_whole _
  ihave Hr' := (Entails.of_eq (show ((rbV).view.loc (thr d L) ↦{fullShare} r : sProp 𝕄)
      = (rbV).view.loc (thr d L) ↦[(rbV).view.set]{fullShare} r by rw [hrs])) $$ Hr
  iapply (SparseCore.wp_indirectGatherLocal countersEmb 𝒱₀ (thr d L) none (hg := gathers_S126976x128_S128x128) (default : HIx 1)
      (rbV).view.dmaCredit sum_credit (by decide) hin) $$ [Ht Hr' Hgs Hs]
  · isplitl [Ht]; · iexact Ht
    isplitl [Hr']; · iexact Hr'
    isplitl [Hgs]; · iexact Hgs
    iexact Hs
  iintro Hfl
  sl_exec
  iapply (Transfers.wp_waitLocalO countersEmb 𝒱₀ (thr d L) none (default : HIx 1) (rfl : (rbV).view.dmaCredit = _)) $$ [Hfl HO]
  · isplitl [Hfl]; · iexact Hfl
    isplitl [HO]; · iexact HO
    iapply (Transfers.MayWaits.elim (SemLoc.dma cc1_scratch13.sem)) $$ Hmw
  iintro ⟨⟨Hr', Ht, Hgs⟩, Hs, HO⟩
  ihave Hg := (pointsTo_split_subset (q := fullShare) (f := f) (S := g.view.set)
    (View.set_slice_subset g.view (Rect.unit (s := S6400) (k1_off6 v t) S128.size (k1_off6_inb v hw t)))).2 $$ [Hgs Hgr]
  · isplitl [Hgs] <;> iassumption
  rw [tabS_read, View.write_whole_univ, hrs]
  have hR : ∀ j : S128x128.Idx, SparseCore.gatherPayload (F := F) (e := .f32) gathers_S126976x128_S128x128 G
      (SparseCore.rows (F := F) ((g.slice (Rect.unit (s := S6400) (k1_off6 v t) S128.size (k1_off6_inb v hw t)) (fun _ => rfl)).view.read (Elt F) f) rfl hin) j
      = G (ixP (B (128 * t.val + (j 0).val)) (j 1).val) := fun j => by
    refine (gather_apply G _ hin rfl j).trans ?_
    exact congrArg (fun n => G (ixP n (j 1).val)) (hl _)
  sl_step
  sl_for (rowInv d L G o B (128 * t.val) _) $$ [Hr']
  case region =>
    intro u a
    exact wp_rows d L G o B off inb hoff ho (128 * t.val) _ hR u a
  · unfold rowInv
    isplitr
    · ipureintro; exact hacc
    · iexact Hr'
  · iintro %a HI
    unfold rowInv
    icases HI with ⟨%ha, Hr⟩
    sl_exec
    rw [wp_ret]; imodintro
    isplitr
    · ipureintro
      rw [ha]; exact congrArg (accTo G B o) (show 128 * t.val + 128 = 128 * (t.val + 1) by omega)
    isplitr; · iexact Hmw
    isplitl [Ht]; · iexact Ht
    isplitl [Hg]; · iexact Hg
    isplitl [Hr]; · iexists _; iexact Hr
    isplitl [Hs]; · iexact Hs
    iexists _; isplitr
    swap; · iexact HO
    ipureintro; intro p hp
    rcases Finset.mem_insert.mp hp with hp | hp
    · exact .inr (hp ▸ rfl)
    · exact hW' p hp

/-- The whole of a lane group: from the list and the stream at rest to the lane group's sums. -/
theorem wp_chunks (off : Fin k1_t4_loop.trips → Fin 2 → ℕ) (inb : ∀ t, ∀ a, off t a + S1x16.size a ≤ S128x128.size a)
    (hoff : ∀ t, off t = ![t.val, o]) (ho : o + 16 ≤ 128) (hB : ∀ j : S6400.Idx, (g.view.read (Elt F) f j : BitVec 32).toNat = B (j 0).val)
    (hlt : ∀ j : S6400.Idx, (g.view.read (Elt F) f j : BitVec 32).toNat < 126976)
    (n : ℕ) (hn : n ≤ 6272) (hw : k1_chk9 (BitVec.ofNat 32 n))
    {β : Type} {kk : FVec F S16 .f32 → Prog (TpuEff nD τ sig (Elt F) Λ₀ (.scVector (cV L) (jV L))) β} {Q : β → sProp 𝕄} :
    chunkInv d L g f q G o B O W 0 (k1_pay40 (Scalar.ofBits .f32 0x00000000#32))
      ⊢ iprop((chunkInv d L g f q G o B O W (chunks n) (accTo G B o (128 * chunks n))
          -∗ wp frame (wpE (defs₀ (F := F)) 𝒱₀ (thr d L) none) Set.univ (kk (accTo G B o (128 * chunks n))) Q)
        -∗ wp frame (wpE (defs₀ (F := F)) 𝒱₀ (thr d L) none) Set.univ
          (Scf.Loop.for (k1_t3_loop (BitVec.ofNat 32 n)) (k1_t3_ok _ hw) (k1_pay40 (Scalar.ofBits .f32 0x00000000#32)) (chunkBody L g off inb (BitVec.ofNat 32 n) hw) >>= kk) Q) := by
  iintro H Hk
  iapply (Scf.wp_for_bind frame (wpE (defs₀ (F := F)) 𝒱₀ (thr d L) none) Set.univ _ _ _ (k1_t3_ok _ hw) _ _ (chunkInv d L g f q G o B O W)
    (fun t acc => wp_chunk d L g f q G o B O W off inb hoff ho hB hlt (BitVec.ofNat 32 n) hw t
      (lt_of_lt_of_le t.isLt ((loop_trips n hn).le.trans ((chunks_le n hn).trans (by decide)))) acc)) $$ H
  iintro %acc HI
  have htr : Scf.trips (k1_t3_loop (BitVec.ofNat 32 n)).lb (k1_t3_loop (BitVec.ofNat 32 n)).ub (k1_t3_loop (BitVec.ofNat 32 n)).st = chunks n := loop_trips n hn
  rw [htr]
  ihave %hacc := (show chunkInv d L g f q G o B O W (chunks n) acc ⊢ ⌜acc = accTo G B o (128 * chunks n)⌝ from by
    unfold chunkInv; iintro ⟨%h, -⟩; ipureintro; exact h) $$ HI
  subst hacc
  iapply Hk; iexact HI

end Loop

end Cert.Proof.Chunks

end
-- ==== Proof.Split.lean ====
/-
  The two loops that prepare the index lists: the first fills the eight lists with padding, the second goes through the
  task's tokens sixteen at a time and appends each token's row to the list of its lane group, by the running counts.
-/
module

public import proofs.«01_k».proof.Proof.Common
public import Idealize.ShloMosaic.Lib.WritesUnit

@[expose] public section

noncomputable section

namespace Cert.Proof.Split

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words

variable {F : FTy → Type} [FloatOps F]

local notation "𝕄" => MT nD τ sig (HIx 1) (Elt F) ℕ UU ℕ

variable (d : Dev nD) (L : grid1.Coords)

/-! ## The padding -/

/-- The first `n` entries are padding. -/
def Padded (w n : ℕ) (f : S6400.Idx → BitVec 32) : Prop := ∀ j : S6400.Idx, (j 0).val < n → f j = padW w (j 0).val

/-- A list buffer at contents of which `p` holds. -/
def listAt (b : Memref sig .scVector .vmem S6400 .i32) (p : (S6400.Idx → BitVec 32) → Prop) : sProp 𝕄 :=
  iprop(∃ f, ⌜p (b.view.read (Elt F) f)⌝ ∗ (b.view.loc (thr d L) ↦{fullShare} f))

/-- The eight lists, list `k` at contents of which `p k` holds. -/
def lists (p : ℕ → (S6400.Idx → BitVec 32) → Prop) : sProp 𝕄 :=
  iprop(listAt (F := F) d L g0V (p 0) ∗ listAt (F := F) d L g1V (p 1) ∗ listAt (F := F) d L g2V (p 2) ∗ listAt (F := F) d L g3V (p 3)
    ∗ listAt (F := F) d L g4V (p 4) ∗ listAt (F := F) d L g5V (p 5) ∗ listAt (F := F) d L g6V (p 6) ∗ listAt (F := F) d L g7V (p 7))

theorem pad_lane (w t : ℕ) (v1 : BitVec 32) (hv1 : v1 = BitVec.ofNat 32 w) (t' : Fin k1_t1_loop.trips) (ht : t'.val = t) (x : S16.Idx) :
    k1_pay36 v1 t' x = padW w (16 * t + (x 0).val) := by
  subst hv1 ht
  have hi : iota .scVector S16 32 [0] iota_S16_d0_w32_scVector x = BitVec.ofNat 32 (x 0).val := by
    show BitVec.ofNat 32 (0 * 16 + (x 0).val) = _; rw [Nat.zero_mul, Nat.zero_add]
  show 125952#32 + ((iota .scVector S16 32 [0] iota_S16_d0_w32_scVector x + 16#32 * (Scf.iv 0#32 1#32 t'.val : BitVec 32) + BitVec.ofNat 32 w) &&& 127#32) = padW w (16 * t'.val + (x 0).val)
  rw [hi]
  unfold padW
  have : (Scf.iv 0#32 1#32 t'.val : BitVec 32) = BitVec.ofNat 32 t'.val := by
    unfold Scf.iv; simp
  rw [this, Nat.add_comm (16 * t'.val), BitVec.ofNat_add (x 0).val, BitVec.ofNat_mul]

theorem padded_write (g : Memref sig .scVector .vmem S6400 .i32) (f : Buf (Elt F) (g.view.loc (thr d L))) (w : ℕ) (v1 : BitVec 32)
    (hv1 : v1 = BitVec.ofNat 32 w) (t : Fin k1_t1_loop.trips) (h : Padded w (16 * t.val) (g.view.read (Elt F) f)) :
    Padded w (16 * (t.val + 1)) (g.view.read (Elt F) (g.view.writes (Elt F) f
      [(⟨Rect.unit (k1_off4 t) S16.size (k1_off4_inb t), k1_pay36 v1 t⟩ : View.Piece (Elt F) S6400 .i32)])) := by
  intro j hj
  by_cases hlt : (j 0).val < 16 * t.val
  · rw [View.read_writes_cons_unit_of_not_mem (off' := ![16 * t.val]) _ _ _ _ _ _ (k1_off4_eq t) 0 (.inl hlt)]
    exact h j hlt
  · rw [View.read_writes_cons_unit_of_mem (off' := ![16 * t.val]) g.view f (k1_off4_inb t) (k1_pay36 v1 t) [] j
      (ln ⟨(j 0).val - 16 * t.val, by omega⟩) (k1_off4_eq t) (fun a => by
        match a with
        | 0 => show (j 0).val = 16 * t.val + ((j 0).val - 16 * t.val); omega)]
    rw [pad_lane w t.val v1 hv1 t rfl]
    congr 1
    show 16 * t.val + ((j 0).val - 16 * t.val) = (j 0).val
    omega

theorem wp_pads (v1 : BitVec 32) (v66 : Vec F S16 .i32) (hv1 : v1 = BitVec.ofNat 32 (wid L)) (t : Fin k1_t1_loop.trips) (a : BitVec 32) :
    lists (F := F) d L (fun _ => Padded (wid L) (16 * t.val)) ⊢ wp frame (wpE (defs₀ (F := F)) 𝒱₀ (thr d L) none) Set.univ
      (k1_t1_body L txV hwhole tabV hwhole sgV hwhole ptV hwhole iaV hwhole raV hwhole ibV hwhole g0V hwhole g1V hwhole g2V hwhole g3V hwhole
        g4V hwhole g5V hwhole g6V hwhole g7V hwhole rbV hwhole acV hwhole cc1_scratch13 cc1_scoped0 cc1_scoped1 cc1_scoped2 cc1_scoped3 v1 v66 t a)
      fun _ => lists (F := F) d L (fun _ => Padded (wid L) (16 * (t.val + 1))) := by
  unfold lists listAt k1_t1_body
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩
  sl_exec
  sl_step
  isplitl [H0]; · iexists _; isplitr; (· ipureintro; exact padded_write d L g0V f0 _ v1 hv1 t h0); iexact H0
  isplitl [H1]; · iexists _; isplitr; (· ipureintro; exact padded_write d L g1V f1 _ v1 hv1 t h1); iexact H1
  isplitl [H2]; · iexists _; isplitr; (· ipureintro; exact padded_write d L g2V f2 _ v1 hv1 t h2); iexact H2
  isplitl [H3]; · iexists _; isplitr; (· ipureintro; exact padded_write d L g3V f3 _ v1 hv1 t h3); iexact H3
  isplitl [H4]; · iexists _; isplitr; (· ipureintro; exact padded_write d L g4V f4 _ v1 hv1 t h4); iexact H4
  isplitl [H5]; · iexists _; isplitr; (· ipureintro; exact padded_write d L g5V f5 _ v1 hv1 t h5); iexact H5
  isplitl [H6]; · iexists _; isplitr; (· ipureintro; exact padded_write d L g6V f6 _ v1 hv1 t h6); iexact H6
  iexists _; isplitr; (· ipureintro; exact padded_write d L g7V f7 _ v1 hv1 t h7); iexact H7

/-! ## The split -/

/-- The lane group's count so far, in every lane. -/
def cntV (tk : ℕ → BitVec 32) (k m : ℕ) : IVec S16 32 := fun _ => BitVec.ofNat 32 (rowsOf tk k m).length

/-- One group of sixteen tokens appended to one list: the index vector stays in the list, the list is the longer one, and
    so is the count. -/
theorem append_idx (tk : ℕ → BitVec 32) (k m : ℕ) (v : IVec S16 32) (hm : m ≤ 6272) (x : S16.Idx) :
    (idxV (maskV (BitVec.ofNat 32 k) v) (BitVec.ofNat 32 (rowsOf tk k m).length) x).toNat < 6400 :=
  idxV_lt _ _ (by have := rowsOf_length_le tk k m; omega) x

theorem append_cnt (tk : ℕ → BitVec 32) (k m : ℕ) (hk : k < 8) (v : IVec S16 32) (hv : ∀ x : Fin 16, v (ln x) = tk (m + x.val)) :
    (fun _ => BitVec.ofNat 32 ((rowsOf tk k m).length + cntTo (maskV (BitVec.ofNat 32 k) v) 16) : IVec S16 32) = cntV tk k (m + 16) := by
  unfold cntV
  rw [rowsOf_add16 tk k m (maskV (BitVec.ofNat 32 k) v) (fun x => rowW (v x)) (fun x => by rw [maskV_iff k hk, hv])
    (fun x => by rw [hv]), List.length_append]
  funext _
  congr 2
  exact (picks_length _ _ 16).symm

/-- The printed index vector at a lane group's count. -/
theorem printed_idx (k : ℕ) (v : Vec F S16 .i32) (c : BitVec 32) :
    select (cmpi .eq (k1_pay2 v) (broadcast S16 (BitVec.ofNat 32 k))) (subi (addi (fun _ => c)
      (scan .sum (select (cmpi .eq (k1_pay2 v) (broadcast S16 (BitVec.ofNat 32 k))) k1_pay38 k1_pay37))) (broadcast S16 1#32)) k1_pay37
      = idxV (maskV (BitVec.ofNat 32 k) v) c := by
  rw [cmpi_eq, idx_eq]

/-- The printed next count. -/
theorem printed_cnt (tk : ℕ → BitVec 32) (k : ℕ) (hk : k < 8) {m : ℕ} (v : Vec F S16 .i32) (hv : ∀ x : Fin 16, (v : IVec S16 32) (ln x) = tk (m + x.val)) :
    addi (cntV tk k m) (broadcast S16 (extractAt ![15]
      (scan .sum (select (cmpi .eq (k1_pay2 v) (broadcast S16 (BitVec.ofNat 32 k))) k1_pay38 k1_pay37)) inpos_S16_p15)) = cntV tk k (m + 16) := by
  rw [cmpi_eq]
  exact (cnt_eq _ _).trans (append_cnt tk k m hk v hv)

theorem chk_of (tk : ℕ → BitVec 32) (k : ℕ) {m : ℕ} (hm : m ≤ 6272) (v idx : IVec S16 32)
    (h : idx = idxV (maskV (BitVec.ofNat 32 k) v) (BitVec.ofNat 32 (rowsOf tk k m).length)) : k1_chk1 idx := by
  subst h; intro a x; match a with | 0 => exact append_idx tk k m v hm x

theorem wp_append (g : Memref sig .scVector .vmem S6400 .i32) (hg : (g.access (.whole S6400)).set = Finset.univ) (tk : ℕ → BitVec 32) (k m : ℕ) (hk : k < 8) (v : IVec S16 32)
    (hv : ∀ x : Fin 16, v (ln x) = tk (m + x.val)) (hm : m ≤ 6272) (pad : ℕ → BitVec 32)
    (idx val : IVec S16 32) (mask : IVec S16 1) (hmask : mask = maskV (BitVec.ofNat 32 k) v)
    (hidx : idx = idxV (maskV (BitVec.ofNat 32 k) v) (BitVec.ofNat 32 (rowsOf tk k m).length)) (hval : val = fun x => rowW (v x))
    {h : ∀ a x, ((![idx] : Fin 1 → IVec S16 32) a x).toNat < S6400.size a} {hs : (g.access (.whole S6400)).Stores Finset.univ}
    {β : Type} {kk : PUnit → Prog (TpuEff nD τ sig (Elt F) Λ₀ (.scVector (cV L) (jV L))) β} {Q : β → sProp 𝕄} :
    listAt d L g (Fills (rowsOf tk k m) pad)
      ⊢ iprop((listAt d L g (Fills (rowsOf tk k (m + 16)) pad) -∗ wp frame (wpE (defs₀ (F := F)) 𝒱₀ (thr d L) none) Set.univ (kk ⟨⟩) Q)
        -∗ wp frame (wpE (defs₀ (F := F)) 𝒱₀ (thr d L) none) Set.univ (SparseCore.vectorStoreIdx (F := F) g ![idx] val mask false h hs >>= kk) Q) := by
  subst hmask hidx hval
  unfold listAt
  iintro ⟨%f, %hf, H⟩ Hk
  ihave H := (Entails.of_eq (show (g.view.loc (thr d L) ↦{fullShare} f : sProp 𝕄)
      = (g.access (.whole S6400)).loc (thr d L) ↦[(g.access (.whole S6400)).set]{fullShare} f by rw [hg])) $$ H
  iapply (SparseCore.wp_vectorStoreIdx 𝒱₀ (thr d L) none Set.univ (base := g)) $$ H
  iintro H
  iapply Hk
  iexists _
  isplitr
  swap
  · iapply (Entails.of_eq (show ((g.access (.whole S6400)).loc (thr d L) ↦[(g.access (.whole S6400)).set]{fullShare} _ : sProp 𝕄)
      = g.view.loc (thr d L) ↦{fullShare} _ by rw [hg])) $$ H
  · ipureintro
    have hr : (g.access (.whole S6400)).read (Elt F) f = g.view.read (Elt F) f := by
      funext x
      show g.view.read (Elt F) f ((Rect.whole S6400).emb x) = _
      rw [Rect.emb_whole_apply]
    rw [hr]
    have := Fills.storeIdx (F := F) hf (maskV (BitVec.ofNat 32 k) v) (fun x => rowW (v x)) _ (fun i hi => idxV_of _ _ (by have := rowsOf_length_le tk k m; omega) i hi) h
    rw [← rowsOf_add16 tk k m _ _ (fun x => by rw [maskV_iff k hk, hv]) (fun x => by rw [hv])] at this
    intro j
    refine (?_ : _ = _).trans (this j)
    have h2 := View.read_slice_write_emb (v := g.view) (Rect.whole S6400) f
      (storeIdx (F := F) (e := .i32) (g.view.read (Elt F) f) ![idxV (maskV (BitVec.ofNat 32 k) v) (BitVec.ofNat 32 (rowsOf tk k m).length)] (fun x => rowW (v x)) (maskV (BitVec.ofNat 32 k) v) false h) (Finset.mem_univ j)
    rw [Rect.emb_whole_apply] at h2
    exact h2

theorem wp_split (tk : ℕ → BitVec 32) (TB : Buf (Elt F) (ibV.view.loc (thr d L))) (v1 : BitVec 32) (v66 : Vec F S16 .i32) (pad : ℕ → BitVec 32)
    (hTB : ∀ j : S6272.Idx, (ibV.view.read (Elt F) TB j : BitVec 32) = tk (j 0).val) (t : Fin k1_t2_loop.trips) :
    iprop((ibV.view.loc (thr d L) ↦{fullShare} TB) ∗ lists (F := F) d L (fun k => Fills (rowsOf tk k (16 * t.val)) pad)) ⊢ wp frame (wpE (defs₀ (F := F)) 𝒱₀ (thr d L) none) Set.univ
      (k1_t2_body L txV hwhole tabV hwhole sgV hwhole ptV hwhole iaV hwhole raV hwhole ibV hwhole g0V hwhole g1V hwhole g2V hwhole g3V hwhole
        g4V hwhole g5V hwhole g6V hwhole g7V hwhole rbV hwhole acV hwhole cc1_scratch13 cc1_scoped0 cc1_scoped1 cc1_scoped2 cc1_scoped3 v1 v66 t
          (cntV tk 0 (16 * t.val), cntV tk 1 (16 * t.val), cntV tk 2 (16 * t.val), cntV tk 3 (16 * t.val),
            cntV tk 4 (16 * t.val), cntV tk 5 (16 * t.val), cntV tk 6 (16 * t.val), cntV tk 7 (16 * t.val)))
      fun a => iprop(⌜a = (cntV tk 0 (16 * (t.val + 1)), cntV tk 1 (16 * (t.val + 1)), cntV tk 2 (16 * (t.val + 1)), cntV tk 3 (16 * (t.val + 1)),
            cntV tk 4 (16 * (t.val + 1)), cntV tk 5 (16 * (t.val + 1)), cntV tk 6 (16 * (t.val + 1)), cntV tk 7 (16 * (t.val + 1)))⌝
        ∗ (ibV.view.loc (thr d L) ↦{fullShare} TB) ∗ lists (F := F) d L (fun k => Fills (rowsOf tk k (16 * (t.val + 1))) pad)) := by
  unfold lists k1_t2_body
  rw [k1_part1_eq_skeleton, k1_part2_eq_skeleton, k1_part3_eq_skeleton]
  unfold k1_part1_skel k1_part2_skel k1_part3_skel
  iintro ⟨Hb, H0, H1, H2, H3, H4, H5, H6, H7⟩
  generalize hv0 : ibV.view.readAt (Elt F) (Rect.unit (s := S6272) (k1_off5 t) S16.size (k1_off5_inb t)).toLoadRect TB = v0
  have hm : 16 * t.val ≤ 6272 := by have := t.isLt; have e : k1_t2_loop.trips = 392 := by decide
                                    omega
  have hv : ∀ x : Fin 16, (v0 : IVec S16 32) (ln x) = tk (16 * t.val + x.val) := fun x => by
    subst hv0
    rw [View.readAt_apply]
    refine (hTB _).trans (congrArg tk ?_)
    refine (Rect.emb_apply _ _ _).trans ?_
    show k1_off5 t 0 + 1 * x.val = _
    rw [k1_off5_eq, Nat.one_mul]; rfl
  have m0 : k1_pay3 (F := F) v0 = maskV (BitVec.ofNat 32 0) v0 := cmpi_eq 0#32 v0
  have i0 : k1_pay4 (F := F) k1_pay37 k1_pay38 (cntV tk 0 (16 * t.val)) v0 = idxV (maskV (BitVec.ofNat 32 0) v0) (BitVec.ofNat 32 (rowsOf tk 0 (16 * t.val)).length) :=
    printed_idx 0 v0 _
  have c0 : k1_pay5 (F := F) k1_pay37 k1_pay38 (cntV tk 0 (16 * t.val)) v0 = cntV tk 0 (16 * t.val + 16) :=
    printed_cnt tk 0 (by decide) v0 hv
  have h0 : k1_chk1 (k1_pay4 (F := F) k1_pay37 k1_pay38 (cntV tk 0 (16 * t.val)) v0) := chk_of tk 0 hm v0 _ i0
  have m1 : k1_pay6 (F := F) v0 = maskV (BitVec.ofNat 32 1) v0 := cmpi_eq 1#32 v0
  have i1 : k1_pay7 (F := F) k1_pay37 k1_pay38 (cntV tk 1 (16 * t.val)) v0 = idxV (maskV (BitVec.ofNat 32 1) v0) (BitVec.ofNat 32 (rowsOf tk 1 (16 * t.val)).length) :=
    printed_idx 1 v0 _
  have c1 : k1_pay9 (cntV tk 1 (16 * t.val)) (k1_pay8 (F := F) k1_pay37 k1_pay38 v0) = cntV tk 1 (16 * t.val + 16) :=
    printed_cnt tk 1 (by decide) v0 hv
  have h1 : k1_chk2 (k1_pay7 (F := F) k1_pay37 k1_pay38 (cntV tk 1 (16 * t.val)) v0) := chk_of tk 1 hm v0 _ i1
  have m2 : k1_pay10 (k1_pay2 (F := F) v0) = maskV (BitVec.ofNat 32 2) v0 := cmpi_eq 2#32 v0
  have i2 : k1_pay11 k1_pay37 k1_pay38 (cntV tk 2 (16 * t.val)) (k1_pay2 (F := F) v0) = idxV (maskV (BitVec.ofNat 32 2) v0) (BitVec.ofNat 32 (rowsOf tk 2 (16 * t.val)).length) :=
    printed_idx 2 v0 _
  have c2 : k1_pay12 k1_pay37 k1_pay38 (cntV tk 2 (16 * t.val)) (k1_pay2 (F := F) v0) = cntV tk 2 (16 * t.val + 16) :=
    printed_cnt tk 2 (by decide) v0 hv
  have h2 : k1_chk3 (k1_pay11 k1_pay37 k1_pay38 (cntV tk 2 (16 * t.val)) (k1_pay2 (F := F) v0)) := chk_of tk 2 hm v0 _ i2
  have m3 : k1_pay13 (k1_pay2 (F := F) v0) = maskV (BitVec.ofNat 32 3) v0 := cmpi_eq 3#32 v0
  have i3 : k1_pay14 k1_pay37 k1_pay38 (cntV tk 3 (16 * t.val)) (k1_pay2 (F := F) v0) = idxV (maskV (BitVec.ofNat 32 3) v0) (BitVec.ofNat 32 (rowsOf tk 3 (16 * t.val)).length) :=
    printed_idx 3 v0 _
  have c3 : k1_pay15 k1_pay37 k1_pay38 (cntV tk 3 (16 * t.val)) (k1_pay2 (F := F) v0) = cntV tk 3 (16 * t.val + 16) :=
    printed_cnt tk 3 (by decide) v0 hv
  have h3 : k1_chk4 (k1_pay14 k1_pay37 k1_pay38 (cntV tk 3 (16 * t.val)) (k1_pay2 (F := F) v0)) := chk_of tk 3 hm v0 _ i3
  have m4 : k1_pay16 (k1_pay2 (F := F) v0) = maskV (BitVec.ofNat 32 4) v0 := cmpi_eq 4#32 v0
  have i4 : k1_pay17 k1_pay37 k1_pay38 (cntV tk 4 (16 * t.val)) (k1_pay2 (F := F) v0) = idxV (maskV (BitVec.ofNat 32 4) v0) (BitVec.ofNat 32 (rowsOf tk 4 (16 * t.val)).length) :=
    printed_idx 4 v0 _
  have c4 : k1_pay19 (cntV tk 4 (16 * t.val)) (k1_pay18 k1_pay37 k1_pay38 (k1_pay2 (F := F) v0)) = cntV tk 4 (16 * t.val + 16) :=
    printed_cnt tk 4 (by decide) v0 hv
  have h4 : k1_chk5 (k1_pay17 k1_pay37 k1_pay38 (cntV tk 4 (16 * t.val)) (k1_pay2 (F := F) v0)) := chk_of tk 4 hm v0 _ i4
  have m5 : k1_pay20 (k1_pay2 (F := F) v0) = maskV (BitVec.ofNat 32 5) v0 := cmpi_eq 5#32 v0
  have i5 : k1_pay21 k1_pay37 k1_pay38 (cntV tk 5 (16 * t.val)) (k1_pay2 (F := F) v0) = idxV (maskV (BitVec.ofNat 32 5) v0) (BitVec.ofNat 32 (rowsOf tk 5 (16 * t.val)).length) :=
    printed_idx 5 v0 _
  have c5 : k1_pay22 k1_pay37 k1_pay38 (cntV tk 5 (16 * t.val)) (k1_pay2 (F := F) v0) = cntV tk 5 (16 * t.val + 16) :=
    printed_cnt tk 5 (by decide) v0 hv
  have h5 : k1_chk6 (k1_pay21 k1_pay37 k1_pay38 (cntV tk 5 (16 * t.val)) (k1_pay2 (F := F) v0)) := chk_of tk 5 hm v0 _ i5
  have m6 : k1_pay23 (k1_pay2 (F := F) v0) = maskV (BitVec.ofNat 32 6) v0 := cmpi_eq 6#32 v0
  have i6 : k1_pay24 k1_pay37 k1_pay38 (cntV tk 6 (16 * t.val)) (k1_pay2 (F := F) v0) = idxV (maskV (BitVec.ofNat 32 6) v0) (BitVec.ofNat 32 (rowsOf tk 6 (16 * t.val)).length) :=
    printed_idx 6 v0 _
  have c6 : k1_pay25 k1_pay37 k1_pay38 (cntV tk 6 (16 * t.val)) (k1_pay2 (F := F) v0) = cntV tk 6 (16 * t.val + 16) :=
    printed_cnt tk 6 (by decide) v0 hv
  have h6 : k1_chk7 (k1_pay24 k1_pay37 k1_pay38 (cntV tk 6 (16 * t.val)) (k1_pay2 (F := F) v0)) := chk_of tk 6 hm v0 _ i6
  have m7 : k1_pay26 (k1_pay2 (F := F) v0) = maskV (BitVec.ofNat 32 7) v0 := cmpi_eq 7#32 v0
  have i7 : k1_pay27 k1_pay37 k1_pay38 (cntV tk 7 (16 * t.val)) (k1_pay2 (F := F) v0) = idxV (maskV (BitVec.ofNat 32 7) v0) (BitVec.ofNat 32 (rowsOf tk 7 (16 * t.val)).length) :=
    printed_idx 7 v0 _
  have c7 : k1_pay39 (cntV tk 7 (16 * t.val)) (k1_pay26 (k1_pay2 (F := F) v0)) = cntV tk 7 (16 * t.val + 16) :=
    printed_cnt tk 7 (by decide) v0 hv
  have h7 : k1_chk8 (k1_pay27 k1_pay37 k1_pay38 (cntV tk 7 (16 * t.val)) (k1_pay2 (F := F) v0)) := chk_of tk 7 hm v0 _ i7
  sl_exec
  try unfold wp_split.sl.v375
  rw [bind_assoc]
  iapply (wp_append d L g0V (Memref.set_access_whole _) tk 0 (16 * t.val) (by decide) v0 hv hm pad _ _ _ m0 i0 (pay1_eq v0)) $$ H0
  iintro H0
  sl_exec
  try unfold wp_split.sl.v390
  rw [bind_assoc]
  iapply (wp_append d L g1V (Memref.set_access_whole _) tk 1 (16 * t.val) (by decide) v0 hv hm pad _ _ _ m1 i1 (pay1_eq v0)) $$ H1
  iintro H1
  sl_exec
  try unfold wp_split.sl.v405
  rw [bind_assoc]
  iapply (wp_append d L g2V (Memref.set_access_whole _) tk 2 (16 * t.val) (by decide) v0 hv hm pad _ _ _ m2 i2 (pay1_eq v0)) $$ H2
  iintro H2
  sl_exec
  try unfold wp_split.sl.v420
  rw [bind_assoc]
  iapply (wp_append d L g3V (Memref.set_access_whole _) tk 3 (16 * t.val) (by decide) v0 hv hm pad _ _ _ m3 i3 (pay1_eq v0)) $$ H3
  iintro H3
  sl_exec
  try unfold wp_split.sl.v435
  rw [bind_assoc]
  iapply (wp_append d L g4V (Memref.set_access_whole _) tk 4 (16 * t.val) (by decide) v0 hv hm pad _ _ _ m4 i4 (pay1_eq v0)) $$ H4
  iintro H4
  sl_exec
  try unfold wp_split.sl.v450
  rw [bind_assoc]
  iapply (wp_append d L g5V (Memref.set_access_whole _) tk 5 (16 * t.val) (by decide) v0 hv hm pad _ _ _ m5 i5 (pay1_eq v0)) $$ H5
  iintro H5
  sl_exec
  try unfold wp_split.sl.v465
  rw [bind_assoc]
  iapply (wp_append d L g6V (Memref.set_access_whole _) tk 6 (16 * t.val) (by decide) v0 hv hm pad _ _ _ m6 i6 (pay1_eq v0)) $$ H6
  iintro H6
  sl_exec
  try unfold wp_split.sl.v480
  try rw [bind_assoc]
  iapply (wp_append d L g7V (Memref.set_access_whole _) tk 7 (16 * t.val) (by decide) v0 hv hm pad _ _ _ m7 i7 (pay1_eq v0)) $$ H7
  iintro H7
  sl_step
  rw [c0, c1, c2, c3, c4, c5, c6, c7, show 16 * (t.val + 1) = 16 * t.val + 16 from by omega]
  isplitr; · ipureintro; rfl
  isplitl [Hb]; · iexact Hb
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Proof.Split

end
-- ==== Proof.Front.lean ====
/-
  The tile task's parts: what it holds and what it leaves, one lane group, and its beginning, where the tokens of its share
  of the single bags are turned into rows of the table.
-/
module

public import proofs.«01_k».proof.Proof.Chunks
public import proofs.«01_k».proof.Proof.Split

@[expose] public section

noncomputable section

namespace Cert.Proof.Front

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words Cert.Proof.Counts Cert.Proof.Chunks Cert.Proof.Split

variable {F : FTy → Type} [FloatOps F]

local notation "𝕄" => MT nD τ sig (HIx 1) (Elt F) ℕ UU ℕ

variable (d : Dev nD) (L : grid1.Coords)

/-! ## One lane group -/

section Group

variable (T : S204800.Idx → BitVec 32) (G : S126976x128.Idx → F .f32) (q : PosShare TreeShare)
  (O : CellTallies nD τ sig (HIx 1)) (W : Waits sig (HIx 1))

/-- What every lane group uses and leaves as it was: the share of the table, the row buffer, the stream. -/
def stream : sProp 𝕄 :=
  iprop(((tabS).view.loc (thr d L) ↦[(tabS).view.set]{q} (G : Buf (Elt F) ((tabS).view.loc (thr d L))))
    ∗ (∃ r, (rbV).view.loc (thr d L) ↦{fullShare} r)
    ∗ semVal (thr d L, SemLoc.dma cc1_scratch13.sem) 0
    ∗ ∃ W', ⌜∀ p ∈ W', p ∈ W ∨ p.2 = none⌝ ∗ owes (thr d L) O W')

theorem wp_group (hT : ∀ j, (T j).toNat < 1000000) (g : Memref sig .scVector .vmem S6400 .i32) (hg : g.view.set = Finset.univ) (k : ℕ) (hk : 16 * k + 16 ≤ 128)
    (off : Fin k1_t4_loop.trips → Fin 2 → ℕ) (inb : ∀ t, ∀ a, off t a + S1x16.size a ≤ S128x128.size a)
    (hoff : ∀ t, off t = ![t.val, 16 * k]) (v : BitVec 32) (hv : v = BitVec.ofNat 32 (cntK T (wid L) k)) (hw : k1_chk9 v)
    (tb : Fin (k1_t5_loop v).trips → FVec F S16 .f32 → Prog (TpuEff nD τ sig (Elt F) Λ₀ (.scVector (cV L) (jV L))) (FVec F S16 .f32))
    {β : Type} {kk : FVec F S16 .f32 → Prog (TpuEff nD τ sig (Elt F) Λ₀ (.scVector (cV L) (jV L))) β} {Q : β → sProp 𝕄} :
    iprop(Transfers.MayWaits (thr d L) (none : HIx 1) O ∗ stream d L G q O W ∗ listAt (F := F) d L g (Fills (rowsOf (tok T (wid L)) k 6272) (padW (wid L))))
      ⊢ iprop((stream d L G q O W -∗ (∃ f, g.view.loc (thr d L) ↦{fullShare} f)
          -∗ wp frame (wpE (defs₀ (F := F)) 𝒱₀ (thr d L) none) Set.univ (kk (groupV G T (wid L) k)) Q)
        -∗ wp frame (wpE (defs₀ (F := F)) 𝒱₀ (thr d L) none) Set.univ
          (Scf.Loop.for (k1_t3_loop v) (k1_t3_ok _ hw) (k1_pay40 (Scalar.ofBits .f32 0x00000000#32)) (chunkBody L g off inb v hw)
            >>= fun a => Scf.Loop.for (k1_t5_loop v) (k1_t5_ok _ hw) a tb >>= kk) Q) := by
  subst hv
  unfold stream listAt
  iintro ⟨#Hmw, ⟨Ht, Hr, Hs, HO⟩, %f, %hf, Hg⟩ Hk
  have hlt : ∀ j : S6400.Idx, (g.view.read (Elt F) f j : BitVec 32).toNat < 126976 := fun j => Fills.lt hf (fun n _ => hT _) j
  have hB : ∀ j : S6400.Idx, (g.view.read (Elt F) f j : BitVec 32).toNat = (entry T (wid L) k (j 0).val).toNat := fun j => by rw [hf j]; rfl
  ihave Hg := (Entails.of_eq (show (g.view.loc (thr d L) ↦{fullShare} f : sProp 𝕄) = g.view.loc (thr d L) ↦[g.view.set]{fullShare} f by rw [hg])) $$ Hg
  iapply (wp_chunks d L g f q G (16 * k) (fun n => (entry T (wid L) k n).toNat) O W off inb hoff hk hB hlt (cntK T (wid L) k) (cntK_le T (wid L) k) hw) $$ [Ht Hr Hs HO Hg]
  · unfold chunkInv
    isplitr; · ipureintro; rfl
    isplitr; · iexact Hmw
    isplitl [Ht]; · iexact Ht
    isplitl [Hg]; · iexact Hg
    isplitl [Hr]; · iexact Hr
    isplitl [Hs]; · iexact Hs
    iexact HO
  unfold chunkInv
  iintro ⟨-, -, Ht, Hg, Hr, Hs, HO⟩
  ihave Hg := (Entails.of_eq (show (g.view.loc (thr d L) ↦[g.view.set]{fullShare} f : sProp 𝕄) = g.view.loc (thr d L) ↦{fullShare} f by rw [hg])) $$ Hg
  ispecialize Hk $$ [Ht Hr Hs HO]
  · isplitl [Ht]; · iexact Ht
    isplitl [Hr]; · iexact Hr
    isplitl [Hs]; · iexact Hs
    iexact HO
  ispecialize Hk $$ [Hg]
  · iexists _; iexact Hg
  iapply (Scf.wp_for0_bind' (Fr := frame) (wpE := wpE (defs₀ (F := F)) 𝒱₀ (thr d L) none) (Es := Set.univ) _ _ _ _ _ _
    (loop5_trips (cntK T (wid L) k) (cntK_le T (wid L) k)) _ _ _ Entails.rfl) $$ Hk

/-! ## The whole task -/

/-- The task's rows of the single bags' buffer, as its copy names them. -/
abbrev sgS : Memref sig .scVector .hbm S128x128 .f32 :=
  sgV.slice (Rect.unit (s := S4096x128) (k1_off2 L) S128x128.size (k1_off2_inb L)) (fun _ => rfl)
/-- The task's slots of the sums' buffer. -/
abbrev ptS : Memref sig .scVector .hbm S128 .f32 :=
  ptV.slice (Rect.unit (s := S4096) (k1_off38 L) S128.size (k1_off38_inb L)) (fun _ => rfl)

/-- A buffer of the task at any contents. -/
def any {s : Shape} {e : EltTy} {sp : Space} (b : Memref sig .scVector sp s e) : sProp 𝕄 := iprop(∃ f, b.view.loc (thr d L) ↦{fullShare} f)

/-- The task's own buffers and semaphores, at rest. -/
def own : sProp 𝕄 :=
  iprop(any (F := F) d L iaV ∗ any (F := F) d L raV ∗ any (F := F) d L ibV ∗ any (F := F) d L g0V ∗ any (F := F) d L g1V ∗ any (F := F) d L g2V
    ∗ any (F := F) d L g3V ∗ any (F := F) d L g4V ∗ any (F := F) d L g5V ∗ any (F := F) d L g6V ∗ any (F := F) d L g7V ∗ any (F := F) d L rbV ∗ any (F := F) d L acV
    ∗ semVal (thr d L, SemLoc.dma cc1_scratch13.sem) 0 ∗ semVal (thr d L, SemLoc.dma cc1_scoped0.sem) 0 ∗ semVal (thr d L, SemLoc.dma cc1_scoped1.sem) 0
    ∗ semVal (thr d L, SemLoc.dma cc1_scoped2.sem) 0 ∗ semVal (thr d L, SemLoc.dma cc1_scoped3.sem) 0)

/-- The rows the task gathers for the single bags. -/
def singleV (w : ℕ) : S128x128.Idx → F .f32 := fun j => G (ixP (rowW (T (ixT (128 * w + (j 0).val)))).toNat (j 1).val)
/-- The task's 128 sums: sixteen lanes for each of the eight lane groups. -/
def partV (w : ℕ) : S128.Idx → F .f32 := fun j => groupV G T w ((j 0).val / 16) (ln ⟨(j 0).val % 16, Nat.mod_lt _ (by decide)⟩)

variable (q' : PosShare TreeShare)

def pre : sProp 𝕄 :=
  iprop((txV.view.loc (thr d L) ↦{q'} (T : Buf (Elt F) (txV.view.loc (thr d L))))
    ∗ ((tabS).view.loc (thr d L) ↦[(tabS).view.set]{q} (G : Buf (Elt F) ((tabS).view.loc (thr d L))))
    ∗ (∃ f, (sgS L).view.loc (thr d L) ↦[(sgS L).view.set]{fullShare} f) ∗ (∃ f, (ptS L).view.loc (thr d L) ↦[(ptS L).view.set]{fullShare} f))

def post : sProp 𝕄 :=
  iprop((txV.view.loc (thr d L) ↦{q'} (T : Buf (Elt F) (txV.view.loc (thr d L))))
    ∗ (∃ f, ⌜(sgS L).view.read (Elt F) f = singleV T G (wid L)⌝ ∗ ((sgS L).view.loc (thr d L) ↦[(sgS L).view.set]{fullShare} f))
    ∗ (∃ f, ⌜(ptS L).view.read (Elt F) f = partV T G (wid L)⌝ ∗ ((ptS L).view.loc (thr d L) ↦[(ptS L).view.set]{fullShare} f)))

/-- The first `n` single-bag tokens turned into rows, the others as they came. -/
def RowsTo (tk : ℕ → BitVec 32) (n : ℕ) (f : S128.Idx → BitVec 32) : Prop :=
  ∀ j : S128.Idx, f j = if (j 0).val < n then rowW (tk (j 0).val) else tk (j 0).val

theorem RowsTo.load {tk : ℕ → BitVec 32} {n : ℕ} {f : Buf (Elt F) (iaV.view.loc (thr d L))} (h : RowsTo tk n (iaV.view.read (Elt F) f)) (m : ℕ)
    (hm : n ≤ m) (inb : ∀ a, (![m] : Fin 1 → ℕ) a + S16.size a ≤ S128.size a) (x : S16.Idx) :
    (iaV.view.readAt (Elt F) (Rect.unit (s := S128) ![m] S16.size inb).toLoadRect f : IVec S16 32) x = tk (m + (x 0).val) := by
  rw [View.readAt_apply]
  have e : ((Rect.unit (s := S128) ![m] S16.size inb).emb x 0).val = m + (x 0).val := by
    rw [Rect.emb_apply]; show m + 1 * (x 0).val = _; omega
  refine (h ((Rect.unit (s := S128) ![m] S16.size inb).emb x)).trans ?_
  rw [e, if_neg (by omega)]

theorem RowsTo.store {tk : ℕ → BitVec 32} {n : ℕ} {f : Buf (Elt F) (iaV.view.loc (thr d L))} {P : List (View.Piece (Elt F) S128 .i32)}
    (h : RowsTo tk n (iaV.view.read (Elt F) (iaV.view.writes (Elt F) f P))) (inb : ∀ a, (![n] : Fin 1 → ℕ) a + S16.size a ≤ S128.size a)
    (v : IVec S16 32) (hv : ∀ x : S16.Idx, v x = rowW (tk (n + (x 0).val))) :
    RowsTo tk (n + 16) (iaV.view.read (Elt F) (iaV.view.writes (Elt F) f ((⟨Rect.unit ![n] S16.size inb, v⟩ : View.Piece (Elt F) S128 .i32) :: P))) := by
  intro j
  by_cases h1 : (j 0).val < n
  · rw [View.read_writes_cons_unit_of_not_mem (off' := ![n]) iaV.view f inb v P j rfl 0 (.inl h1), h j, if_pos h1, if_pos (by omega)]
  by_cases h2 : (j 0).val < n + 16
  · rw [View.read_writes_cons_unit_of_mem (off' := ![n]) iaV.view f inb v P j (ln ⟨(j 0).val - n, by omega⟩) rfl (fun a => by
        match a with
        | 0 => show (j 0).val = n + ((j 0).val - n); omega), if_pos h2, hv]
    exact congrArg (fun m => rowW (tk m)) (show n + ((j 0).val - n) = (j 0).val by omega)
  · rw [View.read_writes_cons_unit_of_not_mem (off' := ![n]) iaV.view f inb v P j rfl 0 (.inr (by show n + 16 ≤ _; omega)), h j, if_neg h1, if_neg h2]

/-- The token of single bag `n` of the task. -/
def stok (w n : ℕ) : BitVec 32 := T (ixT (128 * w + n))

/-- Position `m` of a slice of the text that starts at `b`. -/
theorem text_at {n : ℕ} (off : Fin 1 → ℕ) (b : ℕ) (hoff : off = ![b]) (inb : ∀ a, off a + (⟨1, ![n]⟩ : Shape).size a ≤ S204800.size a) (j : (⟨1, ![n]⟩ : Shape).Idx) :
    (Rect.unit (s := S204800) off (⟨1, ![n]⟩ : Shape).size inb).emb j = ixT (b + (j 0).val) := by
  subst hoff
  funext a
  match a with
  | 0 =>
    apply Fin.ext
    rw [Rect.emb_apply]
    show b + 1 * (j 0).val = (b + (j 0).val) % 204800
    have h1 : b + n ≤ 204800 := inb 0
    have h2 : (j 0).val < n := (j 0).isLt
    rw [Nat.mod_eq_of_lt (by omega), Nat.one_mul]

theorem front_base (fia : Buf (Elt F) (iaV.view.loc (thr d L))) :
    RowsTo (stok T (wid L)) 0 (iaV.view.read (Elt F) (View.write (Elt F) iaV.view fia
        (ReadAs.same.apply (View.read (Elt F) (txV.slice (Rect.unit (s := S204800) (k1_off1 L) S128.size (k1_off1_inb L)) (fun _ => rfl)).view T)) Finset.univ)) := by
  intro j
  rw [View.write_whole_univ, if_neg (Nat.not_lt_zero _)]
  exact congrArg T (text_at (n := 128) (k1_off1 L) (128 * wid L) ((k1_off1_eq L).trans (congrArg (fun n => (![n] : Fin 1 → ℕ)) (by show 256 * (L 1).val + 128 * (L 0).val = 128 * (2 * (L 1).val + (L 0).val); omega))) (k1_off1_inb L) j)

theorem wp_front {β : Type} {kk : BitVec 32 → Vec F S16 .i32 → Prog (TpuEff nD τ sig (Elt F) Λ₀ (.scVector (cV L) (jV L))) β} {Q : β → sProp 𝕄} (fia : Buf (Elt F) (iaV.view.loc (thr d L))):
    iprop(Transfers.MayWaits (thr d L) (none : HIx 1) O
        ∗ (txV.view.loc (thr d L) ↦{q'} (T : Buf (Elt F) (txV.view.loc (thr d L))))
        ∗ (iaV.view.loc (thr d L) ↦{fullShare} fia) ∗ semVal (thr d L, SemLoc.dma cc1_scoped0.sem) 0 ∗ owes (thr d L) O W)
      ⊢ iprop((∀ f : Buf (Elt F) (iaV.view.loc (thr d L)), ∀ v66 : Vec F S16 .i32, ⌜RowsTo (stok T (wid L)) 112 (iaV.view.read (Elt F) f)⌝
          -∗ ⌜∀ x : S16.Idx, (v66 : IVec S16 32) x = stok T (wid L) (112 + (x 0).val)⌝
          -∗ (txV.view.loc (thr d L) ↦{q'} (T : Buf (Elt F) (txV.view.loc (thr d L))))
          -∗ (iaV.view.loc (thr d L) ↦{fullShare} f) -∗ semVal (thr d L, SemLoc.dma cc1_scoped0.sem) 0
          -∗ owes (thr d L) O (insert (SemLoc.dma cc1_scoped0.sem, default) W)
          -∗ wp frame (wpE (defs₀ (F := F)) 𝒱₀ (thr d L) none) Set.univ (kk (BitVec.ofNat 32 (wid L)) v66) Q)
        -∗ wp frame (wpE (defs₀ (F := F)) 𝒱₀ (thr d L) none) Set.univ (do
        let ⟨v1, v30⟩ ← k1_part4 L txV hwhole tabV hwhole sgV hwhole ptV hwhole iaV hwhole raV hwhole ibV hwhole g0V hwhole g1V hwhole g2V hwhole g3V hwhole
          g4V hwhole g5V hwhole g6V hwhole g7V hwhole rbV hwhole acV hwhole cc1_scratch13 cc1_scoped0 cc1_scoped1 cc1_scoped2 cc1_scoped3
        let v66 ← k1_part5 L txV hwhole tabV hwhole sgV hwhole ptV hwhole iaV hwhole raV hwhole ibV hwhole g0V hwhole g1V hwhole g2V hwhole g3V hwhole
          g4V hwhole g5V hwhole g6V hwhole g7V hwhole rbV hwhole acV hwhole cc1_scratch13 cc1_scoped0 cc1_scoped1 cc1_scoped2 cc1_scoped3 v30
        kk v1 v66) Q) := by
  rw [k1_part4_eq_skeleton]; unfold k1_part4_skel
  rw [k1_part5_eq_skeleton]; unfold k1_part5_skel
  iintro ⟨#Hmw, Htx, Hia, Hr0, HO⟩ Hk
  sl_exec
  unfold wp_front.sl.v57 wp_front.sl.v48 wp_front.sl.v39 wp_front.sl.v30 wp_front.sl.v21  wp_front.sl.v12 wp_front.sl.v66 wp_front.sl.v1 wp_front.sl.dma0
  have hb := front_base d L T fia
  set fb := View.write (Elt F) iaV.view fia
        (ReadAs.same.apply (View.read (Elt F) (txV.slice (Rect.unit (s := S204800) (k1_off1 L) S128.size (k1_off1_inb L)) (fun _ => rfl)).view T)) Finset.univ with hfb
  have hv1 : Scalar.addi (wp_front.sl.v0 L) (BitVec.ofNat 32 (L 0).val) = BitVec.ofNat 32 (wid L) := by
    show BitVec.ofNat 32 (L 1).val * 2#32 + BitVec.ofNat 32 (L 0).val = _
    rw [wid, BitVec.ofNat_add, BitVec.ofNat_mul, BitVec.mul_comm]
  rw [hv1]
  ispecialize Hk $$ %(iaV.view.writes (Elt F) fb _) %_
  iapply Hk $$ [] [] [Htx] [Hia] [Hr0] [HO]
  · ipureintro
    have h1 := (RowsTo.store d L (P := []) hb inb_S128_S16_0 (k1_pay28 _) (fun x => congrArg rowW (RowsTo.load d L hb 0 (Nat.zero_le _) inb_S128_S16_0 x)))
    have h2 := (RowsTo.store d L h1 inb_S128_S16_16 (k1_pay29 _) (fun x => congrArg rowW (RowsTo.load d L hb 16 (Nat.zero_le _) inb_S128_S16_16 x)))
    have h3 := (RowsTo.store d L h2 inb_S128_S16_32 (k1_pay30 _) (fun x => congrArg rowW (RowsTo.load d L hb 32 (Nat.zero_le _) inb_S128_S16_32 x)))
    have h4 := (RowsTo.store d L h3 inb_S128_S16_48 (k1_pay31 _) (fun x => congrArg rowW (RowsTo.load d L hb 48 (Nat.zero_le _) inb_S128_S16_48 x)))
    have h5 := (RowsTo.store d L h4 inb_S128_S16_64 (k1_pay32 _) (fun x => congrArg rowW (RowsTo.load d L hb 64 (Nat.zero_le _) inb_S128_S16_64 x)))
    have h6 := (RowsTo.store d L h5 inb_S128_S16_80 (k1_pay33 _) (fun x => congrArg rowW (RowsTo.load d L hb 80 (Nat.zero_le _) inb_S128_S16_80 x)))
    exact (RowsTo.store d L h6 inb_S128_S16_96 (k1_pay34 _) (fun x => congrArg rowW (RowsTo.load d L hb 96 (Nat.zero_le _) inb_S128_S16_96 x)))
  · ipureintro
    exact fun x => RowsTo.load d L hb 112 (Nat.zero_le _) inb_S128_S16_112 x
  · iexact Htx
  · iexact Hia
  · iexact Hr0
  · iexact HO

end Group

end Cert.Proof.Front

end
-- ==== Proof.Middle.lean ====
/-
  The tile task's middle: the rows of the single bags gathered and copied out, the tokens of its share of the last bag
  copied in, padded and split into the eight lists.
-/
module

public import proofs.«01_k».proof.Proof.Front

@[expose] public section

noncomputable section

namespace Cert.Proof.Middle

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words Cert.Proof.Counts Cert.Proof.Chunks Cert.Proof.Split Cert.Proof.Front

variable {F : FTy → Type} [FloatOps F]

local notation "𝕄" => MT nD τ sig (HIx 1) (Elt F) ℕ UU ℕ

variable (d : Dev nD) (L : grid1.Coords)
variable (T : S204800.Idx → BitVec 32) (G : S126976x128.Idx → F .f32) (q q' : PosShare TreeShare)
  (O : CellTallies nD τ sig (HIx 1)) (W : Waits sig (HIx 1))

/-- The eight lists at anything. -/
def lists0 : sProp 𝕄 := lists (F := F) d L (fun _ _ => True)

theorem padded_zero (w : ℕ) (f : S6400.Idx → BitVec 32) : Padded w (16 * 0) f :=
  fun _ h => absurd h (Nat.not_lt_zero _)

theorem fills_zero {w : ℕ} {tk : ℕ → BitVec 32} (k : ℕ) {f : S6400.Idx → BitVec 32} (h : Padded w 6400 f) :
    Fills (rowsOf tk k (16 * 0)) (padW w) f := by
  intro j
  have hj : (j 0).val < 6400 := (j 0).isLt
  have e : rowsOf tk k (16 * 0) = [] := rfl
  rw [e, h j hj]
  rfl

theorem lists_mono {p p' : ℕ → (S6400.Idx → BitVec 32) → Prop} (h : ∀ k f, p k f → p' k f) : lists (F := F) d L p ⊢ lists (F := F) d L p' := by
  unfold lists listAt
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩
  isplitl [H0]; · iexists f0; isplitr; (· ipureintro; exact h _ _ h0); iexact H0
  isplitl [H1]; · iexists f1; isplitr; (· ipureintro; exact h _ _ h1); iexact H1
  isplitl [H2]; · iexists f2; isplitr; (· ipureintro; exact h _ _ h2); iexact H2
  isplitl [H3]; · iexists f3; isplitr; (· ipureintro; exact h _ _ h3); iexact H3
  isplitl [H4]; · iexists f4; isplitr; (· ipureintro; exact h _ _ h4); iexact H4
  isplitl [H5]; · iexists f5; isplitr; (· ipureintro; exact h _ _ h5); iexact H5
  isplitl [H6]; · iexists f6; isplitr; (· ipureintro; exact h _ _ h6); iexact H6
  iexists f7; isplitr; (· ipureintro; exact h _ _ h7); iexact H7

theorem sum_credit_a : ∑ j, ((raV).slice (S128x128.rowRect gathers_S126976x128_S128x128.axis' j) (S128x128.stride_rowRect gathers_S126976x128_S128x128.axis' j)).view.dmaCredit
    = (raV).view.dmaCredit := by decide

/-- The task's tokens of the last bag, as copied in. -/
theorem tokens_in (fib : Buf (Elt F) (ibV.view.loc (thr d L))) (j : S6272.Idx) :
    (ibV.view.read (Elt F) (View.write (Elt F) ibV.view fib
        (ReadAs.same.apply (View.read (Elt F) (txV.slice (Rect.unit (s := S204800) (k1_off3 L) S6272.size (k1_off3_inb L)) (fun _ => rfl)).view T)) Finset.univ) j : BitVec 32)
      = tok T (wid L) (j 0).val := by
  rw [View.write_whole_univ]
  exact congrArg T (text_at (n := 6272) (k1_off3 L) (4096 + 6272 * wid L) ((k1_off3_eq L).trans (congrArg (fun n => (![n] : Fin 1 → ℕ)) (by show 12544 * (L 1).val + 6272 * (L 0).val + 4096 = 4096 + 6272 * (2 * (L 1).val + (L 0).val); omega))) (k1_off3_inb L) j)

set_option maxHeartbeats 2000000 in
theorem wp_middle (hT : ∀ j, (T j).toNat < 1000000) (f : Buf (Elt F) (iaV.view.loc (thr d L))) (v66 : Vec F S16 .i32)
    (hf : RowsTo (stok T (wid L)) 112 (iaV.view.read (Elt F) f)) (h66 : ∀ x : S16.Idx, (v66 : IVec S16 32) x = stok T (wid L) (112 + (x 0).val))
    {β : Type} {kk : (Σ' (v85_0 : IVec S16 32) (v85_1 : IVec S16 32) (v85_2 : IVec S16 32) (v85_3 : IVec S16 32) (v85_4 : IVec S16 32) (v85_5 : IVec S16 32) (v85_6 : IVec S16 32) (v85_7 : IVec S16 32), F .f32)
      → Prog (TpuEff nD τ sig (Elt F) Λ₀ (.scVector (cV L) (jV L))) β} {Q : β → sProp 𝕄} :
    iprop(Transfers.MayWaits (thr d L) (none : HIx 1) O
        ∗ (txV.view.loc (thr d L) ↦{q'} (T : Buf (Elt F) (txV.view.loc (thr d L))))
        ∗ ((tabS).view.loc (thr d L) ↦[(tabS).view.set]{q} (G : Buf (Elt F) ((tabS).view.loc (thr d L))))
        ∗ (iaV.view.loc (thr d L) ↦{fullShare} f) ∗ any (F := F) d L raV ∗ any (F := F) d L ibV ∗ lists0 (F := F) d L
        ∗ (∃ f, (sgS L).view.loc (thr d L) ↦[(sgS L).view.set]{fullShare} f)
        ∗ semVal (thr d L, SemLoc.dma cc1_scratch13.sem) 0 ∗ semVal (thr d L, SemLoc.dma cc1_scoped1.sem) 0
        ∗ semVal (thr d L, SemLoc.dma cc1_scoped2.sem) 0 ∗ ∃ W', ⌜∀ p ∈ W', p ∈ W ∨ p.2 = none⌝ ∗ owes (thr d L) O W')
      ⊢ iprop(((txV.view.loc (thr d L) ↦{q'} (T : Buf (Elt F) (txV.view.loc (thr d L))))
          -∗ ((tabS).view.loc (thr d L) ↦[(tabS).view.set]{q} (G : Buf (Elt F) ((tabS).view.loc (thr d L))))
          -∗ any (F := F) d L iaV -∗ any (F := F) d L raV -∗ any (F := F) d L ibV
          -∗ lists (F := F) d L (fun k => Fills (rowsOf (tok T (wid L)) k 6272) (padW (wid L)))
          -∗ (∃ f, ⌜(sgS L).view.read (Elt F) f = singleV T G (wid L)⌝ ∗ ((sgS L).view.loc (thr d L) ↦[(sgS L).view.set]{fullShare} f))
          -∗ semVal (thr d L, SemLoc.dma cc1_scratch13.sem) 0 -∗ semVal (thr d L, SemLoc.dma cc1_scoped1.sem) 0
          -∗ semVal (thr d L, SemLoc.dma cc1_scoped2.sem) 0 -∗ (∃ W', ⌜∀ p ∈ W', p ∈ W ∨ p.2 = none⌝ ∗ owes (thr d L) O W')
          -∗ wp frame (wpE (defs₀ (F := F)) 𝒱₀ (thr d L) none) Set.univ (kk ⟨cntV (tok T (wid L)) 0 6272, cntV (tok T (wid L)) 1 6272, cntV (tok T (wid L)) 2 6272, cntV (tok T (wid L)) 3 6272, cntV (tok T (wid L)) 4 6272, cntV (tok T (wid L)) 5 6272, cntV (tok T (wid L)) 6 6272, cntV (tok T (wid L)) 7 6272, Scalar.ofBits .f32 0x00000000#32⟩) Q)
        -∗ wp frame (wpE (defs₀ (F := F)) 𝒱₀ (thr d L) none) Set.univ (k1_part6 L txV hwhole tabV hwhole sgV hwhole ptV hwhole iaV hwhole raV hwhole ibV hwhole g0V hwhole g1V hwhole g2V hwhole g3V hwhole
          g4V hwhole g5V hwhole g6V hwhole g7V hwhole rbV hwhole acV hwhole cc1_scratch13 cc1_scoped0 cc1_scoped1 cc1_scoped2 cc1_scoped3
          (BitVec.ofNat 32 (wid L)) v66 >>= kk) Q) := by
  rw [k1_part6_eq_skeleton]; unfold k1_part6_skel any
  iintro ⟨#Hmw, Htx, Ht, Hia, ⟨%fra, Hra⟩, ⟨%fib, Hib⟩, Hl, ⟨%fsg, Hsg⟩, Hs, Hr1, Hr2, %W', %hW', HO⟩ Hk
  sl_exec
  unfold wp_middle.sl.Hia_1
  have hA : RowsTo (stok T (wid L)) 128 (iaV.view.read (Elt F) (iaV.view.writes (Elt F) f
      [(⟨Rect.unit ![112] S16.size inb_S128_S16_112, k1_pay35 v66⟩ : View.Piece (Elt F) S128 .i32)])) :=
    RowsTo.store d L (P := []) hf inb_S128_S16_112 (k1_pay35 v66) (fun x => congrArg rowW (h66 x))
  generalize iaV.view.writes (Elt F) f [(⟨Rect.unit ![112] S16.size inb_S128_S16_112, k1_pay35 v66⟩ : View.Piece (Elt F) S128 .i32)] = fa at hA ⊢
  have hA' : ∀ x : S128.Idx, (iaV.view.read (Elt F) fa x : BitVec 32) = rowW (stok T (wid L) (x 0).val) := fun x => by
    exact (hA x).trans (if_pos (show (x 0).val < 128 from (x 0).isLt))
  have hin : ∀ x : S128.Idx, (iaV.view.read (Elt F) fa x : BitVec 32).toNat < S126976x128.size gathers_S126976x128_S128x128.axis := fun x => by
    rw [hA' x]; exact lt_trans (rowW_lt _ (hT _)) (by decide)
  have hrs : (raV).view.set = Finset.univ := View.set_whole _
  have his : (iaV).view.set = Finset.univ := View.set_whole _
  ihave Hra := (Entails.of_eq (show ((raV).view.loc (thr d L) ↦{fullShare} fra : sProp 𝕄)
      = (raV).view.loc (thr d L) ↦[(raV).view.set]{fullShare} fra by rw [hrs])) $$ Hra
  ihave Hia := (Entails.of_eq (show ((iaV).view.loc (thr d L) ↦{fullShare} fa : sProp 𝕄)
      = (iaV).view.loc (thr d L) ↦[(iaV).view.set]{fullShare} fa by rw [his])) $$ Hia
  iapply (SparseCore.wp_indirectGatherLocal countersEmb 𝒱₀ (thr d L) none (hg := gathers_S126976x128_S128x128) (default : HIx 1)
      (raV).view.dmaCredit sum_credit_a (by decide) hin) $$ [Ht Hra Hia Hs]
  · isplitl [Ht]; · iexact Ht
    isplitl [Hra]; · iexact Hra
    isplitl [Hia]; · iexact Hia
    iexact Hs
  iintro Hfl
  sl_exec
  rw [bind_assoc]
  iapply (Transfers.wp_waitLocalO countersEmb 𝒱₀ (thr d L) none (default : HIx 1) (rfl : (raV).view.dmaCredit = _)) $$ [Hfl HO]
  · isplitl [Hfl]; · iexact Hfl
    isplitl [HO]; · iexact HO
    iapply (Transfers.MayWaits.elim (SemLoc.dma cc1_scratch13.sem)) $$ Hmw
  iintro ⟨⟨Hra, Ht, Hia⟩, Hs, HO⟩
  rw [tabS_read, View.write_whole_univ, hrs, his]
  have hR : SparseCore.gatherPayload (F := F) (e := .f32) gathers_S126976x128_S128x128 G
      (SparseCore.rows (F := F) (iaV.view.read (Elt F) fa) rfl hin) = singleV T G (wid L) := by
    funext j
    refine (gather_apply G _ hin rfl j).trans ?_
    exact congrArg (fun w : BitVec 32 => G (ixP w.toNat (j 1).val)) (hA' _)
  rw [hR]
  sl_exec
  have hsg : (sgS L).view.read (Elt F) ((sgS L).view.writes (Elt F) fsg
      [(⟨Rect.whole S128x128, wp_middle.sl.dma0 L T G⟩ : View.Piece (Elt F) S128x128 .f32)]) = singleV T G (wid L) := by
    funext j
    have h := View.read_writes_cons_emb (sgS L).view fsg (Rect.whole S128x128) (wp_middle.sl.dma0 L T G) [] j
    rw [Rect.emb_whole_apply] at h
    exact h
  have hTB := tokens_in (F := F) d L T fib
  unfold wp_middle.sl.dma0_1
  generalize View.write (Elt F) ibV.view fib
        (ReadAs.same.apply (View.read (Elt F) (txV.slice (Rect.unit (s := S204800) (k1_off3 L) S6272.size (k1_off3_inb L)) (fun _ => rfl)).view T)) Finset.univ = fb at hTB ⊢
  rw [bind_assoc]
  iapply (Scf.wp_for_bind frame (wpE (defs₀ (F := F)) 𝒱₀ (thr d L) none) Set.univ _ _ _ k1_t1_ok _ _
    (fun n _ => lists (F := F) d L (fun _ => Padded (wid L) (16 * n))) (fun t a => wp_pads d L _ v66 rfl t a)) $$ [Hl]
  · unfold lists0
    iapply (lists_mono d L (p := fun _ _ => True) (p' := fun _ => Padded (wid L) (16 * 0)) (fun _ f _ => padded_zero _ f)) $$ Hl
  iintro %a Hl
  rw [bind_assoc]
  iapply (Scf.wp_for_bind frame (wpE (defs₀ (F := F)) 𝒱₀ (thr d L) none) Set.univ _ _ _ k1_t2_ok _ _
    (fun n a => iprop(⌜a = (cntV (tok T (wid L)) 0 (16 * n), cntV (tok T (wid L)) 1 (16 * n), cntV (tok T (wid L)) 2 (16 * n), cntV (tok T (wid L)) 3 (16 * n),
            cntV (tok T (wid L)) 4 (16 * n), cntV (tok T (wid L)) 5 (16 * n), cntV (tok T (wid L)) 6 (16 * n), cntV (tok T (wid L)) 7 (16 * n))⌝
        ∗ (ibV.view.loc (thr d L) ↦{fullShare} fb) ∗ lists (F := F) d L (fun k => Fills (rowsOf (tok T (wid L)) k (16 * n)) (padW (wid L))))) ?split) $$ [Hl Hib]
  case split =>
    intro t a
    iintro ⟨%ha, H⟩
    subst ha
    iapply (wp_split d L (tok T (wid L)) fb _ v66 (padW (wid L)) hTB t) $$ H
  · isplitr; · ipureintro; rfl
    isplitl [Hib]; · iexact Hib
    iapply (lists_mono d L (p := fun _ => Padded (wid L) (16 * Scf.trips k1_t1_loop.lb k1_t1_loop.ub k1_t1_loop.st))
      (p' := fun k => Fills (rowsOf (tok T (wid L)) k (16 * 0)) (padW (wid L))) (fun k f hf => fills_zero k (show Padded (wid L) 6400 f from hf))) $$ Hl
  iintro %a ⟨%ha, Hib, Hl⟩
  subst ha
  sl_exec
  have htr : 16 * Scf.trips k1_t2_loop.lb k1_t2_loop.ub k1_t2_loop.st = 6272 := rfl
  rw [htr]
  unfold wp_middle.sl.cst
  iapply Hk $$ [Htx] [Ht] [Hia] [Hra] [Hib] Hl [Hsg] Hs [Hr1] [Hr2] [HO]
  · iexact Htx
  · iexact Ht
  · iexists _; iexact Hia
  · iexists _; iexact Hra
  · iexists _; iexact Hib
  · iexists _; isplitr; (· ipureintro; exact hsg); iexact Hsg
  · iexact Hr1
  · iexact Hr2
  · iexists _; isplitr; rotate_left; iexact HO
    ipureintro
    intro p hp
    rcases Finset.mem_insert.mp hp with h | hp
    · exact .inr (h ▸ rfl)
    rcases Finset.mem_insert.mp hp with h | hp
    · exact .inr (h ▸ rfl)
    rcases Finset.mem_insert.mp hp with h | hp
    · exact .inr (h ▸ rfl)
    exact hW' p hp

end Cert.Proof.Middle

end
-- ==== Proof.Tile.lean ====
/-
  The tile task as a whole: the eight lane groups' sums gathered into one vector of 128 and copied out.
-/
module

public import proofs.«01_k».proof.Proof.Middle

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Words Cert.Proof.Counts Cert.Proof.Chunks Cert.Proof.Split Cert.Proof.Front Cert.Proof.Middle

variable {F : FTy → Type} [FloatOps F]

local notation "𝕄" => MT nD τ sig (HIx 1) (Elt F) ℕ UU ℕ

variable (d : Dev nD) (L : grid1.Coords)
variable (T : S204800.Idx → BitVec 32) (G : S126976x128.Idx → F .f32) (q q' : PosShare TreeShare)
  (O : CellTallies nD τ sig (HIx 1)) (W : Waits sig (HIx 1))

/-- The sums' vector holds its first `n` lanes. -/
def sums (n : ℕ) : sProp 𝕄 :=
  iprop(∃ f, ⌜∀ j : S128.Idx, (j 0).val < n → acV.view.read (Elt F) f j = partV T G (wid L) j⌝ ∗ (acV.view.loc (thr d L) ↦{fullShare} f))

/-- Storing one group's sums adds its sixteen lanes. -/
theorem sums_store {k : ℕ} (hk : 16 * k + 16 ≤ 128) (f : Buf (Elt F) (acV.view.loc (thr d L)))
    (h : ∀ j : S128.Idx, (j 0).val < 16 * k → acV.view.read (Elt F) f j = partV T G (wid L) j)
    (inb : ∀ a, (![16 * k] : Fin 1 → ℕ) a + S16.size a ≤ S128.size a) (j : S128.Idx) (hj : (j 0).val < 16 * (k + 1)) :
    acV.view.read (Elt F) (acV.view.writes (Elt F) f [(⟨Rect.unit ![16 * k] S16.size inb, groupV G T (wid L) k⟩ : View.Piece (Elt F) S128 .f32)]) j
      = partV T G (wid L) j := by
  by_cases h1 : (j 0).val < 16 * k
  · rw [View.read_writes_cons_unit_of_not_mem (off' := ![16 * k]) acV.view f inb _ [] j rfl 0 (.inl h1)]
    exact h j h1
  · rw [View.read_writes_cons_unit_of_mem (off' := ![16 * k]) acV.view f inb _ [] j (ln ⟨(j 0).val - 16 * k, by omega⟩) rfl (fun a => by
        match a with
        | 0 => show (j 0).val = 16 * k + ((j 0).val - 16 * k); omega)]
    have e1 : (j 0).val / 16 = k := by omega
    have e2 : (j 0).val % 16 = (j 0).val - 16 * k := by omega
    show groupV G T (wid L) k _ = groupV G T (wid L) ((j 0).val / 16) _
    rw [e1]
    congr 2
    exact Fin.ext e2.symm

/-- One lane group from its list to its sixteen lanes of the vector. -/
theorem wp_lane (hT : ∀ j, (T j).toNat < 1000000) (g : Memref sig .scVector .vmem S6400 .i32) (hg : g.view.set = Finset.univ) (k : ℕ) (hk : 16 * k + 16 ≤ 128)
    (off : Fin k1_t4_loop.trips → Fin 2 → ℕ) (inb : ∀ t, ∀ a, off t a + S1x16.size a ≤ S128x128.size a)
    (hoff : ∀ t, off t = ![t.val, 16 * k]) (v : BitVec 32) (hv : v = BitVec.ofNat 32 (cntK T (wid L) k)) (hw : k1_chk9 v)
    (tb : Fin (k1_t5_loop v).trips → FVec F S16 .f32 → Prog (TpuEff nD τ sig (Elt F) Λ₀ (.scVector (cV L) (jV L))) (FVec F S16 .f32))
    (o : Fin 1 → ℕ) (ho : o = ![16 * k]) (io : ∀ a, o a + S16.size a ≤ S128.size a)
    {β : Type} {kk : PUnit → Prog (TpuEff nD τ sig (Elt F) Λ₀ (.scVector (cV L) (jV L))) β} {Q : β → sProp 𝕄} :
    iprop(Transfers.MayWaits (thr d L) (none : HIx 1) O ∗ stream d L G q O W ∗ listAt (F := F) d L g (Fills (rowsOf (tok T (wid L)) k 6272) (padW (wid L)))
        ∗ sums d L T G (16 * k))
      ⊢ iprop((stream d L G q O W -∗ any d L g -∗ sums d L T G (16 * (k + 1))
          -∗ wp frame (wpE (defs₀ (F := F)) 𝒱₀ (thr d L) none) Set.univ (kk ⟨⟩) Q)
        -∗ wp frame (wpE (defs₀ (F := F)) 𝒱₀ (thr d L) none) Set.univ
          (Scf.Loop.for (k1_t3_loop v) (k1_t3_ok _ hw) (k1_pay40 (Scalar.ofBits .f32 0x00000000#32)) (chunkBody L g off inb v hw)
            >>= fun a => Scf.Loop.for (k1_t5_loop v) (k1_t5_ok _ hw) a tb >>= fun b => do
              let _ : Vec F S16 .f32 ← Prog.lift (.load acV (Rect.unit (s := S128) o S16.size io).toLoadRect (View.loadsAt_vmem h_S16))
              Prog.lift (.store acV (Rect.unit (s := S128) o S16.size io) b Finset.univ (View.stores_vmem_bits_univ h_S16 rfl) (.inl rfl)) >>= kk) Q) := by
  subst ho
  iintro ⟨#Hmw, Hst, Hg, Hac⟩ Hk
  iapply (wp_group d L T G q O W hT g hg k hk off inb hoff v hv hw tb) $$ [Hst Hg]
  · isplitr; · iexact Hmw
    isplitl [Hst]; · iexact Hst
    iexact Hg
  iintro Hst Hg
  unfold sums
  icases Hac with ⟨%f, %hf, Hac⟩
  sl_exec
  iapply Hk $$ Hst [Hg] [Hac]
  · unfold any; iexact Hg
  · iexists _; isplitr; rotate_left; iexact Hac
    ipureintro
    exact fun j hj => sums_store d L T G hk f hf io j hj

/-- The last lane of a running maximum of one count in every lane is the count. -/
theorem count_eq (k : ℕ) : extractAt ![15] (k1_pay41 (cntV (tok T (wid L)) k 6272)) inpos_S16_p15 = BitVec.ofNat 32 (cntK T (wid L) k) := lane15_max _

theorem count_ok (k : ℕ) : k1_chk9 (extractAt ![15] (k1_pay41 (cntV (tok T (wid L)) k 6272)) inpos_S16_p15) := by
  rw [count_eq]; exact chk9 _ (cntK_le T (wid L) k)

/-- The list of one lane group, all tokens in. -/
def full (g : Memref sig .scVector .vmem S6400 .i32) (k : ℕ) : sProp 𝕄 :=
  listAt (F := F) d L g (Fills (rowsOf (tok T (wid L)) k 6272) (padW (wid L)))

theorem wp_part7 (hT : ∀ j, (T j).toNat < 1000000) {Q : (Σ' (_ : FVec F S16 .f32), BitVec 32) → sProp 𝕄} :
    iprop(Transfers.MayWaits (thr d L) (none : HIx 1) O ∗ stream d L G q O W ∗ full (F := F) d L T g0V 0 ∗ sums d L T G (16 * 0))
      ⊢ iprop((stream d L G q O W -∗ any (F := F) d L g0V -∗ sums d L T G (16 * (0 + 1)) -∗ Q ⟨k1_pay40 (Scalar.ofBits .f32 0x00000000#32), extractAt ![15] (k1_pay44 (cntV (tok T (wid L)) 1 6272)) inpos_S16_p15⟩)
        -∗ wp frame (wpE (defs₀ (F := F)) 𝒱₀ (thr d L) none) Set.univ (k1_part7 L txV hwhole tabV hwhole sgV hwhole ptV hwhole iaV hwhole raV hwhole ibV hwhole g0V hwhole g1V hwhole g2V hwhole g3V hwhole
          g4V hwhole g5V hwhole g6V hwhole g7V hwhole rbV hwhole acV hwhole cc1_scratch13 cc1_scoped0 cc1_scoped1 cc1_scoped2 cc1_scoped3 (cntV (tok T (wid L)) 0 6272) (cntV (tok T (wid L)) 1 6272) (Scalar.ofBits .f32 0x00000000#32)) Q) := by
  rw [k1_part7_eq_skeleton]; unfold k1_part7_skel full
  iintro ⟨#Hmw, Hst, Hg, Hac⟩ Hk
  have h0 : k1_chk9 (extractAt ![15] (k1_pay41 (cntV (tok T (wid L)) 0 6272)) inpos_S16_p15) := count_ok L T 0
  sl_exec
  unfold wp_part7.sl.v92
  iapply (wp_lane d L T G q O W hT g0V (View.set_whole _) 0 (by decide) k1_off7 k1_off7_inb k1_off7_eq _ (count_eq L T 0) h0 _ ![0] rfl inb_S128_S16_0) $$ [Hst Hg Hac]
  · isplitr; · iexact Hmw
    isplitl [Hst]; · iexact Hst
    isplitl [Hg]; · iexact Hg
    iexact Hac
  iintro Hst Hg Hac
  sl_exec
  unfold wp_part7.sl.v125
  rw [wp_ret]; imodintro
  iapply Hk $$ Hst Hg Hac

theorem wp_part8 (hT : ∀ j, (T j).toNat < 1000000) {Q : (Σ' (v158 : BitVec 32) (k1_hw11 : k1_chk11 v158) (v160 : BitVec 32) (c128_i32_74 : BitVec 32) (v161 : BitVec 32), BitVec 1) → sProp 𝕄} :
    iprop(Transfers.MayWaits (thr d L) (none : HIx 1) O ∗ stream d L G q O W ∗ full (F := F) d L T g1V 1 ∗ sums d L T G (16 * 1))
      ⊢ iprop((∀ r, ⌜r.1 = BitVec.ofNat 32 (cntK T (wid L) 2)⌝ -∗ stream d L G q O W -∗ any (F := F) d L g1V -∗ sums d L T G (16 * (1 + 1)) -∗ Q r)
        -∗ wp frame (wpE (defs₀ (F := F)) 𝒱₀ (thr d L) none) Set.univ (k1_part8 L txV hwhole tabV hwhole sgV hwhole ptV hwhole iaV hwhole raV hwhole ibV hwhole g0V hwhole g1V hwhole g2V hwhole g3V hwhole
          g4V hwhole g5V hwhole g6V hwhole g7V hwhole rbV hwhole acV hwhole cc1_scratch13 cc1_scoped0 cc1_scoped1 cc1_scoped2 cc1_scoped3 (cntV (tok T (wid L)) 2 6272) (k1_pay40 (Scalar.ofBits .f32 0x00000000#32)) (extractAt ![15] (k1_pay44 (cntV (tok T (wid L)) 1 6272)) inpos_S16_p15)) Q) := by
  rw [k1_part8_eq_skeleton]; unfold k1_part8_skel full
  iintro ⟨#Hmw, Hst, Hg, Hac⟩ Hk
  have h1 : k1_chk10 (extractAt ![15] (k1_pay44 (cntV (tok T (wid L)) 1 6272)) inpos_S16_p15) := count_ok L T 1
  have h2 : k1_chk11 (extractAt ![15] (k1_pay47 (cntV (tok T (wid L)) 2 6272)) inpos_S16_p15) := count_ok L T 2
  sl_exec
  iapply (wp_lane d L T G q O W hT g1V (View.set_whole _) 1 (by decide) k1_off11 k1_off11_inb k1_off11_eq _ (count_eq L T 1) h1 _ ![16] rfl inb_S128_S16_16) $$ [Hst Hg Hac]
  · isplitr; · iexact Hmw
    isplitl [Hst]; · iexact Hst
    isplitl [Hg]; · iexact Hg
    iexact Hac
  iintro Hst Hg Hac
  sl_exec
  rw [wp_ret]; imodintro
  iapply Hk $$ [] Hst Hg Hac
  ipureintro
  exact count_eq L T 2

theorem wp_part9 (hT : ∀ j, (T j).toNat < 1000000) (v : BitVec 32) (hv : v = BitVec.ofNat 32 (cntK T (wid L) 2)) (hw : k1_chk11 v) (a b c : BitVec 32) (e : BitVec 1) {Q : (Σ' (v191 : BitVec 32) (k1_hw12 : k1_chk12 v191) (v193 : BitVec 32) (c128_i32_90 : BitVec 32) (v194 : BitVec 32) (v199 : BitVec 32) (v201 : BitVec 32), BitVec 32) → sProp 𝕄} :
    iprop(Transfers.MayWaits (thr d L) (none : HIx 1) O ∗ stream d L G q O W ∗ full (F := F) d L T g2V 2 ∗ sums d L T G (16 * 2))
      ⊢ iprop((∀ r, ⌜r.1 = BitVec.ofNat 32 (cntK T (wid L) 3)⌝ -∗ stream d L G q O W -∗ any (F := F) d L g2V -∗ sums d L T G (16 * (2 + 1)) -∗ Q r)
        -∗ wp frame (wpE (defs₀ (F := F)) 𝒱₀ (thr d L) none) Set.univ (k1_part9 L txV hwhole tabV hwhole sgV hwhole ptV hwhole iaV hwhole raV hwhole ibV hwhole g0V hwhole g1V hwhole g2V hwhole g3V hwhole
          g4V hwhole g5V hwhole g6V hwhole g7V hwhole rbV hwhole acV hwhole cc1_scratch13 cc1_scoped0 cc1_scoped1 cc1_scoped2 cc1_scoped3 (cntV (tok T (wid L)) 3 6272) (k1_pay40 (Scalar.ofBits .f32 0x00000000#32)) v hw a b c e) Q) := by
  rw [k1_part9_eq_skeleton]; unfold k1_part9_skel full
  iintro ⟨#Hmw, Hst, Hg, Hac⟩ Hk
  have h3 : k1_chk12 (extractAt ![15] (k1_pay50 (cntV (tok T (wid L)) 3 6272)) inpos_S16_p15) := count_ok L T 3
  iapply (wp_lane d L T G q O W hT g2V (View.set_whole _) 2 (by decide) k1_off15 k1_off15_inb k1_off15_eq _ hv hw _ ![32] rfl inb_S128_S16_32) $$ [Hst Hg Hac]
  · isplitr; · iexact Hmw
    isplitl [Hst]; · iexact Hst
    isplitl [Hg]; · iexact Hg
    iexact Hac
  iintro Hst Hg Hac
  sl_exec
  rw [wp_ret]; imodintro
  iapply Hk $$ [] Hst Hg Hac
  ipureintro
  exact count_eq L T 3

theorem wp_part10 (hT : ∀ j, (T j).toNat < 1000000) (v : BitVec 32) (hv : v = BitVec.ofNat 32 (cntK T (wid L) 3)) (hw : k1_chk12 v) (a b c e f h : BitVec 32) {Q : (Σ' (v224 : BitVec 32) (k1_hw13 : k1_chk13 v224) (v227 : BitVec 32) (v241 : BitVec 1), BitVec 32) → sProp 𝕄} :
    iprop(Transfers.MayWaits (thr d L) (none : HIx 1) O ∗ stream d L G q O W ∗ full (F := F) d L T g3V 3 ∗ sums d L T G (16 * 3))
      ⊢ iprop((∀ r, ⌜r.1 = BitVec.ofNat 32 (cntK T (wid L) 4)⌝ -∗ stream d L G q O W -∗ any (F := F) d L g3V -∗ sums d L T G (16 * (3 + 1)) -∗ Q r)
        -∗ wp frame (wpE (defs₀ (F := F)) 𝒱₀ (thr d L) none) Set.univ (k1_part10 L txV hwhole tabV hwhole sgV hwhole ptV hwhole iaV hwhole raV hwhole ibV hwhole g0V hwhole g1V hwhole g2V hwhole g3V hwhole
          g4V hwhole g5V hwhole g6V hwhole g7V hwhole rbV hwhole acV hwhole cc1_scratch13 cc1_scoped0 cc1_scoped1 cc1_scoped2 cc1_scoped3 (cntV (tok T (wid L)) 4 6272) (k1_pay40 (Scalar.ofBits .f32 0x00000000#32)) v hw a b c e f h) Q) := by
  rw [k1_part10_eq_skeleton]; unfold k1_part10_skel full
  iintro ⟨#Hmw, Hst, Hg, Hac⟩ Hk
  have h4 : k1_chk13 (extractAt ![15] (k1_pay53 (cntV (tok T (wid L)) 4 6272)) inpos_S16_p15) := count_ok L T 4
  iapply (wp_lane d L T G q O W hT g3V (View.set_whole _) 3 (by decide) k1_off19 k1_off19_inb k1_off19_eq _ hv hw _ ![48] rfl inb_S128_S16_48) $$ [Hst Hg Hac]
  · isplitr; · iexact Hmw
    isplitl [Hst]; · iexact Hst
    isplitl [Hg]; · iexact Hg
    iexact Hac
  iintro Hst Hg Hac
  sl_exec
  rw [wp_ret]; imodintro
  iapply Hk $$ [] Hst Hg Hac
  ipureintro
  exact count_eq L T 4

theorem wp_part11 (hT : ∀ j, (T j).toNat < 1000000) (v : BitVec 32) (hv : v = BitVec.ofNat 32 (cntK T (wid L) 4)) (hw : k1_chk13 v) (a : BitVec 32) (b : BitVec 1) (c : BitVec 32) {Q : (Σ' (v257 : BitVec 32) (k1_hw14 : k1_chk14 v257) (c0_i32_129 : BitVec 32), BitVec 32) → sProp 𝕄} :
    iprop(Transfers.MayWaits (thr d L) (none : HIx 1) O ∗ stream d L G q O W ∗ full (F := F) d L T g4V 4 ∗ sums d L T G (16 * 4))
      ⊢ iprop((∀ r, ⌜r.1 = BitVec.ofNat 32 (cntK T (wid L) 5)⌝ -∗ stream d L G q O W -∗ any (F := F) d L g4V -∗ sums d L T G (16 * (4 + 1)) -∗ Q r)
        -∗ wp frame (wpE (defs₀ (F := F)) 𝒱₀ (thr d L) none) Set.univ (k1_part11 L txV hwhole tabV hwhole sgV hwhole ptV hwhole iaV hwhole raV hwhole ibV hwhole g0V hwhole g1V hwhole g2V hwhole g3V hwhole
          g4V hwhole g5V hwhole g6V hwhole g7V hwhole rbV hwhole acV hwhole cc1_scratch13 cc1_scoped0 cc1_scoped1 cc1_scoped2 cc1_scoped3 (cntV (tok T (wid L)) 5 6272) (k1_pay40 (Scalar.ofBits .f32 0x00000000#32)) v hw a b c) Q) := by
  rw [k1_part11_eq_skeleton]; unfold k1_part11_skel full
  iintro ⟨#Hmw, Hst, Hg, Hac⟩ Hk
  have h5 : k1_chk14 (extractAt ![15] (k1_pay56 (cntV (tok T (wid L)) 5 6272)) inpos_S16_p15) := count_ok L T 5
  iapply (wp_lane d L T G q O W hT g4V (View.set_whole _) 4 (by decide) k1_off23 k1_off23_inb k1_off23_eq _ hv hw _ ![64] rfl inb_S128_S16_64) $$ [Hst Hg Hac]
  · isplitr; · iexact Hmw
    isplitl [Hst]; · iexact Hst
    isplitl [Hg]; · iexact Hg
    iexact Hac
  iintro Hst Hg Hac
  sl_exec
  rw [wp_ret]; imodintro
  iapply Hk $$ [] Hst Hg Hac
  ipureintro
  exact count_eq L T 5

theorem wp_part12 (hT : ∀ j, (T j).toNat < 1000000) (v : BitVec 32) (hv : v = BitVec.ofNat 32 (cntK T (wid L) 5)) (hw : k1_chk14 v) (a b : BitVec 32) {Q : PUnit → sProp 𝕄} :
    iprop(Transfers.MayWaits (thr d L) (none : HIx 1) O ∗ stream d L G q O W ∗ full (F := F) d L T g5V 5 ∗ full (F := F) d L T g6V 6 ∗ sums d L T G (16 * 5))
      ⊢ iprop((stream d L G q O W -∗ any (F := F) d L g5V -∗ any (F := F) d L g6V -∗ sums d L T G (16 * (6 + 1)) -∗ Q ⟨⟩)
        -∗ wp frame (wpE (defs₀ (F := F)) 𝒱₀ (thr d L) none) Set.univ (k1_part12 L txV hwhole tabV hwhole sgV hwhole ptV hwhole iaV hwhole raV hwhole ibV hwhole g0V hwhole g1V hwhole g2V hwhole g3V hwhole
          g4V hwhole g5V hwhole g6V hwhole g7V hwhole rbV hwhole acV hwhole cc1_scratch13 cc1_scoped0 cc1_scoped1 cc1_scoped2 cc1_scoped3 (cntV (tok T (wid L)) 6 6272) (k1_pay40 (Scalar.ofBits .f32 0x00000000#32)) v hw a b) Q) := by
  rw [k1_part12_eq_skeleton]; unfold k1_part12_skel full
  iintro ⟨#Hmw, Hst, Hg, Hg6, Hac⟩ Hk
  have h6 : k1_chk15 (extractAt ![15] (k1_pay59 (cntV (tok T (wid L)) 6 6272)) inpos_S16_p15) := count_ok L T 6
  iapply (wp_lane d L T G q O W hT g5V (View.set_whole _) 5 (by decide) k1_off27 k1_off27_inb k1_off27_eq _ hv hw _ ![80] rfl inb_S128_S16_80) $$ [Hst Hg Hac]
  · isplitr; · iexact Hmw
    isplitl [Hst]; · iexact Hst
    isplitl [Hg]; · iexact Hg
    iexact Hac
  iintro Hst Hg Hac
  irename Hg => Hg5
  irename Hg6 => Hg
  sl_exec
  iapply (wp_lane d L T G q O W hT g6V (View.set_whole _) 6 (by decide) k1_off31 k1_off31_inb k1_off31_eq _ (count_eq L T 6) h6 _ ![96] rfl inb_S128_S16_96) $$ [Hst Hg Hac]
  · isplitr; · iexact Hmw
    isplitl [Hst]; · iexact Hst
    isplitl [Hg]; · iexact Hg
    iexact Hac
  iintro Hst Hg Hac
  sl_exec
  rw [wp_ret]; imodintro
  iapply Hk $$ Hst Hg5 Hg Hac

/-- What the tile holds between its parts. -/
def held13 : sProp 𝕄 :=
  iprop((txV.view.loc (thr d L) ↦{q'} (T : Buf (Elt F) (txV.view.loc (thr d L))))
    ∗ ((tabS).view.loc (thr d L) ↦[(tabS).view.set]{q} (G : Buf (Elt F) ((tabS).view.loc (thr d L))))
    ∗ (∃ f, (sgS L).view.loc (thr d L) ↦[(sgS L).view.set]{fullShare} f)
    ∗ any (F := F) d L iaV ∗ any (F := F) d L raV ∗ any (F := F) d L ibV ∗ lists0 (F := F) d L ∗ any (F := F) d L rbV ∗ any (F := F) d L acV
    ∗ semVal (thr d L, SemLoc.dma cc1_scratch13.sem) 0 ∗ semVal (thr d L, SemLoc.dma cc1_scoped0.sem) 0 ∗ semVal (thr d L, SemLoc.dma cc1_scoped1.sem) 0
    ∗ semVal (thr d L, SemLoc.dma cc1_scoped2.sem) 0 ∗ owes (thr d L) O W)

/-- The task's beginning, its second part handed the first one's results. -/
theorem wp_front2 (fia : Buf (Elt F) (iaV.view.loc (thr d L))) {Q4 : (Σ' (_ : BitVec 32), Vec F S16 .i32) → sProp 𝕄} {Q2 : BitVec 32 → Vec F S16 .i32 → sProp 𝕄}
    (h : ∀ v1 v30, wp frame (wpE (defs₀ (F := F)) 𝒱₀ (thr d L) none) Set.univ (k1_part5 L txV hwhole tabV hwhole sgV hwhole ptV hwhole iaV hwhole raV hwhole ibV hwhole g0V hwhole g1V hwhole g2V hwhole g3V hwhole
          g4V hwhole g5V hwhole g6V hwhole g7V hwhole rbV hwhole acV hwhole cc1_scratch13 cc1_scoped0 cc1_scoped1 cc1_scoped2 cc1_scoped3 v30) (Q2 v1) ⊢ Q4 ⟨v1, v30⟩) :
    iprop(Transfers.MayWaits (thr d L) (none : HIx 1) O
        ∗ (txV.view.loc (thr d L) ↦{q'} (T : Buf (Elt F) (txV.view.loc (thr d L))))
        ∗ (iaV.view.loc (thr d L) ↦{fullShare} fia) ∗ semVal (thr d L, SemLoc.dma cc1_scoped0.sem) 0 ∗ owes (thr d L) O W)
      ⊢ iprop((∀ f : Buf (Elt F) (iaV.view.loc (thr d L)), ∀ v66 : Vec F S16 .i32, ⌜RowsTo (stok T (wid L)) 112 (iaV.view.read (Elt F) f)⌝
          -∗ ⌜∀ x : S16.Idx, (v66 : IVec S16 32) x = stok T (wid L) (112 + (x 0).val)⌝
          -∗ (txV.view.loc (thr d L) ↦{q'} (T : Buf (Elt F) (txV.view.loc (thr d L))))
          -∗ (iaV.view.loc (thr d L) ↦{fullShare} f) -∗ semVal (thr d L, SemLoc.dma cc1_scoped0.sem) 0
          -∗ owes (thr d L) O (insert (SemLoc.dma cc1_scoped0.sem, default) W)
          -∗ Q2 (BitVec.ofNat 32 (wid L)) v66)
        -∗ wp frame (wpE (defs₀ (F := F)) 𝒱₀ (thr d L) none) Set.univ (k1_part4 L txV hwhole tabV hwhole sgV hwhole ptV hwhole iaV hwhole raV hwhole ibV hwhole g0V hwhole g1V hwhole g2V hwhole g3V hwhole
          g4V hwhole g5V hwhole g6V hwhole g7V hwhole rbV hwhole acV hwhole cc1_scratch13 cc1_scoped0 cc1_scoped1 cc1_scoped2 cc1_scoped3) Q4) := by
  have hf := wp_front d L T O W q' (kk := fun v1 v66 => Prog.ret (v1, v66)) (Q := fun x => Q2 x.1 x.2) fia
  rw [wp_bind] at hf
  iintro H Hk
  iapply (wp_mono frame (wpE (defs₀ (F := F)) 𝒱₀ (thr d L) none) Set.univ (fun x => ?_) (Q := _)) $$ [H Hk]
  rotate_left
  · iapply hf $$ H
    iintro %f %v66 %h1 %h2 Htx Hia Hs HO
    rw [wp_ret]; imodintro
    ispecialize Hk $$ %f %v66 %h1 %h2 Htx Hia Hs HO
    iexact Hk
  · obtain ⟨v1, v30⟩ := x
    have e := h v1 v30
    dsimp only
    rw [wp_bind]
    exact ((wp_fupd frame (wpE (defs₀ (F := F)) 𝒱₀ (thr d L) none) Set.univ _ (Q2 v1))).trans e

set_option maxHeartbeats 800000 in
theorem wp_part13 (hT : ∀ j, (T j).toNat < 1000000) {Q : BitVec 32 → sProp 𝕄} :
    iprop(Transfers.MayWaits (thr d L) (none : HIx 1) O ∗ held13 d L T G q q' O W)
      ⊢ iprop((∀ v, (txV.view.loc (thr d L) ↦{q'} (T : Buf (Elt F) (txV.view.loc (thr d L))))
          -∗ (∃ f, ⌜(sgS L).view.read (Elt F) f = singleV T G (wid L)⌝ ∗ ((sgS L).view.loc (thr d L) ↦[(sgS L).view.set]{fullShare} f))
          -∗ any (F := F) d L iaV -∗ any (F := F) d L raV -∗ any (F := F) d L ibV
          -∗ any (F := F) d L g0V -∗ any (F := F) d L g1V -∗ any (F := F) d L g2V -∗ any (F := F) d L g3V
          -∗ any (F := F) d L g4V -∗ any (F := F) d L g5V -∗ any (F := F) d L g6V -∗ any (F := F) d L g7V
          -∗ sums d L T G 128 -∗ stream d L G q O W -∗ semVal (thr d L, SemLoc.dma cc1_scoped0.sem) 0 -∗ semVal (thr d L, SemLoc.dma cc1_scoped1.sem) 0
          -∗ semVal (thr d L, SemLoc.dma cc1_scoped2.sem) 0 -∗ Q v)
        -∗ wp frame (wpE (defs₀ (F := F)) 𝒱₀ (thr d L) none) Set.univ (k1_part13 L txV hwhole tabV hwhole sgV hwhole ptV hwhole iaV hwhole raV hwhole ibV hwhole g0V hwhole g1V hwhole g2V hwhole g3V hwhole
          g4V hwhole g5V hwhole g6V hwhole g7V hwhole rbV hwhole acV hwhole cc1_scratch13 cc1_scoped0 cc1_scoped1 cc1_scoped2 cc1_scoped3) Q) := by
  rw [k1_part13_eq_skeleton]; unfold k1_part13_skel
  unfold held13 any
  iintro ⟨#Hmw, Htx, Ht, Hsg, ⟨%fia, Hia⟩, Hra, Hib, Hl, Hrb, ⟨%fac, Hac⟩, Hs, Hr0, Hr1, Hr2, HO⟩ Hk
  rw [wp_bind]
  iapply (wp_front2 d L T q' O W fia ?rest) $$ [Htx Hia Hr0 HO]
  case rest =>
    intro v1 v30
    dsimp only
    rw [wp_bind]
  · isplitr; · iexact Hmw
    isplitl [Htx]; · iexact Htx
    isplitl [Hia]; · iexact Hia
    isplitl [Hr0]; · iexact Hr0
    iexact HO
  iintro %f %v66 %hf %h66 Htx Hia Hr0 HO
  iapply (wp_middle (d := d) (L := L) (T := T) (G := G) (q := q) (q' := q') (O := O) (W := W) hT f v66 hf h66) $$ [Htx Ht Hia Hra Hib Hl Hsg Hs Hr1 Hr2 HO]
  · isplitr; · iexact Hmw
    isplitl [Htx]; · iexact Htx
    isplitl [Ht]; · iexact Ht
    isplitl [Hia]; · iexact Hia
    unfold any
    isplitl [Hra]; · iexact Hra
    isplitl [Hib]; · iexact Hib
    isplitl [Hl]; · iexact Hl
    isplitl [Hsg]; · iexact Hsg
    isplitl [Hs]; · iexact Hs
    isplitl [Hr1]; · iexact Hr1
    isplitl [Hr2]; · iexact Hr2
    iexists _; isplitr; rotate_left; iexact HO
    ipureintro
    intro p hp
    rcases Finset.mem_insert.mp hp with h | hp
    · exact .inr (h ▸ rfl)
    · exact .inl hp
  iintro Htx Ht Hia Hra Hib Hl Hsg Hs Hr1 Hr2 HO
  unfold lists
  icases Hl with ⟨H0, H1, H2, H3, H4, H5, H6, H7⟩
  ihave Hst := (show iprop(((tabS).view.loc (thr d L) ↦[(tabS).view.set]{q} (G : Buf (Elt F) ((tabS).view.loc (thr d L))))
      ∗ (∃ r, (rbV).view.loc (thr d L) ↦{fullShare} r)
      ∗ semVal (thr d L, SemLoc.dma cc1_scratch13.sem) 0
      ∗ ∃ W', ⌜∀ p ∈ W', p ∈ W ∨ p.2 = none⌝ ∗ owes (thr d L) O W') ⊢ stream d L G q O W from Entails.rfl) $$ [Ht Hrb Hs HO]
  · isplitl [Ht]; · iexact Ht
    isplitl [Hrb]; · iexact Hrb
    isplitl [Hs]; · iexact Hs
    iexact HO
  ihave Hac := (show iprop(acV.view.loc (thr d L) ↦{fullShare} fac) ⊢ sums d L T G (16 * 0) by
    unfold sums
    iintro H
    iexists fac; isplitr; · ipureintro; exact fun j h => absurd h (Nat.not_lt_zero _)
    iexact H) $$ Hac
  dsimp only
  rw [wp_bind]
  iapply (wp_part7 d L T G q O W hT ) $$ [Hst H0 Hac]
  · isplitr; · iexact Hmw
    isplitl [Hst]; · iexact Hst
    isplitl [H0]; · unfold full; iexact H0
    iexact Hac
  iintro Hst H0 Hac
  dsimp only
  rw [wp_bind]
  iapply (wp_part8 d L T G q O W hT ) $$ [Hst H1 Hac]
  · isplitr; · iexact Hmw
    isplitl [Hst]; · iexact Hst
    isplitl [H1]; · unfold full; iexact H1
    iexact Hac
  iintro %r8 %hr8 Hst H1 Hac
  rw [wp_bind]
  iapply (wp_part9 d L T G q O W hT _ hr8 _ _ _ _ _) $$ [Hst H2 Hac]
  · isplitr; · iexact Hmw
    isplitl [Hst]; · iexact Hst
    isplitl [H2]; · unfold full; iexact H2
    iexact Hac
  iintro %r9 %hr9 Hst H2 Hac
  rw [wp_bind]
  iapply (wp_part10 d L T G q O W hT _ hr9 _ _ _ _ _ _ _) $$ [Hst H3 Hac]
  · isplitr; · iexact Hmw
    isplitl [Hst]; · iexact Hst
    isplitl [H3]; · unfold full; iexact H3
    iexact Hac
  iintro %r10 %hr10 Hst H3 Hac
  rw [wp_bind]
  iapply (wp_part11 d L T G q O W hT _ hr10 _ _ _ _) $$ [Hst H4 Hac]
  · isplitr; · iexact Hmw
    isplitl [Hst]; · iexact Hst
    isplitl [H4]; · unfold full; iexact H4
    iexact Hac
  iintro %r11 %hr11 Hst H4 Hac
  rw [wp_bind]
  iapply (wp_part12 d L T G q O W hT _ hr11 _ _ _) $$ [Hst H5 H6 Hac]
  · isplitr; · iexact Hmw
    isplitl [Hst]; · iexact Hst
    isplitl [H5]; · unfold full; iexact H5
    isplitl [H6]; · unfold full; iexact H6
    iexact Hac
  iintro Hst H5 H6 Hac
  have h7 : k1_chk16 (extractAt ![15] (k1_pay62 (cntV (tok T (wid L)) 7 6272)) inpos_S16_p15) := count_ok L T 7
  sl_exec
  iapply (wp_lane d L T G q O W hT g7V (View.set_whole _) 7 (by decide) k1_off35 k1_off35_inb k1_off35_eq _ (count_eq L T 7) h7 _ ![112] rfl inb_S128_S16_112) $$ [Hst H7 Hac]
  · isplitr; · iexact Hmw
    isplitl [Hst]; · iexact Hst
    isplitl [H7]; · iexact H7
    iexact Hac
  iintro Hst H7 Hac
  sl_exec
  rw [wp_ret]; imodintro
  ispecialize Hk $$ %_
  iapply Hk $$ Htx Hsg [Hia] [Hra] [Hib] [H0] [H1] [H2] [H3] [H4] [H5] [H6] [H7] Hac Hst Hr0 Hr1 Hr2
  · unfold any; iexact Hia
  · unfold any; iexact Hra
  · unfold any; iexact Hib
  · unfold any; iexact H0
  · unfold any; iexact H1
  · unfold any; iexact H2
  · unfold any; iexact H3
  · unfold any; iexact H4
  · unfold any; iexact H5
  · unfold any; iexact H6
  · unfold any; iexact H7

abbrev theBody : Prog (TpuEff nD τ sig (Elt F) Λ₀ (.scVector (cV L) (jV L))) PUnit :=
  cc1_body L txV hwhole tabV hwhole sgV hwhole ptV hwhole iaV hwhole raV hwhole ibV hwhole g0V hwhole g1V hwhole g2V hwhole g3V hwhole
          g4V hwhole g5V hwhole g6V hwhole g7V hwhole rbV hwhole acV hwhole cc1_scratch13 cc1_scoped0 cc1_scoped1 cc1_scoped2 cc1_scoped3

set_option maxHeartbeats 800000 in
theorem wp_task (hT : ∀ j, (T j).toNat < 1000000) :
    iprop(Transfers.MayWaits (thr d L) (none : HIx 1) O ∗ pre d L T G q q' ∗ Front.own d L ∗ owes (thr d L) O W)
      ⊢ wp frame (wpE (defs₀ (F := F)) 𝒱₀ (thr d L) none) Set.univ (theBody (F := F) L)
        fun _ => iprop(post d L T G q' ∗ Front.own d L ∗ ∃ W', ⌜∀ p ∈ W', p ∈ W ∨ p.2 = none⌝ ∗ owes (thr d L) O W') := by
  unfold theBody
  rw [cc1_body_eq_skeleton]; unfold cc1_body_skel
  unfold pre Front.own
  iintro ⟨#Hmw, ⟨Htx, Ht, Hsg, %fpt, Hpt⟩, ⟨Hia, Hra, Hib, H0, H1, H2, H3, H4, H5, H6, H7, Hrb, Hac, Hs, Hr0, Hr1, Hr2, Hr3⟩, HO⟩
  ihave Hl := (show iprop(any (F := F) d L g0V ∗ any (F := F) d L g1V ∗ any (F := F) d L g2V
    ∗ any (F := F) d L g3V ∗ any (F := F) d L g4V ∗ any (F := F) d L g5V ∗ any (F := F) d L g6V ∗ any (F := F) d L g7V) ⊢ lists0 (F := F) d L by
      unfold lists0 lists any listAt
      iintro ⟨⟨%f0, H0⟩, ⟨%f1, H1⟩, ⟨%f2, H2⟩, ⟨%f3, H3⟩, ⟨%f4, H4⟩, ⟨%f5, H5⟩, ⟨%f6, H6⟩, ⟨%f7, H7⟩⟩
      isplitl [H0]; · iexists f0; isplitr; (· ipureintro; trivial); iexact H0
      isplitl [H1]; · iexists f1; isplitr; (· ipureintro; trivial); iexact H1
      isplitl [H2]; · iexists f2; isplitr; (· ipureintro; trivial); iexact H2
      isplitl [H3]; · iexists f3; isplitr; (· ipureintro; trivial); iexact H3
      isplitl [H4]; · iexists f4; isplitr; (· ipureintro; trivial); iexact H4
      isplitl [H5]; · iexists f5; isplitr; (· ipureintro; trivial); iexact H5
      isplitl [H6]; · iexists f6; isplitr; (· ipureintro; trivial); iexact H6
      iexists f7; isplitr; (· ipureintro; trivial); iexact H7) $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  rw [wp_bind]
  iapply (wp_part13 d L T G q q' O W hT) $$ [Htx Ht Hsg Hia Hra Hib Hl Hrb Hac Hs Hr0 Hr1 Hr2 HO]
  · isplitr; · iexact Hmw
    unfold held13
    isplitl [Htx]; · iexact Htx
    isplitl [Ht]; · iexact Ht
    isplitl [Hsg]; · iexact Hsg
    isplitl [Hia]; · iexact Hia
    isplitl [Hra]; · iexact Hra
    isplitl [Hib]; · iexact Hib
    isplitl [Hl]; · iexact Hl
    isplitl [Hrb]; · iexact Hrb
    isplitl [Hac]; · iexact Hac
    isplitl [Hs]; · iexact Hs
    isplitl [Hr0]; · iexact Hr0
    isplitl [Hr1]; · iexact Hr1
    isplitl [Hr2]; · iexact Hr2
    iexact HO
  iintro %v Htx Hsg Hia Hra Hib H0 H1 H2 H3 H4 H5 H6 H7 Hac Hst Hr0 Hr1 Hr2
  unfold sums stream
  icases Hac with ⟨%fac, %hac, Hac⟩
  icases Hst with ⟨Ht, Hrb, Hs, %W', %hW', HO⟩
  sl_exec
  have hpt : (ptS L).view.read (Elt F) ((ptS L).view.writes (Elt F) fpt [(⟨Rect.whole S128, wp_task.sl.dma0 fac⟩ : View.Piece (Elt F) S128 .f32)])
      = partV T G (wid L) := by
    funext j
    have h := View.read_writes_cons_emb (ptS L).view fpt (Rect.whole S128) (wp_task.sl.dma0 fac) [] j
    rw [Rect.emb_whole_apply] at h
    exact h.trans (hac j (j 0).isLt)
  rw [wp_ret]; imodintro
  unfold Front.post any
  isplitl [Htx Hsg Hpt]
  · isplitl [Htx]; · iexact Htx
    isplitl [Hsg]; · iexact Hsg
    iexists _; isplitr; rotate_left; iexact Hpt
    ipureintro; exact hpt
  isplitl [Hia Hra Hib H0 H1 H2 H3 H4 H5 H6 H7 Hrb Hac Hs Hr0 Hr1 Hr2 Hr3]
  · isplitl [Hia]; · iexact Hia
    isplitl [Hra]; · iexact Hra
    isplitl [Hib]; · iexact Hib
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hrb]; · iexact Hrb
    isplitl [Hac]; · iexists _; iexact Hac
    isplitl [Hs]; · iexact Hs
    isplitl [Hr0]; · iexact Hr0
    isplitl [Hr1]; · iexact Hr1
    isplitl [Hr2]; · iexact Hr2
    iexact Hr3
  iexists _; isplitr; rotate_left; iexact HO
  ipureintro
  intro p hp
  rcases Finset.mem_insert.mp hp with h | hp
  · exact .inr (h ▸ rfl)
  exact hW' p hp

end Cert.Proof.Tile

end
-- ==== Proof.Body0.lean ====
/-
  The body of the first TensorCore call, which projects a block of the table: eight tiles of products, each the chain of
  eight matrix products that the body adds up, or at the last grid point a block of zeros.
-/
module

public import proofs.«01_k».proof.Proof.Common
public import proofs.«01_k».proof.Proof.Gen.KernelIdeal.Launch
public import proofs.«01_k».proof.Proof.Gen.KernelIdeal.Points
public import Idealize.ShloMosaic.Lib.Pipeline.FrameBody

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A memref's buffer on a core: its contents type, and the buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body at a grid point before the last: what it leaves in the result's buffer. -/
noncomputable def computeRun (c : Dev nD) (i : grid0.Coords) (hi : k0_cond1 i = 1#1) (hi' : ¬ k0_cond2 i = 1#1)
    (M0 : Memref sig .tc .vmem S64x8192 .f32) (h0 : M0.IsWhole) (M1 : Memref sig .tc .vmem S8x64x128 .f32) (h1 : M1.IsWhole)
    (M2 : Memref sig .tc .vmem S1024x128 .f32) (h2 : M2.IsWhole) (f0 : Bf (F := F) c M0) (f1 : Bf (F := F) c M1) (f2 : Bf (F := F) c M2) :
    { W : Bf (F := F) c M2 // ∀ (Q : PUnit → sProp 𝕄),
        iprop(pt c M0 f0 ∗ pt c M1 f1 ∗ pt c M2 f2 ∗ (iprop(pt c M0 f0 ∗ pt c M1 f1 ∗ pt c M2 W) -∗ Q ⟨⟩))
          ⊢ wp frame (wpE (defs₀ (F := F)) 𝒱₀ (c : Thread nD τ) none) Set.univ (cc0_body i M0 h0 M1 h1 M2 h2) Q } := by
  refine ⟨?_, fun Q => ?run⟩
  case run =>
    iintro ⟨H0, H1, H2, Hk⟩
    rw [cc0_body_eq_skeleton]; unfold cc0_body_skel
    rw [dif_pos hi, dif_neg hi']
    sl_exec!
    sl_step
    iapply Hk
    isplitl [H0]; · iexact H0
    isplitl [H1]; · iexact H1
    iexact H2

/-! ## What the body computes, as a function of the two blocks -/

/-- The sixty-four by hundred-and-twenty-eight columns of a table block that start at column `n`. -/
def colsAt (E : S64x8192.Idx → F .f32) (n : ℕ) : S64x128.Idx → F .f32 := fun j =>
  E (fun | 0 => j 0 | 1 => ⟨(n + (j 1).val) % 8192, Nat.mod_lt _ (by decide)⟩ | ⟨_ + 2, h⟩ => absurd h (Nat.not_lt.2 (Nat.le_add_left _ _)))

/-- Slab `k` of the placed weights. -/
def slabAt (Wp : S8x64x128.Idx → F .f32) (k : Fin 8) : S1x64x128.Idx → F .f32 := fun j =>
  Wp (fun | 0 => k | 1 => j 1 | 2 => j 2 | ⟨_ + 3, h⟩ => absurd h (Nat.not_lt.2 (Nat.le_add_left _ _)))

/-- One product of the chain: the columns from `n` against slab `k`. -/
def prodAt (E : S64x8192.Idx → F .f32) (Wp : S8x64x128.Idx → F .f32) (n : ℕ) (k : Fin 8) : FVec F S128x128 .f32 :=
  matmul dot_S64x128_S64x128_S128x128_0_0_1_1_n_n none (shapeCast S64x128 (colsAt E n) shapeCasts_S64x128_S64x128)
    (shapeCast S64x128 (slabAt Wp k) shapeCasts_S1x64x128_S64x128) (constant S128x128 .f32 0x00000000#32)

/-- Tile `g` of the block: the chain of eight products. -/
def tileAt (E : S64x8192.Idx → F .f32) (Wp : S8x64x128.Idx → F .f32) (n : ℕ) : FVec F S128x128 .f32 :=
  addf (addf (addf (addf (addf (addf (addf (prodAt E Wp n 0) (prodAt E Wp (n + 128) 1)) (prodAt E Wp (n + 256) 2)) (prodAt E Wp (n + 384) 3))
    (prodAt E Wp (n + 512) 4)) (prodAt E Wp (n + 640) 5)) (prodAt E Wp (n + 768) 6)) (prodAt E Wp (n + 896) 7)

/-- The block of the packed table that the body stores. -/
def outBlk (E : S64x8192.Idx → F .f32) (Wp : S8x64x128.Idx → F .f32) : S1024x128.Idx → F .f32 := fun j =>
  tileAt E Wp (1024 * ((j 0).val / 128))
    (fun | 0 => ⟨(j 0).val % 128, Nat.mod_lt _ (by decide)⟩ | 1 => j 1 | ⟨_ + 2, h⟩ => absurd h (Nat.not_lt.2 (Nat.le_add_left _ _)))

theorem cols_read (M0 : Memref sig .tc .vmem S64x8192 .f32) (f0 : M0.view.ty.Contents (Elt F)) (n : ℕ)
    (h : ∀ a, ![0, n] a + S64x128.size a ≤ S64x8192.size a) :
    View.readAt (Elt F) M0.view (Rect.unit (s := S64x8192) ![0, n] S64x128.size h).toLoadRect f0 = colsAt (M0.view.read (Elt F) f0) n := by
  funext j
  have hn : n + 128 ≤ 8192 := h 1
  have hj : (j 1).val < 128 := (j 1).isLt
  rw [View.readAt_apply]; unfold colsAt
  congr 1
  funext a
  match a with
  | 0 => exact Fin.ext (by show 0 + 1 * (j 0).val = (j 0).val; omega)
  | 1 => exact Fin.ext (by show n + 1 * (j 1).val = (n + (j 1).val) % 8192; rw [Nat.mod_eq_of_lt (by omega)]; omega)

theorem slab_read (M1 : Memref sig .tc .vmem S8x64x128 .f32) (f1 : M1.view.ty.Contents (Elt F)) (k : ℕ) (hk : k < 8)
    (h : ∀ a, ![k, 0, 0] a + S1x64x128.size a ≤ S8x64x128.size a) :
    View.readAt (Elt F) M1.view (Rect.unit (s := S8x64x128) ![k, 0, 0] S1x64x128.size h).toLoadRect f1 = slabAt (M1.view.read (Elt F) f1) ⟨k, hk⟩ := by
  funext j
  have hj : (j 0).val < 1 := (j 0).isLt
  rw [View.readAt_apply]; unfold slabAt
  congr 1
  funext a
  match a with
  | 0 => exact Fin.ext (by show k + 1 * (j 0).val = k; omega)
  | 1 => exact Fin.ext (by show 0 + 1 * (j 1).val = (j 1).val; omega)
  | 2 => exact Fin.ext (by show 0 + 1 * (j 2).val = (j 2).val; omega)

/-- Pieces that all agree with one function leave it wherever they reach. -/
theorem canon_agree [∀ e, Nonempty (Elt F e)] {s : Shape} {e : EltTy} (X : s.Idx → Elt F e) (y : s.Idx) :
    ∀ L : List (View.Piece (Elt F) s e), (∀ p ∈ L, ∀ x, p.2 x = X (p.1.emb x)) → (∃ p ∈ L, y ∈ p.1.set) → View.canon L y = X y
  | [], _, h => by obtain ⟨_, hm, _⟩ := h; exact absurd hm List.not_mem_nil
  | p :: L, hX, h => by
    by_cases hy : y ∈ p.1.set
    · obtain ⟨x, rfl⟩ : ∃ x, p.1.emb x = y := p.1.exists_idx_of_mem hy
      obtain ⟨r, w⟩ := p
      rw [View.canon_cons_emb]; exact hX _ (List.mem_cons_self ..) x
    · rw [View.canon_cons_of_not_mem p L hy]
      refine canon_agree X y L (fun p' hp => hX p' (List.mem_cons_of_mem _ hp)) ?_
      obtain ⟨p', hm, hy'⟩ := h
      rcases List.mem_cons.mp hm with rfl | hm
      · exact absurd hy' hy
      · exact ⟨p', hm, hy'⟩

theorem tile_agree (E : S64x8192.Idx → F .f32) (Wp : S8x64x128.Idx → F .f32) (r : ℕ) (g : ℕ) (hg : r = 128 * g)
    (h : ∀ a, ![r, 0] a + S128x128.size a ≤ S1024x128.size a) (w : S128x128.Idx → F .f32) (hw : w = tileAt E Wp (1024 * g)) (x : S128x128.Idx) :
    w x = outBlk E Wp ((Rect.unit (s := S1024x128) ![r, 0] S128x128.size h).emb x) := by
  subst hw
  have hx : (x 0).val < 128 := (x 0).isLt
  have h0 : ((Rect.unit (s := S1024x128) ![r, 0] S128x128.size h).emb x 0).val = r + 1 * (x 0).val := rfl
  have h1 : ((Rect.unit (s := S1024x128) ![r, 0] S128x128.size h).emb x 1).val = 0 + 1 * (x 1).val := rfl
  unfold outBlk
  rw [show ((Rect.unit (s := S1024x128) ![r, 0] S128x128.size h).emb x 0).val / 128 = g by rw [h0]; omega]
  congr 1
  funext a
  match a with
  | 0 => exact Fin.ext (by show (x 0).val = _ % 128; rw [h0]; omega)
  | 1 => exact Fin.ext (by show (x 1).val = _; rw [h1]; omega)

theorem mem_rows (r : ℕ) (h : ∀ a, ![r, 0] a + S128x128.size a ≤ S1024x128.size a) (y : S1024x128.Idx) (h1 : r ≤ (y 0).val) (h2 : (y 0).val < r + 128) :
    y ∈ (Rect.unit (s := S1024x128) ![r, 0] S128x128.size h).set := by
  rw [Rect.mem_set_unit]
  intro a
  match a with
  | 0 => exact ⟨h1, h2⟩
  | 1 => exact ⟨Nat.zero_le _, by have h3 : (y 1).val < 128 := (y 1).isLt; show (y 1).val < 0 + 128; omega⟩

set_option maxRecDepth 65536 in
set_option maxHeartbeats 4000000 in
theorem compute_val (c : Dev nD) (i : grid0.Coords) (hi : k0_cond1 i = 1#1) (hi' : ¬ k0_cond2 i = 1#1)
    (M0 : Memref sig .tc .vmem S64x8192 .f32) (h0 : M0.IsWhole) (M1 : Memref sig .tc .vmem S8x64x128 .f32) (h1 : M1.IsWhole)
    (M2 : Memref sig .tc .vmem S1024x128 .f32) (h2 : M2.IsWhole) (f0 : Bf (F := F) c M0) (f1 : Bf (F := F) c M1) (f2 : Bf (F := F) c M2) :
    M2.view.read (Elt F) (computeRun c i hi hi' M0 h0 M1 h1 M2 h2 f0 f1 f2).1 = outBlk (M0.view.read (Elt F) f0) (M1.view.read (Elt F) f1) := by
  unfold computeRun
  dsimp only
  rw [View.read_writes_junk_eq_canon]
  unfold computeRun.sl.H2_8
  funext y
  have hy : (y 0).val < 1024 := (y 0).isLt
  refine canon_agree _ y _ ?_ ?_
  · refine List.forall_mem_cons.2 ⟨fun x => tile_agree _ _ 896 7 rfl inb_S1024x128_S128x128_896_0 _ ?_ x, ?_⟩; swap
    refine List.forall_mem_cons.2 ⟨fun x => tile_agree _ _ 768 6 rfl inb_S1024x128_S128x128_768_0 _ ?_ x, ?_⟩; swap
    refine List.forall_mem_cons.2 ⟨fun x => tile_agree _ _ 640 5 rfl inb_S1024x128_S128x128_640_0 _ ?_ x, ?_⟩; swap
    refine List.forall_mem_cons.2 ⟨fun x => tile_agree _ _ 512 4 rfl inb_S1024x128_S128x128_512_0 _ ?_ x, ?_⟩; swap
    refine List.forall_mem_cons.2 ⟨fun x => tile_agree _ _ 384 3 rfl inb_S1024x128_S128x128_384_0 _ ?_ x, ?_⟩; swap
    refine List.forall_mem_cons.2 ⟨fun x => tile_agree _ _ 256 2 rfl inb_S1024x128_S128x128_256_0 _ ?_ x, ?_⟩; swap
    refine List.forall_mem_cons.2 ⟨fun x => tile_agree _ _ 128 1 rfl inb_S1024x128_S128x128_128_0 _ ?_ x, ?_⟩; swap
    refine List.forall_mem_cons.2 ⟨fun x => tile_agree _ _ 0 0 rfl inb_S1024x128_S128x128_0_0 _ ?_ x, fun _ h => absurd h List.not_mem_nil⟩
    all_goals
      try unfold computeRun.sl.r_23
      try unfold computeRun.sl.r_22
      try unfold computeRun.sl.r_21
      try unfold computeRun.sl.r_20
      try unfold computeRun.sl.r_19
      try unfold computeRun.sl.r_18
      try unfold computeRun.sl.r_17
      try unfold computeRun.sl.r_16
      try unfold computeRun.sl.r_15
      try unfold computeRun.sl.r_14
      try unfold computeRun.sl.r_13
      try unfold computeRun.sl.r_12
      try unfold computeRun.sl.r_11
      try unfold computeRun.sl.r_10
      try unfold computeRun.sl.r_9
      try unfold computeRun.sl.r_8
      try unfold computeRun.sl.r_7
      try unfold computeRun.sl.r_6
      try unfold computeRun.sl.r_5
      try unfold computeRun.sl.r_4
      try unfold computeRun.sl.r_3
      try unfold computeRun.sl.r_2
      try unfold computeRun.sl.r_1
      try unfold computeRun.sl.r
      simp only [slab_read _ _ 0 (by decide), slab_read _ _ 1 (by decide),
        slab_read _ _ 2 (by decide), slab_read _ _ 3 (by decide), slab_read _ _ 4 (by decide), slab_read _ _ 5 (by decide),
        slab_read _ _ 6 (by decide), slab_read _ _ 7 (by decide)]
      repeat rw [cols_read]
      rfl
  · have hr : ∃ g : Fin 8, 128 * g.val ≤ (y 0).val ∧ (y 0).val < 128 * g.val + 128 :=
      ⟨⟨(y 0).val / 128, by omega⟩, by show 128 * ((y 0).val / 128) ≤ _; omega, by show _ < 128 * ((y 0).val / 128) + 128; omega⟩
    obtain ⟨g, hg, hg'⟩ := hr
    fin_cases g
    · exact ⟨_, .tail _ (.tail _ (.tail _ (.tail _ (.tail _ (.tail _ (.tail _ (.head _))))))), mem_rows 0 inb_S1024x128_S128x128_0_0 y hg hg'⟩
    · exact ⟨_, .tail _ (.tail _ (.tail _ (.tail _ (.tail _ (.tail _ (.head _)))))), mem_rows 128 inb_S1024x128_S128x128_128_0 y hg hg'⟩
    · exact ⟨_, .tail _ (.tail _ (.tail _ (.tail _ (.tail _ (.head _))))), mem_rows 256 inb_S1024x128_S128x128_256_0 y hg hg'⟩
    · exact ⟨_, .tail _ (.tail _ (.tail _ (.tail _ (.head _)))), mem_rows 384 inb_S1024x128_S128x128_384_0 y hg hg'⟩
    · exact ⟨_, .tail _ (.tail _ (.tail _ (.head _))), mem_rows 512 inb_S1024x128_S128x128_512_0 y hg hg'⟩
    · exact ⟨_, .tail _ (.tail _ (.head _)), mem_rows 640 inb_S1024x128_S128x128_640_0 y hg hg'⟩
    · exact ⟨_, .tail _ (.head _), mem_rows 768 inb_S1024x128_S128x128_768_0 y hg hg'⟩
    · exact ⟨_, .head _, mem_rows 896 inb_S1024x128_S128x128_896_0 y hg hg'⟩

/-- The body at the last grid point: it stores zeros. -/
noncomputable def zeroRun (c : Dev nD) (i : grid0.Coords) (hi : ¬ k0_cond1 i = 1#1) (hi' : k0_cond2 i = 1#1)
    (M0 : Memref sig .tc .vmem S64x8192 .f32) (h0 : M0.IsWhole) (M1 : Memref sig .tc .vmem S8x64x128 .f32) (h1 : M1.IsWhole)
    (M2 : Memref sig .tc .vmem S1024x128 .f32) (h2 : M2.IsWhole) (f0 : Bf (F := F) c M0) (f1 : Bf (F := F) c M1) (f2 : Bf (F := F) c M2) :
    { W : Bf (F := F) c M2 // ∀ (Q : PUnit → sProp 𝕄),
        iprop(pt c M0 f0 ∗ pt c M1 f1 ∗ pt c M2 f2 ∗ (iprop(pt c M0 f0 ∗ pt c M1 f1 ∗ pt c M2 W) -∗ Q ⟨⟩))
          ⊢ wp frame (wpE (defs₀ (F := F)) 𝒱₀ (c : Thread nD τ) none) Set.univ (cc0_body i M0 h0 M1 h1 M2 h2) Q } := by
  refine ⟨?_, fun Q => ?run⟩
  case run =>
    iintro ⟨H0, H1, H2, Hk⟩
    rw [cc0_body_eq_skeleton]; unfold cc0_body_skel
    rw [dif_neg hi, dif_pos hi']
    sl_exec!
    sl_step
    iapply Hk
    isplitl [H0]; · iexact H0
    isplitl [H1]; · iexact H1
    iexact H2

theorem zero_val (c : Dev nD) (i : grid0.Coords) (hi : ¬ k0_cond1 i = 1#1) (hi' : k0_cond2 i = 1#1)
    (M0 : Memref sig .tc .vmem S64x8192 .f32) (h0 : M0.IsWhole) (M1 : Memref sig .tc .vmem S8x64x128 .f32) (h1 : M1.IsWhole)
    (M2 : Memref sig .tc .vmem S1024x128 .f32) (h2 : M2.IsWhole) (f0 : Bf (F := F) c M0) (f1 : Bf (F := F) c M1) (f2 : Bf (F := F) c M2) :
    M2.view.read (Elt F) (zeroRun c i hi hi' M0 h0 M1 h1 M2 h2 f0 f1 f2).1 = k0_pay2 := by
  unfold zeroRun
  dsimp only
  rw [View.read_writes_junk_eq_canon]
  funext y
  refine canon_agree _ y _ ?_ ?_
  · exact List.forall_mem_cons.2 ⟨fun x => rfl, fun _ h => absurd h List.not_mem_nil⟩
  · refine ⟨_, .head _, ?_⟩
    rw [Rect.mem_set_unit]
    intro a
    match a with
    | 0 => exact ⟨Nat.zero_le _, by have h3 : (y 0).val < 1024 := (y 0).isLt; show (y 0).val < 0 + 1024; omega⟩
    | 1 => exact ⟨Nat.zero_le _, by have h3 : (y 1).val < 128 := (y 1).isLt; show (y 1).val < 0 + 128; omega⟩

theorem cond1_iff : ∀ t : Fin grid0.N, k0_cond1 (grid0.coords t) = 1#1 ↔ t.val < 123 := by decide +kernel
theorem cond2_iff : ∀ t : Fin grid0.N, k0_cond2 (grid0.coords t) = 1#1 ↔ t.val = 123 := by decide +kernel

end Cert.Proof
-- ==== Proof.Seg.lean ====
/-
  A TensorCore call of the program as a region of the TensorCore's thread: from buffers that contain its arrays and
  what the thread owes, to the call's arrays at what its write-backs leave, the other buffers as they were, and the same owed.
  The bound on the waits that the thread has recorded is kept, so that the SparseCore call's own bookkeeping goes on from it.
-/
module

public import proofs.«01_k».proof.Proof.Body0
public import Idealize.ShloMosaic.Lib.Pipeline.Frame
public import Idealize.ShloMosaic.Lib.Pipeline.RegionArrays
public import Idealize.ShloMosaic.Lib.Pipeline.ArrRel

@[expose] public section

noncomputable section

namespace Cert.Proof

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig (HIx 1) (Elt F) ℕ UU ℕ

abbrev adm : (p : Fin 2) → (pcfgs (F := F) p).Adm := fun p => (cfgs p).toPCfg_adm

/-- The pairs of a TensorCore's own semaphore and index that sit at or below level `b`. -/
def lowPairs (F : FTy → Type) (c : Dev nD) (b : ℕ) : Set (SemLoc sig × HIx 1) :=
  {p | (K (F := F)).lev ((c : Thread nD τ), p.1) p.2 ≤ b}

/-- What the TensorCore owes, its recorded waits at or below level `b`. -/
def owesLow (c : Dev nD) (O : CellTallies nD τ sig (HIx 1)) (b : ℕ) : sProp 𝕄 :=
  iprop(∃ W : Waits sig (HIx 1), ⌜(K (F := F)).WBelow (c : Thread nD τ) W b⌝ ∗ owes (c : Thread nD τ) O W)

variable (rdats : (p : Fin 2) → (c : Dev nD) → RDat τ (Elt F) (HIx 1) ℕ UU ℕ (Pipeline.pin (pcfgs (F := F)) adm p) c)

/-- Pipeline `p`'s call as a region, for proof data that keep the buffers no window stages as the invariant, owe the same
    throughout, and hold each array whole. -/
def seg (p : Fin 2) (hlaunch : Pipeline.LaunchFacts (nD := nD) (τ := τ) cfgs p)
    (O : CellTallies nD τ sig (HIx 1)) (b : ℕ)
    (hO : ∀ g, O g none = 0) (Pre Rest : Dev nD → sProp 𝕄)
    (hsplit : ∀ c, Pre c ⊢ iprop((rdats p c).arrays (rdats p c).A ∗ Rest c))
    (hΦ : ∀ c t, (rdats p c).Φ t = Pipeline.scopedRest (Pipeline.pin (pcfgs (F := F)) adm p).spec c)
    (hshare : ∀ c w, (rdats p c).share w = fullShare)
    (howed : ∀ c t, (rdats p c).owed t = O)
    (hrec : ∀ c t, (rdats p c).recorded t = lowPairs F c b)
    (hbody : ∀ c, (rdats p c).BodyObligation (defs₀ (F := F)) 𝒱₀ none Set.univ) :
    Pipeline.RDat.RegionSeg (pcfgs (F := F)) adm rdats none defs₀ 𝒱₀ (K (F := F)).L (K (F := F)).lev p where
  win := hlaunch.win.to₀
  block_pos := hlaunch.block_pos
  stage_whole := hlaunch.stage_whole
  K := PEmpty
  osem k := k.elim
  ho := Pipeline.OwnSemFacts.none _
  hbody := hbody
  hwaits c := Pipeline.RDat.cellsWaits_intro _ _ _ _ _ fun w s t => by
    rw [howed c t]; exact (K (F := F)).mayWait_none _ hO
  pre c := iprop(Pre c ∗ owesLow c O b)
  post c := iprop((rdats p c).arraysAt (Pipeline.pin (pcfgs (F := F)) adm p).N
      ∗ Rest c ∗ owesLow c O b)
  X _ := BI.emp
  Y _ := BI.emp
  Z c := Rest c
  hentry c := by
    rw [Pipeline.ownSems0_none]
    iintro ⟨⟨Hub, HO⟩, -, -⟩
    ihave H := hsplit c $$ Hub
    icases H with ⟨Ha, Hrest⟩
    imodintro
    isplitl [Ha]; · iexact Ha
    isplitr
    · rw [Pipeline.prefHeld_of_none _ rfl]; iempintro
    isplitl [HO]
    · unfold Pipeline.RDat.owesAt Pipeline.owesWithin owesLow
      rw [howed c]
      icases HO with ⟨%W', %hW', HO⟩; iexists W'; isplitr
      · ipureintro; intro q hq; refine Or.inl ?_; rw [hrec c]; exact hW' q hq
      iexact HO
    isplitr; · iempintro
    iexact Hrest
  hin c := by
    rw [hΦ c]
    iintro ⟨-, -, Hr⟩; iexact Hr
  hout c := by
    rw [Pipeline.ownSems0_none, hΦ c]
    iintro Hr
    isplitr; · iempintro
    isplitr; · iempintro
    iexact Hr
  hexit c := by
    iintro ⟨Ha, HO, -, Hrest⟩
    imodintro
    isplitl [Ha]; · iexact Ha
    isplitl [Hrest]; · iexact Hrest
    unfold Pipeline.RDat.owesAt Pipeline.owesWithin owesLow
    rw [howed c]
    icases HO with ⟨%W', %hW', HO⟩; iexists W'; isplitr
    · ipureintro; intro q hq
      rcases hW' hq with h | ⟨w, s, rfl⟩
      · rw [hrec c] at h; exact h
      · exact Nat.zero_le _
    iexact HO

end Cert.Proof

end
-- ==== Proof.Region0.lean ====
/-
  The first TensorCore call as a region: every block of the packed table ends at what the body computes from a block of the
  table whose columns inside the table are the table's own.
-/
module

public import proofs.«01_k».proof.Proof.Seg
public import Idealize.ShloMosaic.Lib.Pipeline.Value
public import Idealize.ShloMosaic.Lib.Pipeline.ValueKit.Geometry

@[expose] public section

noncomputable section

namespace Cert.Proof

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig (HIx 1) (Elt F) ℕ UU ℕ

variable (W : Valuation τ sig (Elt F))

/-- The table's block at a point, over contents `d` where the block leaves the table. -/
def fet (t : Fin grid0.N) (d : S64x8192.Idx → F .f32) : S64x8192.Idx → F .f32 :=
  win0_0.fill (grid0.coords t) d ((win0_0.blk t).view.read (Elt F) (W (Proc.devRef .tc main_v0)))
/-- The packed weights as a fetch stages them. -/
def fetW (t : Fin grid0.N) (d : S8x64x128.Idx → F .f32) : S8x64x128.Idx → F .f32 :=
  win0_1.fill (grid0.coords t) d ((win0_1.blk t).view.read (Elt F) (W (Proc.devRef .tc main_v34)))

/-- What the body may leave in the result's block at a point. -/
def Out (t : Fin grid0.N) (X : S1024x128.Idx → F .f32) : Prop :=
  (t.val < 123 → ∃ d d', X = outBlk (fet W t d) (fetW W t d')) ∧ (t.val = 123 → X = k0_pay2)

/-- The proof data of the first call. -/
def dat0 (O : CellTallies nD τ sig (HIx 1)) (b : ℕ) (c : Dev nD) : RDat τ (Elt F) (HIx 1) ℕ UU ℕ cfg0 c where
  A w := W (Proc.devRef .tc (Pipeline.arrRef spec0 w))
  after w t Y X := match w with
    | ⟨0, _⟩ => X = Y
    | ⟨1, _⟩ => X = Y
    | ⟨2, _⟩ => Out W t X
  Φ _ := Pipeline.scopedRest spec0 c
  q _ := fullShare
  owed _ := O
  recorded _ := lowPairs F c b

theorem clip_same0 : ∀ t t' : Fin cfg0.N, (cfg0.win 0).index t = (cfg0.win 0).index t' →
    (cfg0.win 0).clip (cfg0.grid.coords t) = (cfg0.win 0).clip (cfg0.grid.coords t') := fun t t' h => by
  funext a
  show Pipeline.Clip.of (cc0_transform_0 (grid0.coords t) a) _ _ = Pipeline.Clip.of (cc0_transform_0 (grid0.coords t') a) _ _
  rw [show cc0_transform_0 (grid0.coords t) a = cc0_transform_0 (grid0.coords t') a from congrFun h a]
theorem clip_same1 : ∀ t t' : Fin cfg0.N, (cfg0.win 1).index t = (cfg0.win 1).index t' →
    (cfg0.win 1).clip (cfg0.grid.coords t) = (cfg0.win 1).clip (cfg0.grid.coords t') := fun _ _ _ => rfl

omit [FloatOps F] in
/-- A whole memref's buffer, held whole. -/
theorem owns_pt (c : Dev nD) {sp : Space} {S : Shape} {e : EltTy} (M : Memref sig .tc sp S e) (hM : M.IsWhole) (X : S.Idx → Elt F e) :
    (owns (c : Thread nD τ) M fullShare X : sProp 𝕄) = iprop(∃ f : Bf (F := F) c M, ⌜M.view.read (Elt F) f = X⌝ ∗ pt c M f) := by
  unfold owns; rw [hM.set_eq_univ]

/-- A memref of the TensorCore owned whole at contents. -/
abbrev ow (c : Dev nD) {sp : Space} {S : Shape} {e : EltTy} (M : Memref sig .tc sp S e) (X : S.Idx → Elt F e) : sProp 𝕄 :=
  owns (c : Thread nD τ) M fullShare X

/-- The body at a point from its three blocks. -/
theorem run0 (c : Dev nD) (t : Fin grid0.N) (M0 : Memref sig .tc .vmem S64x8192 .f32) (h0 : M0.IsWhole) (M1 : Memref sig .tc .vmem S8x64x128 .f32) (h1 : M1.IsWhole)
    (M2 : Memref sig .tc .vmem S1024x128 .f32) (h2 : M2.IsWhole) (d0 : S64x8192.Idx → F .f32) (d1 : S8x64x128.Idx → F .f32) (Z : S1024x128.Idx → F .f32) :
    iprop(ow c M0 (fet W t d0) ∗ ow c M1 (fetW W t d1) ∗ ow c M2 Z)
      ⊢ wp frame (wpE (defs₀ (F := F)) 𝒱₀ (c : Thread nD τ) none) Set.univ (cc0_body (grid0.coords t) M0 h0 M1 h1 M2 h2)
          fun _ => iprop(ow c M0 (fet W t d0) ∗ ow c M1 (fetW W t d1)
            ∗ ∃ X, ⌜Out W t X⌝ ∗ ow c M2 X) := by
  simp only [ow, owns_pt c M0 h0, owns_pt c M1 h1, owns_pt c M2 h2]
  iintro ⟨⟨%f0, %hf0, H0⟩, ⟨%f1, %hf1, H1⟩, ⟨%f2, -, H2⟩⟩
  by_cases ht : t.val < 123
  · have hc1 := (cond1_iff t).2 ht
    have hc2 : ¬ k0_cond2 (grid0.coords t) = 1#1 := fun h => by have := (cond2_iff t).1 h; omega
    iapply ((computeRun c (grid0.coords t) hc1 hc2 M0 h0 M1 h1 M2 h2 f0 f1 f2).2 _)
    isplitl [H0]; · iexact H0
    isplitl [H1]; · iexact H1
    isplitl [H2]; · iexact H2
    iintro ⟨H0, H1, H2⟩
    isplitl [H0]
    · iexists f0; isplitr; · ipureintro; exact hf0
      iexact H0
    isplitl [H1]
    · iexists f1; isplitr; · ipureintro; exact hf1
      iexact H1
    iexists outBlk (fet W t d0) (fetW W t d1)
    isplitr
    · ipureintro; exact ⟨fun _ => ⟨d0, d1, rfl⟩, fun h => by omega⟩
    iexists _; isplitr; swap; · iexact H2
    ipureintro; rw [compute_val, hf0, hf1]
  · have hc1 : ¬ k0_cond1 (grid0.coords t) = 1#1 := fun h => ht ((cond1_iff t).1 h)
    have ht' : t.val = 123 := by have h := t.isLt; have h2 := N_0; omega
    have hc2 := (cond2_iff t).2 ht'
    iapply ((zeroRun c (grid0.coords t) hc1 hc2 M0 h0 M1 h1 M2 h2 f0 f1 f2).2 _)
    isplitl [H0]; · iexact H0
    isplitl [H1]; · iexact H1
    isplitl [H2]; · iexact H2
    iintro ⟨H0, H1, H2⟩
    isplitl [H0]
    · iexists f0; isplitr; · ipureintro; exact hf0
      iexact H0
    isplitl [H1]
    · iexists f1; isplitr; · ipureintro; exact hf1
      iexact H1
    iexists k0_pay2
    isplitr
    · ipureintro; exact ⟨fun h => absurd h ht, fun _ => rfl⟩
    iexists _; isplitr; swap; · iexact H2
    ipureintro; rw [zero_val]

theorem body0 (O : CellTallies nD τ sig (HIx 1)) (b : ℕ) (c : Dev nD) :
    (dat0 W O b c).BodyObligation (Lvl := ℕ) (defs₀ (F := F)) 𝒱₀ none Set.univ := fun t Y hY => by
  obtain ⟨d0, h0⟩ := (dat0 W O b c).finds_in_eq_fetched 0 rfl clip_same0 (fun _ _ _ h => h) t (Y 0) (hY 0)
  obtain ⟨d1, h1⟩ := (dat0 W O b c).finds_in_eq_fetched 1 rfl clip_same1 (fun _ _ _ h => h) t (Y 1) (hY 1)
  have e0 : Y 0 = fet W t d0 := h0
  have e1 : Y 1 = fetW W t d1 := h1
  rw [bigSep_W0, bigSep_W0, e0, e1]
  rw [show (dat0 W O b c).Φ t.castSucc = Pipeline.scopedRest spec0 c from rfl, show (dat0 W O b c).Φ t.succ = Pipeline.scopedRest spec0 c from rfl,
    show (dat0 W O b c).owesAt none t.succ = (dat0 W O b c).owesAt none t.castSucc from rfl]
  change _ ⊢ wp frame (wpE (defs₀ (F := F)) 𝒱₀ (c : Thread nD τ) none) Set.univ (bodyAt0 t) _
  iintro ⟨HΦ, Howes, H⟩
  iapply (wp_wand_r frame (wpE (defs₀ (F := F)) 𝒱₀ (c : Thread nD τ) none) Set.univ)
  isplitl [H]
  · iapply (run0 W c t _ (hstage0_0 ((cfg0.slots t 0).cast nbuf0_0)) _ (hstage0_1 ((cfg0.slots t 1).cast nbuf0_1)) _ (hstage0_2 ((cfg0.slots t 2).cast nbuf0_2)) d0 d1 (Y 2))
    iexact H
  iintro %a ⟨H0, H1, %X, %hX, H2⟩
  isplitl [HΦ]; · iexact HΦ
  isplitl [Howes]; · iexact Howes
  isplitl [H0]
  · iexists _; isplitr; swap; · iexact H0
    ipureintro; rfl
  isplitl [H1]
  · iexists _; isplitr; swap; · iexact H1
    ipureintro; rfl
  iexists X; isplitr; swap; · iexact H2
  ipureintro; exact hX

/-! ## What the packed table then holds -/

/-- A packed table `G` made from a table `E` (its rows the columns) and packed weights `Wp`: each block but the last is what the
    body computes from a block whose columns inside the table are the table's; the last block is zeros. -/
def Packed (E : S64x1000000.Idx → F .f32) (Wp : S8x64x128.Idx → F .f32) (G : S126976x128.Idx → F .f32) : Prop :=
  (∀ t, t < 123 → ∃ B : S64x8192.Idx → F .f32,
      (∀ (j : S64x8192.Idx) (i : S64x1000000.Idx), (i 0).val = (j 0).val → (i 1).val = 8192 * t + (j 1).val → B j = E i)
      ∧ ∀ (i : S126976x128.Idx) (j : S1024x128.Idx), (i 0).val = 1024 * t + (j 0).val → (i 1).val = (j 1).val → G i = outBlk B Wp j)
  ∧ ∀ (i : S126976x128.Idx) (j : S1024x128.Idx), (i 0).val = 1024 * 123 + (j 0).val → (i 1).val = (j 1).val → G i = k0_pay2 j

theorem idx0 : ∀ t : Fin grid0.N, cc0_transform_0 (grid0.coords t) 0 = 0 ∧ cc0_transform_0 (grid0.coords t) 1 = min t.val 122 := by decide +kernel
theorem idx1 : ∀ (t : Fin grid0.N) a, cc0_transform_1 (grid0.coords t) a = 0 := by decide +kernel
theorem idx2 : ∀ t : Fin grid0.N, cc0_transform_2 (grid0.coords t) 0 = t.val ∧ cc0_transform_2 (grid0.coords t) 1 = 0 := by decide +kernel

theorem xs0 : ∀ t : Fin grid0.N, win0_0.xsize (grid0.coords t) 0 = 64 ∧ win0_0.xsize (grid0.coords t) 1 = min 8192 (1000000 - 8192 * min t.val 122) := by
  decide +kernel

/-- Inside the table the fetched block is the table's. -/
theorem fet_eq (t : Fin grid0.N) (ht : t.val < 123) (d : S64x8192.Idx → F .f32) (j : S64x8192.Idx) (i : S64x1000000.Idx)
    (h0 : (i 0).val = (j 0).val) (h1 : (i 1).val = 8192 * t.val + (j 1).val) : fet W t d j = W (Proc.devRef .tc main_v0) i := by
  have hi : (i 1).val < 1000000 := (i 1).isLt
  have hj0 : (j 0).val < 64 := (j 0).isLt
  have hj1 : (j 1).val < 8192 := (j 1).isLt
  have hm : win0_0.moved (grid0.coords t) j = true := (win0_0.moved_iff _ j).mpr fun a => by
    match a with
    | ⟨0, _⟩ => exact lt_of_lt_of_eq hj0 (xs0 t).1.symm
    | ⟨1, _⟩ => refine lt_of_lt_of_eq ?_ (xs0 t).2.symm; show (j 1).val < _; omega
  unfold fet Pipeline.Window.fill
  rw [dif_pos hm]
  show W (Proc.devRef .tc main_v0) ((win0_0.blk t).view.emb _) = _
  congr 1
  funext a
  refine Fin.ext ((ValueKit.view_emb_slice_whole_unit_val main_v0 _ _ _ _ a).trans ?_)
  match a with
  | ⟨0, _⟩ => show cc0_transform_0 (grid0.coords t) 0 * 64 + (j 0).val = (i 0).val; rw [(idx0 t).1, h0]; omega
  | ⟨1, _⟩ => show cc0_transform_0 (grid0.coords t) 1 * 8192 + (j 1).val = (i 1).val; rw [(idx0 t).2, h1]; omega

/-- The fetched packed weights are the packed weights. -/
theorem fetW_eq (t : Fin grid0.N) (d : S8x64x128.Idx → F .f32) : fetW W t d = W (Proc.devRef .tc main_v34) := by
  funext j
  show W (Proc.devRef .tc main_v34) ((win0_1.blk t).view.emb _) = _
  congr 1
  funext a
  refine Fin.ext ((ValueKit.view_emb_slice_whole_unit_val main_v34 _ _ _ _ a).trans ?_)
  show cc0_transform_1 (grid0.coords t) a * S8x64x128.size a + (j a).val = (j a).val
  rw [idx1 t a]; omega

/-- The written-back blocks, read off the array. -/
theorem read_blk (O : CellTallies nD τ sig (HIx 1)) (b : ℕ) (c : Dev nD) {G : S126976x128.Idx → F .f32}
    (hG : (dat0 W O b c).ArrAt 2 cfg0.N G) (t : Fin grid0.N) :
    ∃ X, Out W t X ∧ ∀ (i : S126976x128.Idx) (j : S1024x128.Idx), (i 0).val = 1024 * t.val + (j 0).val → (i 1).val = (j 1).val → G i = X j := by
  obtain ⟨X, hX, hA⟩ := hG.exists_exact
  obtain ⟨Y, -, hY⟩ := hX t t.isLt (flush0_2 t)
  have e := hA (Function.update (fun _ _ _ => Classical.arbitrary _) 2 X) fun u _ _ => by rw [Function.update_self]
  have hr := ((dat0 W O b c).withAfter (Function.update (fun _ _ _ => Classical.arbitrary _) 2 X)).read_blk_arrAt_eq_flushed 2
    (Pipeline.Window.hdisj_of_index_inj win0_2 fun t t' _ _ h => Fin.ext (by
      have := congrFun h 0
      rw [show win0_2.index t 0 = _ from (idx2 t).1, show win0_2.index t' 0 = _ from (idx2 t').1] at this
      exact this)) cfg0.N t t.isLt (flush0_2 t)
  rw [← e] at hr
  refine ⟨X t, hY, fun i j h0 h1 => ?_⟩
  have hx := congrFun hr j
  have hi : (win0_2.blk t).view.emb j = i := by
    funext a
    refine Fin.ext ((ValueKit.view_emb_slice_whole_unit_val main_v35 _ _ _ _ a).trans ?_)
    match a with
    | ⟨0, _⟩ => show cc0_transform_2 (grid0.coords t) 0 * 1024 + (j 0).val = (i 0).val; rw [(idx2 t).1, h0]; omega
    | ⟨1, _⟩ => show cc0_transform_2 (grid0.coords t) 1 * 128 + (j 1).val = (i 1).val; rw [(idx2 t).2, h1]; omega
  rw [← hi]
  refine hx.trans ?_
  show Function.update (β := fun w => (t : Fin cfg0.N) → (cfg0.win w).block.Idx → Elt F (cfg0.win w).elt) (fun _ _ _ => Classical.arbitrary _) 2 X 2 t j = X t j
  rw [Function.update_self]

theorem packed_of (O : CellTallies nD τ sig (HIx 1)) (b : ℕ) (c : Dev nD) {G : S126976x128.Idx → F .f32}
    (hG : (dat0 W O b c).ArrAt 2 cfg0.N G) : Packed (W (Proc.devRef .tc main_v0)) (W (Proc.devRef .tc main_v34)) G := by
  refine ⟨fun t ht => ?_, fun i j h0 h1 => ?_⟩
  · obtain ⟨X, hX, h⟩ := read_blk W O b c hG ⟨t, by rw [N_0]; omega⟩
    obtain ⟨d, d', e⟩ := hX.1 ht
    rw [fetW_eq] at e
    refine ⟨fet W ⟨t, by rw [N_0]; omega⟩ d, fun j i h0 h1 => fet_eq W _ ht d j i h0 h1, fun i j h0 h1 => ?_⟩
    rw [h i j h0 h1, e]
  · obtain ⟨X, hX, h⟩ := read_blk W O b c hG ⟨123, by rw [N_0]; omega⟩
    rw [h i j h0 h1, hX.2 rfl]

end Cert.Proof

end
-- ==== Proof.Task.lean ====
/-
  The tile task as the launch takes it: what the handshakes carry, the task between its own buffers and semaphores, and the
  obligation it discharges.
-/
module

public import proofs.«01_k».proof.Proof.Tile
public import proofs.«01_k».proof.Proof.Region0

@[expose] public section

noncomputable section

namespace Cert.Proof

open Cert.Proof.Front (any)

open Cert.KernelIdeal Cert.KernelIdeal.Gen
open Idealize.ShloMosaic
open Idealize.ShloMosaic.TcCoe
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The task's own buffers and semaphores -/

/-- The task's scratch buffers. -/
abbrev scratch : Finset (Ref sig .scVector) :=
  {cc1_scratch0, cc1_scratch1, cc1_scratch2, cc1_scratch3, cc1_scratch4, cc1_scratch5, cc1_scratch6, cc1_scratch7, cc1_scratch8, cc1_scratch9,
    cc1_scratch10, cc1_scratch11, cc1_scratch12}
/-- The semaphores the task waits on. -/
abbrev cells : Finset (SemLoc sig) :=
  {.dma cc1_scratch13.sem, .dma cc1_scoped0.sem, .dma cc1_scoped1.sem, .dma cc1_scoped2.sem, .dma cc1_scoped3.sem}

variable (d : Dev nD) (L : grid1.Coords)

abbrev toDev : Ref sig .scVector ↪ DevRef τ sig := ⟨(Proc.scVector (cV L) (jV L)).devRef, Proc.devRef_injective _⟩
abbrev toCell : SemLoc sig ↪ GSem nD τ sig := ⟨fun s => (thr d L, s), fun _ _ h => (Prod.mk.inj h).2⟩

/-- The subcore's other buffers. -/
def restBufs : sProp 𝕄 := bigSep (ownRefs (τ := τ) (.scVector (cV L) (jV L)) \ scratch.map (toDev L)) fun b => iprop(∃ f, ((d, b) : Loc nD τ sig) ↦{fullShare} f)
/-- The subcore's other semaphores. -/
def restSems : sProp 𝕄 := bigSep (ownCells (thr d L) \ cells.map (toCell d L)) fun g => semVal g 0

omit [FloatOps F] in
theorem scratch_sub : scratch.map (toDev L) ⊆ ownRefs (τ := τ) (.scVector (cV L) (jV L)) := fun b hb => by
  obtain ⟨r, hr, rfl⟩ := Finset.mem_map.mp hb
  refine SparseCore.Cfg.mem_ownRefs_of_owner ?_
  have h : ∀ r ∈ scratch, r.space = .vmem := by decide
  rcases r with ⟨sp, i, hi⟩
  obtain rfl : sp = .vmem := h _ hr
  rfl

omit [FloatOps F] in
theorem cells_sub : cells.map (toCell d L) ⊆ ownCells (thr d L) := fun g hg => by
  obtain ⟨s, hs, rfl⟩ := Finset.mem_map.mp hg
  have h : ∀ s ∈ cells, s.isScoped .scVector = true := by decide
  exact mem_ownCells.mpr ⟨rfl, h s hs⟩

omit [FloatOps F] in
theorem ownSems0_V : (ownSems0 (thr d L) : sProp 𝕄)
    = iprop((semVal (thr d L, SemLoc.dma cc1_scratch13.sem) 0 ∗ semVal (thr d L, SemLoc.dma cc1_scoped0.sem) 0 ∗ semVal (thr d L, SemLoc.dma cc1_scoped1.sem) 0
      ∗ semVal (thr d L, SemLoc.dma cc1_scoped2.sem) 0 ∗ semVal (thr d L, SemLoc.dma cc1_scoped3.sem) 0) ∗ restSems d L) := by
  unfold SparseCore.Cfg.ownSems0 restSems
  rw [SparseCore.bigSep_sdiff_split' (cells_sub d L), bigSep_map]
  rw [show (bigSep cells fun i => semVal (toCell d L i) 0 : sProp 𝕄) = _ from by
    rw [SparseCore.bigSep_insert' (by decide), SparseCore.bigSep_insert' (by decide), SparseCore.bigSep_insert' (by decide),
      SparseCore.bigSep_insert' (by decide), bigSep_singleton]]
  rfl

omit [FloatOps F] in
theorem ownBufs_V : (ownBufs (thr d L) : sProp 𝕄)
    = iprop((any (F := F) d L iaV ∗ any (F := F) d L raV ∗ any (F := F) d L ibV ∗ any (F := F) d L g0V ∗ any (F := F) d L g1V ∗ any (F := F) d L g2V
    ∗ any (F := F) d L g3V ∗ any (F := F) d L g4V ∗ any (F := F) d L g5V ∗ any (F := F) d L g6V ∗ any (F := F) d L g7V ∗ any (F := F) d L rbV ∗ any (F := F) d L acV)
      ∗ restBufs (F := F) d L) := by
  unfold SparseCore.Cfg.ownBufs restBufs
  rw [show (thr d L).2 = Proc.scVector (cV L) (jV L) from rfl, SparseCore.bigSep_sdiff_split' (scratch_sub L), bigSep_map]
  rw [show (bigSep scratch fun i => iprop(∃ f, (((thr d L).1, toDev L i) : Loc nD τ sig) ↦{fullShare} f) : sProp 𝕄) = _ from by
    rw [SparseCore.bigSep_insert' (by decide), SparseCore.bigSep_insert' (by decide), SparseCore.bigSep_insert' (by decide),
      SparseCore.bigSep_insert' (by decide), SparseCore.bigSep_insert' (by decide), SparseCore.bigSep_insert' (by decide),
      SparseCore.bigSep_insert' (by decide), SparseCore.bigSep_insert' (by decide), SparseCore.bigSep_insert' (by decide),
      SparseCore.bigSep_insert' (by decide), SparseCore.bigSep_insert' (by decide), SparseCore.bigSep_insert' (by decide), bigSep_singleton]]
  rfl

/-- What the subcore brings is what the task uses and the rest. -/
theorem own_in : iprop(ownBufs (thr d L) ∗ ownSems0 (thr d L)) ⊢ iprop(Front.own (F := F) d L ∗ restBufs (F := F) d L ∗ restSems (F := F) d L) := by
  rw [ownBufs_V, ownSems0_V]
  unfold Front.own
  iintro ⟨⟨⟨H0, H1, H2, H3, H4, H5, H6, H7, H8, H9, H10, H11, H12⟩, Hr⟩, ⟨S0, S1, S2, S3, S4⟩, Hs⟩
  isplitr [Hr Hs]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    isplitl [S2]; · iexact S2
    isplitl [S3]; · iexact S3
    iexact S4
  isplitl [Hr] <;> iassumption

theorem own_out : iprop(Front.own (F := F) d L ∗ restBufs (F := F) d L ∗ restSems (F := F) d L) ⊢ iprop(ownBufs (thr d L) ∗ ownSems0 (thr d L)) := by
  rw [ownBufs_V, ownSems0_V]
  unfold Front.own
  iintro ⟨⟨H0, H1, H2, H3, H4, H5, H6, H7, H8, H9, H10, H11, H12, S0, S1, S2, S3, S4⟩, Hr, Hs⟩
  isplitr [Hs S0 S1 S2 S3 S4]
  · isplitr [Hr]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iexact Hr
  isplitr [Hs]
  · isplitl [S0]; · iexact S0
    isplitl [S1]; · iexact S1
    isplitl [S2]; · iexact S2
    isplitl [S3]; · iexact S3
    iexact S4
  iexact Hs

/-! ## What the handshakes carry -/

/-- The text and the table in thirty-two shares. -/
abbrev shr (w : ℕ) : PosShare TreeShare := pieceOf fullShare 32 (by decide) ⟨w % 32, Nat.mod_lt _ (by decide)⟩

variable (Tx : S204800.Idx → BitVec 32) (E : S64x1000000.Idx → F .f32) (Wp : S8x64x128.Idx → F .f32)

/-- What a task is handed. -/
def goT : sProp 𝕄 := iprop(∃ G, ⌜Packed E Wp G⌝ ∗ Front.pre d L Tx G (shr (wid L)) (shr (wid L)))
/-- What it brings back. -/
def tdT : sProp 𝕄 := iprop(∃ G, ⌜Packed E Wp G⌝ ∗ Front.post d L Tx G (shr (wid L)))

set_option synthInstance.maxHeartbeats 400000 in
instance : BI.Storable (upEmb : UEmb _ 𝕄) (goT d L Tx E Wp) := by unfold goT Front.pre; infer_instance
set_option synthInstance.maxHeartbeats 400000 in
instance : BI.Storable (upEmb : UEmb _ 𝕄) (tdT d L Tx E Wp) := by unfold tdT Front.post; infer_instance

/-- A task's place on the grid. -/
def place (c : Fin 2) (i : Fin 16) : grid1.Coords := fun | 0 => c | 1 => i | ⟨_ + 2, h⟩ => absurd h (Nat.not_lt.2 (Nat.le_add_left _ _))

/-- The one call's payloads at the device's text, table and packed weights. -/
def pay (Tx : Dev nD → S204800.Idx → BitVec 32) (E : Dev nD → S64x1000000.Idx → F .f32) (Wp : Dev nD → S8x64x128.Idx → F .f32) :
    (K (F := F)).Pay (nD := nD) (Val := Elt F) (Name := ℕ) (U := UU) where
  st := fun q d c => match q with | 0 => bigSep Finset.univ fun i : Fin 16 => goT d (place (Fin.cast nCore_zero c) i) (Tx d) (E d) (Wp d)
  dn := fun q d c => match q with | 0 => bigSep Finset.univ fun i : Fin 16 => tdT d (place (Fin.cast nCore_zero c) i) (Tx d) (E d) (Wp d)
  go := fun q d c i => match q with | 0 => goT d (place (Fin.cast nCore_zero c) (Fin.cast nSub_zero i)) (Tx d) (E d) (Wp d)
  td := fun q d c i => match q with | 0 => tdT d (place (Fin.cast nCore_zero c) (Fin.cast nSub_zero i)) (Tx d) (E d) (Wp d)
  x := fun _ _ => iprop(emp)

variable (Txs : Dev nD → S204800.Idx → BitVec 32) (Es : Dev nD → S64x1000000.Idx → F .f32) (Ws : Dev nD → S8x64x128.Idx → F .f32)

instance pay_storable : (pay Txs Es Ws).IsStorable where
  st q d c := match q with
    | 0 => (inferInstance : BI.Storable (upEmb : UEmb _ 𝕄) (bigSep Finset.univ fun i : Fin 16 => goT d (place (Fin.cast nCore_zero c) i) (Txs d) (Es d) (Ws d)))
  dn q d c := match q with
    | 0 => (inferInstance : BI.Storable (upEmb : UEmb _ 𝕄) (bigSep Finset.univ fun i : Fin 16 => tdT d (place (Fin.cast nCore_zero c) i) (Txs d) (Es d) (Ws d)))
  go q d c i := match q with
    | 0 => (inferInstance : BI.Storable (upEmb : UEmb _ 𝕄) (goT d (place (Fin.cast nCore_zero c) (Fin.cast nSub_zero i)) (Txs d) (Es d) (Ws d)))
  td q d c i := match q with
    | 0 => (inferInstance : BI.Storable (upEmb : UEmb _ 𝕄) (tdT d (place (Fin.cast nCore_zero c) (Fin.cast nSub_zero i)) (Txs d) (Es d) (Ws d)))

/-! ## The task's obligation -/

/-- The task on its subcore, from what it is handed to what it brings back. -/
theorem task_run (hT : ∀ j, (Tx j).toNat < 1000000) (O : CellTallies nD τ sig (HIx 1)) (W : Waits sig (HIx 1)) (hO : ∀ g, O g none = 0) :
    iprop(levAts (K (F := F)).L (K (F := F)).lev ∗ emp ∗ goT d L Tx E Wp
        ∗ scopedBufs (thr d L) ∗ scopedSems0 (thr d L) ∗ owes (thr d L) O W)
      ⊢ wp frame (wpE (defs₀ (F := F)) 𝒱₀ (thr d L) none) Set.univ (Tile.theBody (F := F) L)
          fun _ => iprop(tdT d L Tx E Wp ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L)]
  unfold goT
  iintro ⟨#Hlv, -, ⟨%G, %hG, Hpre⟩, Hb, Hs, HO⟩
  ihave Hmw := (show levAts (K (F := F)).L (K (F := F)).lev ⊢ Transfers.MayWaits (thr d L) (default : HIx 1) O from
    (K (F := F)).mayWaits_none (thr := thr d L) hO) $$ Hlv
  ihave Hown := (own_in (F := F) d L) $$ [Hb Hs]
  · isplitl [Hb] <;> iassumption
  icases Hown with ⟨Hown, Hrb, Hrs⟩
  iapply (wp_wand frame (wpE (defs₀ (F := F)) 𝒱₀ (thr d L) none) Set.univ (Q := fun _ => iprop(Front.post d L Tx G (shr (wid L)) ∗ Front.own d L
    ∗ ∃ W', ⌜∀ p ∈ W', p ∈ W ∨ p.2 = none⌝ ∗ owes (thr d L) O W'))) $$ [Hpre Hown HO]
  · iapply (Tile.wp_task d L Tx G (shr (wid L)) (shr (wid L)) O W hT)
    isplitr; · iexact Hmw
    isplitl [Hpre]; · iexact Hpre
    isplitl [Hown]; · iexact Hown
    iexact HO
  iintro %_ ⟨Hpost, Hown, HO⟩
  ihave Hb := (own_out (F := F) d L) $$ [Hown Hrb Hrs]
  · isplitl [Hown]; · iexact Hown
    isplitl [Hrb] <;> iassumption
  icases Hb with ⟨Hb, Hs⟩
  unfold tdT
  isplitl [Hpost]
  · iexists G; isplitr; · ipureintro; exact hG
    iexact Hpost
  isplitl [Hb]; · iexact Hb
  isplitl [Hs]; · iexact Hs
  iexact HO

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector (c : Fin τ.nSC) (s : Fin τ.nSub) :
    defs₀ (F := F) (.scVector c s) 1 ()
      = SparseCore.onTile hcore1 hsub1 (fun c s => Tile.theBody (F := F) (place c s)) ⟨⟩ c s := rfl

set_option maxRecDepth 16384 in
theorem tileObl (hT : ∀ d j, (Txs d j).toNat < 1000000) : (K (F := F)).TileObl (D (F := F)) 𝒱 (pay Txs Es Ws) v₀ 0 := by
  intro d c i O W hO _ _
  simp only [show (pay Txs Es Ws).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task_run d (place ⟨_, hci.1⟩ ⟨_, hci.2⟩) (Txs d) (Es d) (Ws d) (hT d) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (pay Txs Es Ws) 0 := by
  intro d c
  show (bigSep Finset.univ fun i : Fin 16 => goT d (place (Fin.cast nCore_zero c) i) (Txs d) (Es d) (Ws d)) ⊢ |={Set.univ}=> iprop(
      (bigSep Finset.univ fun i : Fin ((K (F := F)).nSub 0) => goT d (place (Fin.cast nCore_zero c) (Fin.cast nSub_zero i)) (Txs d) (Es d) (Ws d))
      ∗ ((bigSep Finset.univ fun i : Fin ((K (F := F)).nSub 0) => tdT d (place (Fin.cast nCore_zero c) (Fin.cast nSub_zero i)) (Txs d) (Es d) (Ws d))
          -∗ bigSep Finset.univ fun i : Fin 16 => tdT d (place (Fin.cast nCore_zero c) i) (Txs d) (Es d) (Ws d)))
  rw [bigSep_tasks (F := F) (fun i => goT d (place (Fin.cast nCore_zero c) i) (Txs d) (Es d) (Ws d)),
    bigSep_tasks (F := F) (fun i => tdT d (place (Fin.cast nCore_zero c) i) (Txs d) (Es d) (Ws d))]
  iintro H; imodintro
  isplitl [H]; · iexact H
  iintro H; iexact H

end Cert.Proof

end
-- ==== Proof.Deal.lean ====
/-
  The SparseCore call's arrays dealt to its thirty-two tasks and put together again: shares of the text and of the packed
  table, and the disjoint rows of the two arrays that the tasks write.
-/
module

public import proofs.«01_k».proof.Proof.Task

@[expose] public section

noncomputable section

namespace Cert.Proof

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Front (sgS ptS singleV partV)

variable {F : FTy → Type} [FloatOps F]

local notation "𝕄" => MT nD τ sig (HIx 1) (Elt F) ℕ UU ℕ

/-- A task's place, its core and subcore paired. -/
abbrev pl (p : Fin 2 × Fin 16) : grid1.Coords := place p.1 p.2
/-- A task's number as one of the thirty-two. -/
def num (p : Fin 2 × Fin 16) : Fin 32 := ⟨wid (pl p) % 32, Nat.mod_lt _ (by decide)⟩

theorem num_bij : Function.Bijective num := by decide

theorem num_val (p : Fin 2 × Fin 16) : (num p).val = wid (pl p) := Nat.mod_eq_of_lt (wid_lt _)

theorem wid_inj {p p' : Fin 2 × Fin 16} (h : wid (pl p) = wid (pl p')) : p = p' :=
  num_bij.1 (Fin.ext (by rw [num_val, num_val, h]))

theorem wid_surj {w : ℕ} (h : w < 32) : ∃ p, wid (pl p) = w := by
  obtain ⟨p, hp⟩ := num_bij.2 ⟨w, h⟩
  exact ⟨p, by rw [← num_val, hp]⟩

/-! ## The rows that a task writes -/

/-- The entries of the two arrays that a task writes. -/
abbrev sgI (p : Fin 2 × Fin 16) : Finset S4096x128.Idx := (sgS (pl p)).view.set
abbrev ptI (p : Fin 2 × Fin 16) : Finset S4096.Idx := (ptS (pl p)).view.set

theorem sg_emb (L : grid1.Coords) (x : S128x128.Idx) (i : S4096x128.Idx) (h0 : (i 0).val = 128 * wid L + (x 0).val) (h1 : (i 1).val = (x 1).val) :
    (sgS L).view.emb x = i := by
  funext a
  refine Fin.ext ((ValueKit.view_emb_slice_whole_unit_val main_v36_0_scv _ _ _ _ a).trans ?_)
  match a with
  | ⟨0, _⟩ => have e := congrFun (k1_off2_eq L) 0; replace e : k1_off2 L 0 = 256 * (L 1).val + 128 * (L 0).val := e; show k1_off2 L 0 + (x 0).val = (i 0).val; rw [e]; show 256 * (L 1).val + 128 * (L 0).val + (x 0).val = (i 0).val; rw [h0]; show _ = 128 * (2 * (L 1).val + (L 0).val) + (x 0).val; omega
  | ⟨1, _⟩ => have e := congrFun (k1_off2_eq L) 1; replace e : k1_off2 L 1 = 0 := e; show k1_off2 L 1 + (x 1).val = (i 1).val; rw [h1, e]; omega

theorem pt_emb (L : grid1.Coords) (x : S128.Idx) (i : S4096.Idx) (h0 : (i 0).val = 128 * wid L + (x 0).val) :
    (ptS L).view.emb x = i := by
  funext a
  refine Fin.ext ((ValueKit.view_emb_slice_whole_unit_val main_v36_1_scv _ _ _ _ a).trans ?_)
  match a with
  | ⟨0, _⟩ => have e := congrFun (k1_off38_eq L) 0; replace e : k1_off38 L 0 = 256 * (L 1).val + 128 * (L 0).val := e; show k1_off38 L 0 + (x 0).val = (i 0).val; rw [e]; show 256 * (L 1).val + 128 * (L 0).val + (x 0).val = (i 0).val; rw [h0]; show _ = 128 * (2 * (L 1).val + (L 0).val) + (x 0).val; omega

theorem sg_mem (L : grid1.Coords) (i : S4096x128.Idx) : i ∈ (sgS L).view.set ↔ (i 0).val / 128 = wid L := by
  constructor
  · intro h
    obtain ⟨x, -, hx⟩ := Finset.mem_map.mp h
    have hx0 : (x 0).val < 128 := (x 0).isLt
    have h0 : (i 0).val = k1_off2 L 0 + (x 0).val := by
      rw [← hx]; exact ValueKit.view_emb_slice_whole_unit_val main_v36_0_scv _ _ _ _ 0
    rw [k1_off2_eq] at h0
    replace h0 : (i 0).val = 256 * (L 1).val + 128 * (L 0).val + (x 0).val := h0
    show _ = 2 * (L 1).val + (L 0).val
    omega
  · intro h
    have := sg_emb L (fun | ⟨0, _⟩ => ⟨(i 0).val % 128, Nat.mod_lt _ (by decide)⟩ | ⟨1, _⟩ => ⟨(i 1).val, (i 1).isLt⟩) i
      (by show (i 0).val = 128 * wid L + (i 0).val % 128; omega) rfl
    rw [← this]; exact View.emb_mem_set _ _

theorem pt_mem (L : grid1.Coords) (i : S4096.Idx) : i ∈ (ptS L).view.set ↔ (i 0).val / 128 = wid L := by
  constructor
  · intro h
    obtain ⟨x, -, hx⟩ := Finset.mem_map.mp h
    have hx0 : (x 0).val < 128 := (x 0).isLt
    have h0 : (i 0).val = k1_off38 L 0 + (x 0).val := by
      rw [← hx]; exact ValueKit.view_emb_slice_whole_unit_val main_v36_1_scv _ _ _ _ 0
    rw [k1_off38_eq] at h0
    replace h0 : (i 0).val = 256 * (L 1).val + 128 * (L 0).val + (x 0).val := h0
    show _ = 2 * (L 1).val + (L 0).val
    omega
  · intro h
    have := pt_emb L (fun | ⟨0, _⟩ => ⟨(i 0).val % 128, Nat.mod_lt _ (by decide)⟩) i
      (by show (i 0).val = 128 * wid L + (i 0).val % 128; omega)
    rw [← this]; exact View.emb_mem_set _ _

theorem sg_disj : ∀ p ∈ (Finset.univ : Finset (Fin 2 × Fin 16)), ∀ p' ∈ (Finset.univ : Finset (Fin 2 × Fin 16)), p ≠ p' →
    Disjoint (sgI p) (sgI p') := fun p _ p' _ h =>
  Finset.disjoint_left.mpr fun i hi hi' => h (wid_inj (((sg_mem _ i).mp hi).symm.trans ((sg_mem _ i).mp hi')))

theorem pt_disj : ∀ p ∈ (Finset.univ : Finset (Fin 2 × Fin 16)), ∀ p' ∈ (Finset.univ : Finset (Fin 2 × Fin 16)), p ≠ p' →
    Disjoint (ptI p) (ptI p') := fun p _ p' _ h =>
  Finset.disjoint_left.mpr fun i hi hi' => h (wid_inj (((pt_mem _ i).mp hi).symm.trans ((pt_mem _ i).mp hi')))

theorem sg_cover : (Finset.univ : Finset (Fin 2 × Fin 16)).biUnion sgI = Finset.univ :=
  Finset.eq_univ_iff_forall.mpr fun i => by
    have h0 : ((i : S4096x128.Idx) 0).val < 4096 := (i 0).isLt
    obtain ⟨p, hp⟩ := wid_surj (w := ((i : S4096x128.Idx) 0).val / 128) (by omega)
    exact Finset.mem_biUnion.mpr ⟨p, Finset.mem_univ _, (sg_mem _ i).mpr hp.symm⟩

theorem pt_cover : (Finset.univ : Finset (Fin 2 × Fin 16)).biUnion ptI = Finset.univ :=
  Finset.eq_univ_iff_forall.mpr fun i => by
    have h0 : ((i : S4096.Idx) 0).val < 4096 := (i 0).isLt
    obtain ⟨p, hp⟩ := wid_surj (w := ((i : S4096.Idx) 0).val / 128) (by omega)
    exact Finset.mem_biUnion.mpr ⟨p, Finset.mem_univ _, (pt_mem _ i).mpr hp.symm⟩

theorem tab_set : (tabS).view.set = Finset.univ :=
  Finset.eq_univ_iff_forall.mpr fun i => by
    have : (tabS).view.emb i = i := by
      funext a
      refine Fin.ext ((ValueKit.view_emb_slice_whole_unit_val main_v35_scv _ _ _ _ a).trans ?_)
      match a with
      | ⟨0, _⟩ => show 0 + (i 0).val = (i 0).val; omega
      | ⟨1, _⟩ => show 0 + (i 1).val = (i 1).val; omega
    rw [← this]; exact View.emb_mem_set _ _

/-! ## Dealing -/

variable (d : Dev nD)

/-- A buffer whole is its thirty-two shares. -/
theorem shares {ℓ : Loc nD τ sig} (f : Buf (Elt F) ℓ) :
    (ℓ ↦{fullShare} f : sProp 𝕄) = bigSep Finset.univ fun p : Fin 2 × Fin 16 => ℓ ↦{shr (wid (pl p))} f := by
  rw [pointsTo_piecesOf Finset.univ f (o := 32) (by decide) fullShare, bigSep_univ_equiv (Equiv.ofBijective num num_bij)]
  rfl

abbrev txL : Loc nD τ sig := (d.tc : Thread nD τ).loc main_arg0
abbrev tabL : Loc nD τ sig := (d.tc : Thread nD τ).loc main_v35
abbrev sgL : Loc nD τ sig := (d.tc : Thread nD τ).loc main_v36_0
abbrev ptL : Loc nD τ sig := (d.tc : Thread nD τ).loc main_v36_1

theorem sg_rows (f : Buf (Elt F) (sgL d)) :
    (sgL d ↦{fullShare} f : sProp 𝕄) = bigSep Finset.univ fun p : Fin 2 × Fin 16 => sgL d ↦[sgI p]{fullShare} f := by
  rw [← pointsTo_biUnion Finset.univ (ℓ := sgL d) sgI sg_disj, sg_cover]

theorem pt_rows (f : Buf (Elt F) (ptL d)) :
    (ptL d ↦{fullShare} f : sProp 𝕄) = bigSep Finset.univ fun p : Fin 2 × Fin 16 => ptL d ↦[ptI p]{fullShare} f := by
  rw [← pointsTo_biUnion Finset.univ (ℓ := ptL d) ptI pt_disj, pt_cover]

variable (Tx : S204800.Idx → BitVec 32) (E : S64x1000000.Idx → F .f32) (Wp : S8x64x128.Idx → F .f32)

theorem deal1 (G : S126976x128.Idx → F .f32) (hG : Packed E Wp G) (f : Buf (Elt F) (sgL d)) (g : Buf (Elt F) (ptL d)) (p : Fin 2 × Fin 16) :
    iprop((txL d ↦{shr (wid (pl p))} (Tx : Buf (Elt F) (txL d))) ∗ (tabL d ↦{shr (wid (pl p))} (G : Buf (Elt F) (tabL d)))
        ∗ (sgL d ↦[sgI p]{fullShare} f) ∗ (ptL d ↦[ptI p]{fullShare} g))
      ⊢ goT d (pl p) Tx E Wp := by
  unfold goT Front.pre
  rw [tab_set]
  iintro ⟨Hx, Ht, Hs, Hp⟩
  iexists G
  isplitr; · ipureintro; exact hG
  isplitl [Hx]; · iexact Hx
  isplitl [Ht]; · iexact Ht
  isplitl [Hs]; · iexists f; iexact Hs
  iexists g; iexact Hp

/-- The four arrays dealt. -/
theorem deal (G : S126976x128.Idx → F .f32) (hG : Packed E Wp G) (f : Buf (Elt F) (sgL d)) (g : Buf (Elt F) (ptL d)) :
    iprop((txL d ↦{fullShare} (Tx : Buf (Elt F) (txL d))) ∗ (tabL d ↦{fullShare} (G : Buf (Elt F) (tabL d))) ∗ (sgL d ↦{fullShare} f) ∗ (ptL d ↦{fullShare} g))
      ⊢ bigSep Finset.univ fun p : Fin 2 × Fin 16 => goT d (pl p) Tx E Wp := by
  rw [shares (ℓ := txL d) Tx, shares (ℓ := tabL d) G, sg_rows, pt_rows, ← bigSep_sep', ← bigSep_sep', ← bigSep_sep']
  exact bigSep_mono fun p _ => deal1 d Tx E Wp G hG f g p

/-! ## Putting together -/

/-- What the tasks leave in the two arrays: each task's rows from some packed table. -/
def Good (S : S4096x128.Idx → F .f32) (Pt : S4096.Idx → F .f32) : Prop :=
  ∀ w, w < 32 → ∃ G, Packed E Wp G
    ∧ (∀ (i : S4096x128.Idx) (j : S128x128.Idx), (i 0).val = 128 * w + (j 0).val → (i 1).val = (j 1).val → S i = singleV Tx G w j)
    ∧ ∀ (i : S4096.Idx) (j : S128.Idx), (i 0).val = 128 * w + (j 0).val → Pt i = partV Tx G w j

/-- One task's results: its table, and what the two arrays hold at its rows. -/
def TaskRes (p : Fin 2 × Fin 16) (y : (S126976x128.Idx → F .f32) × Buf (Elt F) (sgL d) × Buf (Elt F) (ptL d)) : Prop :=
  Packed E Wp y.1 ∧ (sgS (pl p)).view.read (Elt F) y.2.1 = singleV Tx y.1 (wid (pl p)) ∧ (ptS (pl p)).view.read (Elt F) y.2.2 = partV Tx y.1 (wid (pl p))

theorem td_open (p : Fin 2 × Fin 16) : tdT d (pl p) Tx E Wp
    ⊢ iprop((txL d ↦{shr (wid (pl p))} (Tx : Buf (Elt F) (txL d)))
      ∗ ∃ y : (S126976x128.Idx → F .f32) × Buf (Elt F) (sgL d) × Buf (Elt F) (ptL d), ⌜TaskRes d Tx E Wp p y⌝
        ∗ (sgL d ↦[sgI p]{fullShare} y.2.1) ∗ (ptL d ↦[ptI p]{fullShare} y.2.2)) := by
  unfold tdT Front.post
  iintro ⟨%G, %hG, Hx, ⟨%f, %hf, Hs⟩, ⟨%g, %hg, Hp⟩⟩
  isplitl [Hx]; · iexact Hx
  iexists (G, f, g)
  isplitr; · ipureintro; exact ⟨hG, hf, hg⟩
  isplitl [Hs]; · iexact Hs
  iexact Hp

theorem good_of (y : Fin 2 × Fin 16 → (S126976x128.Idx → F .f32) × Buf (Elt F) (sgL d) × Buf (Elt F) (ptL d)) (hy : ∀ p, TaskRes d Tx E Wp p (y p))
    (S : Buf (Elt F) (sgL d)) (hS : ∀ p, ∀ i ∈ sgI p, S i = (y p).2.1 i)
    (P : Buf (Elt F) (ptL d)) (hP : ∀ p, ∀ i ∈ ptI p, P i = (y p).2.2 i) : Good Tx E Wp S P := by
  intro w hw
  obtain ⟨p, rfl⟩ := wid_surj hw
  obtain ⟨h1, h2, h3⟩ := hy p
  refine ⟨(y p).1, h1, fun i j h0 h1 => ?_, fun i j h0 => ?_⟩
  · have e := sg_emb (pl p) j i h0 h1
    rw [← congrFun h2 j, ← e, hS p _ (View.emb_mem_set _ _)]
    rfl
  · have e := pt_emb (pl p) j i h0
    rw [← congrFun h3 j, ← e, hP p _ (View.emb_mem_set _ _)]
    rfl

theorem join (y : Fin 2 × Fin 16 → (S126976x128.Idx → F .f32) × Buf (Elt F) (sgL d) × Buf (Elt F) (ptL d)) (hy : ∀ p, TaskRes d Tx E Wp p (y p)) :
    (bigSep Finset.univ fun p : Fin 2 × Fin 16 => iprop((sgL d ↦[sgI p]{fullShare} (y p).2.1) ∗ (ptL d ↦[ptI p]{fullShare} (y p).2.2)))
      ⊢ (iprop(∃ (S : Buf (Elt F) (sgL d)) (P : Buf (Elt F) (ptL d)), ⌜Good Tx E Wp S P⌝ ∗ (sgL d ↦{fullShare} S) ∗ (ptL d ↦{fullShare} P)) : sProp 𝕄) := by
  rw [bigSep_sep']
  iintro ⟨Hs, Hp⟩
  ihave Hs := (pointsTo_biUnion_join (ℓ := sgL d) (q := fullShare) (Val := Elt F) Finset.univ sgI
    (fun p => (y p).2.1) (y (0, 0)).2.1 sg_disj) $$ Hs
  ihave Hp := (pointsTo_biUnion_join (ℓ := ptL d) (q := fullShare) (Val := Elt F) Finset.univ ptI
    (fun p => (y p).2.2) (y (0, 0)).2.2 pt_disj) $$ Hp
  rw [sg_cover, pt_cover]
  icases Hs with ⟨%S, %hS, Hs⟩
  icases Hp with ⟨%P, %hP, Hp⟩
  iexists S, P
  isplitr; · ipureintro; exact good_of d Tx E Wp y hy S (fun p => hS p (Finset.mem_univ p)) P (fun p => hP p (Finset.mem_univ p))
  isplitl [Hs]; · iexact Hs
  iexact Hp

theorem gather : (bigSep Finset.univ fun p : Fin 2 × Fin 16 => tdT d (pl p) Tx E Wp)
    ⊢ iprop((txL d ↦{fullShare} (Tx : Buf (Elt F) (txL d)))
      ∗ ∃ (S : Buf (Elt F) (sgL d)) (P : Buf (Elt F) (ptL d)), ⌜Good Tx E Wp S P⌝ ∗ (sgL d ↦{fullShare} S) ∗ (ptL d ↦{fullShare} P)) := by
  refine BIBase.Entails.trans (bigSep_mono fun p _ => td_open d Tx E Wp p) ?_
  rw [bigSep_sep', ← shares (ℓ := txL d) Tx]
  have hne : Nonempty ((S126976x128.Idx → F .f32) × Buf (Elt F) (sgL d) × Buf (Elt F) (ptL d)) :=
    ⟨fun _ => Scalar.ofBits .f32 0x00000000#32, (fun _ => Scalar.ofBits .f32 0x00000000#32 : S4096x128.Idx → F .f32), (fun _ => Scalar.ofBits .f32 0x00000000#32 : S4096.Idx → F .f32)⟩
  iintro ⟨Hx, H⟩
  isplitl [Hx]; · iexact Hx
  ihave H := (bigSep_exists_pi (Y := fun _ : Fin 2 × Fin 16 => (S126976x128.Idx → F .f32) × Buf (Elt F) (sgL d) × Buf (Elt F) (ptL d)) Finset.univ
    (fun p y => iprop(⌜TaskRes d Tx E Wp p y⌝ ∗ (sgL d ↦[sgI p]{fullShare} y.2.1) ∗ (ptL d ↦[ptI p]{fullShare} y.2.2)))) $$ H
  icases H with ⟨%y, H⟩
  ihave H := (bigSep_pure_sep Finset.univ (fun p => TaskRes d Tx E Wp p (y p))
    (fun p => iprop((sgL d ↦[sgI p]{fullShare} (y p).2.1) ∗ (ptL d ↦[ptI p]{fullShare} (y p).2.2)))) $$ H
  icases H with ⟨%hy, H⟩
  iapply (join d Tx E Wp y (fun p => hy p (Finset.mem_univ p)))
  iexact H

/-! ## As the handshakes carry them -/

variable (Txs : Dev nD → S204800.Idx → BitVec 32) (Es : Dev nD → S64x1000000.Idx → F .f32) (Ws : Dev nD → S8x64x128.Idx → F .f32)

theorem st_eq : (bigSep Finset.univ fun c : Fin ((K (F := F)).nCore 0) => (pay Txs Es Ws).st 0 d c)
    = bigSep Finset.univ fun p : Fin 2 × Fin 16 => goT d (pl p) (Txs d) (Es d) (Ws d) := by
  rw [bigSep_univ_prod]; rfl

theorem dn_eq : (bigSep Finset.univ fun c : Fin ((K (F := F)).nCore 0) => (pay Txs Es Ws).dn 0 d c)
    = bigSep Finset.univ fun p : Fin 2 × Fin 16 => tdT d (pl p) (Txs d) (Es d) (Ws d) := by
  rw [bigSep_univ_prod]; rfl

end Cert.Proof

end
-- ==== Proof.Host.lean ====
/-
  The program's host operations, before the calls and between them, as two lines of operations: which arrays they touch, and
  what they leave.
-/
module

public import proofs.«01_k».proof.Proof.Deal
public import Idealize.ShloMosaic.Lib.StableHlo.RunRead

@[expose] public section

noncomputable section

namespace Cert.Proof

open Cert.KernelIdeal Cert.KernelIdeal.Gen
open Idealize.ShloMosaic
open Idealize.ShloMosaic.TcCoe
open Idealize.ShloMosaic.StableHlo (seq after)
open Idealize.ShloMosaic.SparseCore.Cfg (HIx)
open Idealize.SL Idealize.SL.Sem

variable {F : FTy → Type} [FloatOps F]

abbrev trT : (⟨S1000000x64, .f32⟩ : BufTy).Contents (Elt F) → (⟨S64x1000000, .f32⟩ : BufTy).Contents (Elt F) :=
  (transpose S64x1000000 [1, 0] · transposes_S1000000x64_S64x1000000_1_0)
abbrev trW : (⟨S16x64, .f32⟩ : BufTy).Contents (Elt F) → (⟨S64x16, .f32⟩ : BufTy).Contents (Elt F) :=
  (transpose S64x16 [1, 0] · transposes_S16x64_S64x16_1_0)
abbrev spread : (⟨S_, .f32⟩ : BufTy).Contents (Elt F) → (⟨S8x64x128, .f32⟩ : BufTy).Contents (Elt F) := broadcastInDim S8x64x128 ![] bcast_S_S8x64x128
abbrev one : (⟨S_, .i32⟩ : BufTy).Contents (Elt F) → (⟨S1, .i32⟩ : BufTy).Contents (Elt F) := broadcastInDim S1 ![] bcast_S_S1
/-- Two words as one array. -/
abbrev two : (⟨S1, .i32⟩ : BufTy).Contents (Elt F) → (⟨S1, .i32⟩ : BufTy).Contents (Elt F) → (⟨S2, .i32⟩ : BufTy).Contents (Elt F) :=
  fun a b => concatenate S2 0 [⟨S1, a⟩, ⟨S1, b⟩] concatenates_S1_S1_S2_d0
/-- The weights put at two indices' place. -/
abbrev put : (⟨S8x64x128, .f32⟩ : BufTy).Contents (Elt F) → (⟨S2, .i32⟩ : BufTy).Contents (Elt F) → (⟨S64x16, .f32⟩ : BufTy).Contents (Elt F)
    → (⟨S8x64x128, .f32⟩ : BufTy).Contents (Elt F) :=
  fun x i u => Host.scatter scatter_S8x64x128_S2_S64x16_01_0_02_0 (fun _ b => b) x i u

/-- The host operations before the calls: the table and the weights turned, the weights put eight times. -/
abbrev ops1 : List (HloOp τ sig (Elt F)) :=
  [StableHlo.unary main_arg2 main_v0 trT, StableHlo.unary main_arg3 main_v1 trW,
   StableHlo.nullary main_cst (constant S_ .f32 0x00000000#32), StableHlo.unary main_cst main_v2 spread,
   StableHlo.nullary main_c (constantI S_ 32 0#32), StableHlo.unary main_c main_v3 one,
   StableHlo.nullary main_c_0 (constantI S_ 32 0#32), StableHlo.unary main_c_0 main_v4 one,
   StableHlo.binary main_v3 main_v4 main_v5 two, StableHlo.ternary main_v2 main_v5 main_v1 main_v6 put,
   StableHlo.nullary main_c_1 (constantI S_ 32 1#32), StableHlo.unary main_c_1 main_v7 one,
   StableHlo.nullary main_c_2 (constantI S_ 32 16#32), StableHlo.unary main_c_2 main_v8 one,
   StableHlo.binary main_v7 main_v8 main_v9 two, StableHlo.ternary main_v6 main_v9 main_v1 main_v10 put,
   StableHlo.nullary main_c_3 (constantI S_ 32 2#32), StableHlo.unary main_c_3 main_v11 one,
   StableHlo.nullary main_c_4 (constantI S_ 32 32#32), StableHlo.unary main_c_4 main_v12 one,
   StableHlo.binary main_v11 main_v12 main_v13 two, StableHlo.ternary main_v10 main_v13 main_v1 main_v14 put,
   StableHlo.nullary main_c_5 (constantI S_ 32 3#32), StableHlo.unary main_c_5 main_v15 one,
   StableHlo.nullary main_c_6 (constantI S_ 32 48#32), StableHlo.unary main_c_6 main_v16 one,
   StableHlo.binary main_v15 main_v16 main_v17 two, StableHlo.ternary main_v14 main_v17 main_v1 main_v18 put,
   StableHlo.nullary main_c_7 (constantI S_ 32 4#32), StableHlo.unary main_c_7 main_v19 one,
   StableHlo.nullary main_c_8 (constantI S_ 32 64#32), StableHlo.unary main_c_8 main_v20 one,
   StableHlo.binary main_v19 main_v20 main_v21 two, StableHlo.ternary main_v18 main_v21 main_v1 main_v22 put,
   StableHlo.nullary main_c_9 (constantI S_ 32 5#32), StableHlo.unary main_c_9 main_v23 one,
   StableHlo.nullary main_c_10 (constantI S_ 32 80#32), StableHlo.unary main_c_10 main_v24 one,
   StableHlo.binary main_v23 main_v24 main_v25 two, StableHlo.ternary main_v22 main_v25 main_v1 main_v26 put,
   StableHlo.nullary main_c_11 (constantI S_ 32 6#32), StableHlo.unary main_c_11 main_v27 one,
   StableHlo.nullary main_c_12 (constantI S_ 32 96#32), StableHlo.unary main_c_12 main_v28 one,
   StableHlo.binary main_v27 main_v28 main_v29 two, StableHlo.ternary main_v26 main_v29 main_v1 main_v30 put,
   StableHlo.nullary main_c_13 (constantI S_ 32 7#32), StableHlo.unary main_c_13 main_v31 one,
   StableHlo.nullary main_c_14 (constantI S_ 32 112#32), StableHlo.unary main_c_14 main_v32 one,
   StableHlo.binary main_v31 main_v32 main_v33 two, StableHlo.ternary main_v30 main_v33 main_v1 main_v34 put]

/-- The arrays that they write. -/
abbrev wr1 : List (Ref sig .tc) :=
  [main_v0, main_v1, main_cst, main_v2, main_c, main_v3, main_c_0, main_v4, main_v5, main_v6, main_c_1, main_v7, main_c_2, main_v8, main_v9, main_v10, main_c_3, main_v11, main_c_4, main_v12, main_v13, main_v14, main_c_5, main_v15, main_c_6, main_v16, main_v17, main_v18, main_c_7, main_v19, main_c_8, main_v20, main_v21, main_v22, main_c_9, main_v23, main_c_10, main_v24, main_v25, main_v26, main_c_11, main_v27, main_c_12, main_v28, main_v29, main_v30, main_c_13, main_v31, main_c_14, main_v32, main_v33, main_v34]

/-- The host operations between the SparseCore call and the last call. -/
abbrev ops2 : List (HloOp τ sig (Elt F)) :=
  [StableHlo.reshape main_v36_1 main_v37 (rfl : (.f32 : EltTy) = .f32) shapeCasts_S4096_S32x128,
   StableHlo.unary main_arg0 main_v38 ((extractStridedSlice S4096 ![0] · slices_S204800_S4096_0) : (⟨S204800, .i32⟩ : BufTy).Contents (Elt F) → (⟨S4096, .i32⟩ : BufTy).Contents (Elt F)),
   StableHlo.reshape main_v38 main_v39 (rfl : (.i32 : EltTy) = .i32) shapeCasts_S4096_S4096x1,
   StableHlo.reshape main_arg4 main_v40 (rfl : (.f32 : EltTy) = .f32) shapeCasts_S16_S1x16]

abbrev wr2 : List (Ref sig .tc) := [main_v37, main_v38, main_v39, main_v40]

theorem main_eq (d : Dev nD) : main (F := F) d = (seq ops1 >>= fun _ => Prog.lift (.customCall (SparseCore.inner (Pipeline.entry 0)) ()) >>= fun _ =>
    (K (F := F)).run d 0 >>= fun _ => seq ops2 >>= fun _ => Prog.lift (.customCall (SparseCore.inner (Pipeline.entry 1)) ()) >>= fun _ => pure ⟨⟩) := by
  simp only [main, seq, bind_assoc, pure_bind]

theorem ops1_writes : (ops1 (F := F)).map HloOp.writes = wr1.map fun w => {Proc.devRef (τ := τ) .tc w} := rfl
theorem ops2_writes : (ops2 (F := F)).map HloOp.writes = wr2.map fun w => {Proc.devRef (τ := τ) .tc w} := rfl

theorem ops1_fresh : ∀ op ∈ (ops1 (F := F)), op.fresh = ∅ := by
  rw [← List.forall_iff_forall_mem]; simp only [List.Forall]; repeat' constructor
theorem ops2_fresh : ∀ op ∈ (ops2 (F := F)), op.fresh = ∅ := by
  rw [← List.forall_iff_forall_mem]; simp only [List.Forall]; repeat' constructor

theorem ops1_sub : ∀ op ∈ (ops1 (F := F)), op.bufs ⊆ Pipeline.ucRefs τ sig := by
  have h : (ops1 (F := F)).Forall fun op => op.bufs ⊆ StableHlo.tcRefs τ sig := by
    simp only [List.Forall, StableHlo.nullary_bufs_sub, StableHlo.unary_bufs_sub, StableHlo.binary_bufs_sub, StableHlo.ternary_bufs_sub, and_self]
  exact fun op hop => Pipeline.sub_ucRefs op (List.forall_iff_forall_mem.mp h op hop)

/-- The unscoped arrays but the packed table, which the tasks keep. -/
abbrev restS : Finset (DevRef τ sig) := Pipeline.ucRefs τ sig \ {Proc.devRef .tc main_v35}

theorem ops2_sub : ∀ op ∈ (ops2 (F := F)), op.bufs ⊆ restS := by
  have h : (ops2 (F := F)).Forall fun op => op.bufs ⊆ StableHlo.tcRefs τ sig := by
    simp only [List.Forall, StableHlo.reshape_bufs_sub, StableHlo.unary_bufs_sub, and_self]
  have h2 : (ops2 (F := F)).Forall fun op => Proc.devRef .tc main_v35 ∉ op.bufs := by
    refine ⟨?_, ?_, ?_, ?_⟩
    · show _ ∉ ({Proc.devRef .tc main_v36_1, Proc.devRef .tc main_v37} : Finset (DevRef τ sig)); decide
    · show _ ∉ ({Proc.devRef .tc main_arg0, Proc.devRef .tc main_v38} : Finset (DevRef τ sig)); decide
    · show _ ∉ ({Proc.devRef .tc main_v38, Proc.devRef .tc main_v39} : Finset (DevRef τ sig)); decide
    · show _ ∉ ({Proc.devRef .tc main_arg4, Proc.devRef .tc main_v40} : Finset (DevRef τ sig)); decide
  intro op hop b hb
  refine Finset.mem_sdiff.mpr ⟨Pipeline.sub_ucRefs op (List.forall_iff_forall_mem.mp h op hop) hb, fun hv => ?_⟩
  rw [Finset.mem_singleton.mp hv] at hb
  exact List.forall_iff_forall_mem.mp h2 op hop hb

theorem after1 (V : Valuation τ sig (Elt F)) {r : Ref sig .tc} (hr : r ∉ wr1) : after ops1 V (Proc.devRef .tc r) = V (Proc.devRef .tc r) :=
  StableHlo.after_unwritten wr1 ops1_writes hr V
theorem after2 (V : Valuation τ sig (Elt F)) {r : Ref sig .tc} (hr : r ∉ wr2) : after ops2 V (Proc.devRef .tc r) = V (Proc.devRef .tc r) :=
  StableHlo.after_unwritten wr2 ops2_writes hr V

end Cert.Proof

end
-- ==== Proof.Region2.lean ====
/-
  The second TensorCore call: its body as a function of the four arrays that it reads, and the call as a region of the
  TensorCore's thread.
-/
module

public import proofs.«01_k».proof.Proof.Region0

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig (HIx 1) (Elt F) ℕ UU ℕ

/-- The result from the gathered rows, the tiles' sums, the first tokens and the bias. -/
def finish (S : S4096x128.Idx → F .f32) (P : S32x128.Idx → F .f32) (T1 : S4096x1.Idx → BitVec 32) (B : S1x16.Idx → F .f32) : S4096x16.Idx → F .f32 :=
  k2_pay1 (F := F) (k2_pay2 (F := F) S) (k2_pay4 (F := F) S T1) (k2_pay5 (F := F) T1) P B

/-- The body of the second call: what it leaves in the result's buffer. -/
noncomputable def finishRun (c : Dev nD) (M0 : Memref sig .tc .vmem S4096x128 .f32) (h0 : M0.IsWhole) (M1 : Memref sig .tc .vmem S32x128 .f32) (h1 : M1.IsWhole)
    (M2 : Memref sig .tc .vmem S4096x1 .i32) (h2 : M2.IsWhole) (M3 : Memref sig .tc .vmem S1x16 .f32) (h3 : M3.IsWhole)
    (M4 : Memref sig .tc .vmem S4096x16 .f32) (h4 : M4.IsWhole)
    (f0 : Bf (F := F) c M0) (f1 : Bf (F := F) c M1) (f2 : Bf (F := F) c M2) (f3 : Bf (F := F) c M3) (f4 : Bf (F := F) c M4) :
    { W : Bf (F := F) c M4 // ∀ (Q : PUnit → sProp 𝕄),
        iprop(pt c M0 f0 ∗ pt c M1 f1 ∗ pt c M2 f2 ∗ pt c M3 f3 ∗ pt c M4 f4
            ∗ (iprop(pt c M0 f0 ∗ pt c M1 f1 ∗ pt c M2 f2 ∗ pt c M3 f3 ∗ pt c M4 W) -∗ Q ⟨⟩))
          ⊢ wp frame (wpE (defs₀ (F := F)) 𝒱₀ (c : Thread nD τ) none) Set.univ (cc2_body M0 h0 M1 h1 M2 h2 M3 h3 M4 h4) Q } := by
  refine ⟨?_, fun Q => ?run⟩
  case run =>
    iintro ⟨H0, H1, H2, H3, H4, Hk⟩
    rw [cc2_body_eq_skeleton]; unfold cc2_body_skel
    rw [k2_part1_eq_skeleton]; unfold k2_part1_skel
    sl_exec!
    sl_step
    iapply Hk
    isplitl [H0]; · iexact H0
    isplitl [H1]; · iexact H1
    isplitl [H2]; · iexact H2
    isplitl [H3]; · iexact H3
    iexact H4

theorem zero2 : ∀ a : Fin 2, (![0, 0] : Fin 2 → ℕ) a = 0 := by decide

/-- A load of everything reads everything. -/
theorem whole_read {sp : Space} {s : Shape} {e : EltTy} (M : Memref sig .tc sp s e) (f : M.view.ty.Contents (Elt F)) (off : Fin s.rank → ℕ)
    (hoff : ∀ a, off a = 0) (h : ∀ a, off a + s.size a ≤ s.size a) :
    View.readAt (Elt F) M.view (Rect.unit (s := s) off s.size h).toLoadRect f = M.view.read (Elt F) f := by
  funext j
  rw [View.readAt_apply]
  congr 1
  funext a
  exact Fin.ext (by show off a + 1 * (j a).val = (j a).val; rw [hoff a]; omega)

theorem finish_val (c : Dev nD) (M0 : Memref sig .tc .vmem S4096x128 .f32) (h0 : M0.IsWhole) (M1 : Memref sig .tc .vmem S32x128 .f32) (h1 : M1.IsWhole)
    (M2 : Memref sig .tc .vmem S4096x1 .i32) (h2 : M2.IsWhole) (M3 : Memref sig .tc .vmem S1x16 .f32) (h3 : M3.IsWhole)
    (M4 : Memref sig .tc .vmem S4096x16 .f32) (h4 : M4.IsWhole)
    (f0 : Bf (F := F) c M0) (f1 : Bf (F := F) c M1) (f2 : Bf (F := F) c M2) (f3 : Bf (F := F) c M3) (f4 : Bf (F := F) c M4) :
    M4.view.read (Elt F) (finishRun c M0 h0 M1 h1 M2 h2 M3 h3 M4 h4 f0 f1 f2 f3 f4).1
      = finish (M0.view.read (Elt F) f0) (M1.view.read (Elt F) f1) (M2.view.read (Elt F) f2) (M3.view.read (Elt F) f3) := by
  unfold finishRun
  dsimp only
  rw [View.read_writes_junk_eq_canon]
  unfold finishRun.sl.H4_1
  funext y
  refine canon_agree _ y _ ?_ ?_
  · refine List.forall_mem_cons.2 ⟨fun x => ?_, fun _ h => absurd h List.not_mem_nil⟩
    dsimp only
    have hx : (Rect.unit (s := S4096x16) ![0, 0] S4096x16.size inb_S4096x16_S4096x16_0_0).emb x = x := by
      funext a
      refine Fin.ext ?_
      show (![0, 0] : Fin 2 → ℕ) a + 1 * (x a).val = (x a).val
      rw [zero2 a]; omega
    rw [hx, whole_read M0 f0 _ zero2, whole_read M1 f1 _ zero2, whole_read M2 f2 _ zero2, whole_read M3 f3 _ zero2]
    rfl
  · refine ⟨_, .head _, ?_⟩
    rw [Rect.mem_set_unit]
    intro a
    match a with
    | 0 => exact ⟨Nat.zero_le _, by have h3 : (y 0).val < 4096 := (y 0).isLt; show (y 0).val < 0 + 4096; omega⟩
    | 1 => exact ⟨Nat.zero_le _, by have h3 : (y 1).val < 16 := (y 1).isLt; show (y 1).val < 0 + 16; omega⟩

variable (W : Valuation τ sig (Elt F))

/-- What the second call leaves in the result. -/
abbrev result : S4096x16.Idx → F .f32 :=
  finish (W (Proc.devRef .tc main_v36_0)) (W (Proc.devRef .tc main_v37)) (W (Proc.devRef .tc main_v39)) (W (Proc.devRef .tc main_v40))

/-- The proof data of the second call. -/
def dat2 (O : CellTallies nD τ sig (HIx 1)) (b : ℕ) (c : Dev nD) : RDat τ (Elt F) (HIx 1) ℕ UU ℕ cfg2 c where
  A w := W (Proc.devRef .tc (Pipeline.arrRef spec2 w))
  after w _ Y X := match w with
    | ⟨0, _⟩ => X = Y
    | ⟨1, _⟩ => X = Y
    | ⟨2, _⟩ => X = Y
    | ⟨3, _⟩ => X = Y
    | ⟨4, _⟩ => X = result W
  Φ _ := Pipeline.scopedRest spec2 c
  q _ := fullShare
  owed _ := O
  recorded _ := lowPairs F c b

/-- The body from its five blocks. -/
theorem run2 (c : Dev nD) (M0 : Memref sig .tc .vmem S4096x128 .f32) (h0 : M0.IsWhole) (M1 : Memref sig .tc .vmem S32x128 .f32) (h1 : M1.IsWhole)
    (M2 : Memref sig .tc .vmem S4096x1 .i32) (h2 : M2.IsWhole) (M3 : Memref sig .tc .vmem S1x16 .f32) (h3 : M3.IsWhole)
    (M4 : Memref sig .tc .vmem S4096x16 .f32) (h4 : M4.IsWhole)
    (X0 : S4096x128.Idx → F .f32) (X1 : S32x128.Idx → F .f32) (X2 : S4096x1.Idx → BitVec 32) (X3 : S1x16.Idx → F .f32) (X4 : S4096x16.Idx → F .f32) :
    iprop(ow (F := F) c M0 X0 ∗ ow (F := F) c M1 X1 ∗ ow (F := F) c M2 X2 ∗ ow (F := F) c M3 X3 ∗ ow (F := F) c M4 X4)
      ⊢ wp frame (wpE (defs₀ (F := F)) 𝒱₀ (c : Thread nD τ) none) Set.univ (cc2_body M0 h0 M1 h1 M2 h2 M3 h3 M4 h4)
          fun _ => iprop(ow (F := F) c M0 X0 ∗ ow (F := F) c M1 X1 ∗ ow (F := F) c M2 X2 ∗ ow (F := F) c M3 X3 ∗ ow (F := F) c M4 (finish X0 X1 X2 X3)) := by
  simp only [ow, owns_pt c M0 h0, owns_pt c M1 h1, owns_pt c M2 h2, owns_pt c M3 h3, owns_pt c M4 h4]
  iintro ⟨⟨%f0, %hf0, H0⟩, ⟨%f1, %hf1, H1⟩, ⟨%f2, %hf2, H2⟩, ⟨%f3, %hf3, H3⟩, ⟨%f4, -, H4⟩⟩
  iapply ((finishRun c M0 h0 M1 h1 M2 h2 M3 h3 M4 h4 f0 f1 f2 f3 f4).2 _)
  isplitl [H0]; · iexact H0
  isplitl [H1]; · iexact H1
  isplitl [H2]; · iexact H2
  isplitl [H3]; · iexact H3
  isplitl [H4]; · iexact H4
  iintro ⟨H0, H1, H2, H3, H4⟩
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  iexists _; isplitr; swap; · iexact H4
  ipureintro; rw [finish_val, hf0, hf1, hf2, hf3]

theorem body2 (O : CellTallies nD τ sig (HIx 1)) (b : ℕ) (c : Dev nD) :
    (dat2 W O b c).BodyObligation (Lvl := ℕ) (defs₀ (F := F)) 𝒱₀ none Set.univ := fun t Y hY => by
  obtain ⟨d0, h0⟩ := (dat2 W O b c).finds_in_eq_fetched 0 rfl (fun _ _ _ => rfl) (fun _ _ _ h => h) t (Y 0) (hY 0)
  obtain ⟨d1, h1⟩ := (dat2 W O b c).finds_in_eq_fetched 1 rfl (fun _ _ _ => rfl) (fun _ _ _ h => h) t (Y 1) (hY 1)
  obtain ⟨d2, h2⟩ := (dat2 W O b c).finds_in_eq_fetched 2 rfl (fun _ _ _ => rfl) (fun _ _ _ h => h) t (Y 2) (hY 2)
  obtain ⟨d3, h3⟩ := (dat2 W O b c).finds_in_eq_fetched 3 rfl (fun _ _ _ => rfl) (fun _ _ _ h => h) t (Y 3) (hY 3)
  have e0 : Y 0 = W (Proc.devRef .tc main_v36_0) := h0.trans (by
    funext j
    show W (Proc.devRef .tc main_v36_0) ((win2_0.blk t).view.emb _) = _
    congr 1
    funext a
    exact Fin.ext ((ValueKit.view_emb_slice_whole_unit_val main_v36_0 _ _ _ _ a).trans (by show 0 * _ + (j a).val = (j a).val; omega)))
  have e1 : Y 1 = W (Proc.devRef .tc main_v37) := h1.trans (by
    funext j
    show W (Proc.devRef .tc main_v37) ((win2_1.blk t).view.emb _) = _
    congr 1
    funext a
    exact Fin.ext ((ValueKit.view_emb_slice_whole_unit_val main_v37 _ _ _ _ a).trans (by show 0 * _ + (j a).val = (j a).val; omega)))
  have e2 : Y 2 = W (Proc.devRef .tc main_v39) := h2.trans (by
    funext j
    show W (Proc.devRef .tc main_v39) ((win2_2.blk t).view.emb _) = _
    congr 1
    funext a
    exact Fin.ext ((ValueKit.view_emb_slice_whole_unit_val main_v39 _ _ _ _ a).trans (by show 0 * _ + (j a).val = (j a).val; omega)))
  have e3 : Y 3 = W (Proc.devRef .tc main_v40) := h3.trans (by
    funext j
    show W (Proc.devRef .tc main_v40) ((win2_3.blk t).view.emb _) = _
    congr 1
    funext a
    exact Fin.ext ((ValueKit.view_emb_slice_whole_unit_val main_v40 _ _ _ _ a).trans (by show 0 * _ + (j a).val = (j a).val; omega)))
  rw [bigSep_W2, bigSep_W2, e0, e1, e2, e3]
  rw [show (dat2 W O b c).Φ t.castSucc = Pipeline.scopedRest spec2 c from rfl, show (dat2 W O b c).Φ t.succ = Pipeline.scopedRest spec2 c from rfl,
    show (dat2 W O b c).owesAt none t.succ = (dat2 W O b c).owesAt none t.castSucc from rfl]
  change _ ⊢ wp frame (wpE (defs₀ (F := F)) 𝒱₀ (c : Thread nD τ) none) Set.univ (bodyAt2 t) _
  iintro ⟨HΦ, Howes, H⟩
  iapply (wp_wand_r frame (wpE (defs₀ (F := F)) 𝒱₀ (c : Thread nD τ) none) Set.univ)
  isplitl [H]
  · iapply (run2 c _ (hstage2_0 0) _ (hstage2_1 0) _ (hstage2_2 0) _ (hstage2_3 0) _ (hstage2_4 0) (W (Proc.devRef .tc main_v36_0)) (W (Proc.devRef .tc main_v37)) (W (Proc.devRef .tc main_v39)) (W (Proc.devRef .tc main_v40)) (Y 4))
    iexact H
  iintro %a ⟨H0, H1, H2, H3, H4⟩
  isplitl [HΦ]; · iexact HΦ
  isplitl [Howes]; · iexact Howes
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  iexists _; isplitr; swap; · iexact H4
  ipureintro; rfl

theorem result_of (O : CellTallies nD τ sig (HIx 1)) (b : ℕ) (c : Dev nD) {G : S4096x16.Idx → F .f32}
    (hG : (dat2 W O b c).ArrAt 4 cfg2.N G) : G = result W := by
  obtain ⟨X, hX, h⟩ := hG.emb_eq_of_wholeAt (t₀ := t2_0) (by decide +kernel)
  obtain ⟨Y, -, hY⟩ := hX
  funext i
  refine (h i).trans ?_
  rw [show X = result W from hY]
  rfl

end Cert.Proof

end
-- ==== Proof.Calls.lean ====
/-
  The two TensorCore calls as steps of the program's thread: from every unscoped buffer at some contents, the call's result
  changes and nothing else does.
-/
module

public import proofs.«01_k».proof.Proof.Region2

@[expose] public section

noncomputable section

namespace Cert.Proof

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig (HIx 1) (Elt F) ℕ UU ℕ

/-- The handshakes' rounds in the resource algebra. -/
abbrev EH : Emb UH (MT nD τ sig (HIx 1) (Elt F) ℕ UU ℕ) := embL

/-- The pipelines' rounds in the resource algebra. -/
def EP : Emb UP (MT nD τ sig (HIx 1) (Elt F) ℕ UU ℕ) := (Emb.inl : Emb UP (UP × Counters)).trans embR

instance : (EP : Emb UP 𝕄).LandsIn (upEmb : UEmb _ 𝕄) := by unfold EP; infer_instance

/-- The proof data of both calls at the same contents. -/
def rdats (W : Valuation τ sig (Elt F)) (O : CellTallies nD τ sig (HIx 1)) (b : ℕ) :
    (p : Fin 2) → (c : Dev nD) → RDat τ (Elt F) (HIx 1) ℕ UU ℕ (Pipeline.pin (pcfgs (F := F)) adm p) c
  | ⟨0, _⟩ => dat0 W O b
  | ⟨1, _⟩ => dat2 W O b

/-- The ghost state that a call of pipeline `p` starts from. -/
abbrev ghost (p : Fin 2) (c : Dev nD) : sProp 𝕄 :=
  iprop(Pipeline.cellsGhost (Pipeline.pin (pcfgs (F := F)) adm) EP p c ∗ Pipeline.toksInit (Pipeline.pin (pcfgs (F := F)) adm) EP p c)

theorem pin_inj : Function.Injective (Pipeline.cellOf (nD := nD) (τ := τ) (Pipeline.pin (pcfgs (F := F)) adm)) := cellOf_inj

/-- A TensorCore call as a step of the program. -/
theorem wp_call (W : Valuation τ sig (Elt F)) (O : CellTallies nD τ sig (HIx 1)) (b : ℕ) (p : Fin 2)
    (R : Pipeline.RDat.RegionSeg (pcfgs (F := F)) adm (rdats W O b) none defs₀ 𝒱₀ (K (F := F)).L (K (F := F)).lev p) (c : Dev nD) (Q : PUnit.{1} → sProp 𝕄) :
    iprop((iprop(boundary (c : Thread nD τ) ∗ R.post c) -∗ Q ⟨⟩) ∗ boundary (c : Thread nD τ) ∗ R.pre c ∗ levAts (K (F := F)).L (K (F := F)).lev ∗ ghost p c)
      ⊢ wp frame (wpE ((K (F := F)).defs D) 𝒱 (c : Thread nD τ) none) Set.univ (Prog.lift (.customCall (SparseCore.inner (Pipeline.entry p)) ())) Q := by
  have h := Pipeline.RDat.RegionSeg.wp (pcfgs (F := F)) adm (rdats W O b) none pin_inj EP defs₀ 𝒱₀ (K (F := F)).L (K (F := F)).lev R c none
    (fun _ h => nomatch h) (fun u : PUnit.{1} => (Prog.ret u : Prog (TpuEff nD τ sig (Elt F) (ΛP (F := F)) .tc) PUnit)) Q
  have h2 := (K (F := F)).wp_liftProg D 𝒱 (c : Thread nD τ) Set.univ none (.op (.customCall (Pipeline.entry p) ()) (fun u : PUnit.{1} => Prog.ret u)) Q
  refine BIBase.Entails.trans ?_ h2
  refine BIBase.Entails.trans ?_ h
  iintro ⟨Hk, Hb, Hp, Hl, Hg, Ht⟩
  isplitl [Hk]
  · iintro H
    rw [wp_ret]
    imodintro
    iapply Hk; iexact H
  isplitl [Hb]; · iexact Hb
  isplitl [Hp]; · iexact Hp
  isplitl [Hl]; · iexact Hl
  isplitl [Hg]; · iexact Hg
  iexact Ht

variable (W : Valuation τ sig (Elt F)) (O : CellTallies nD τ sig (HIx 1)) (b : ℕ) (hO : ∀ g, O g none = 0)

/-- Every unscoped buffer of the TensorCore at a valuation's contents. -/
abbrev bufs (c : Dev nD) (W : Valuation τ sig (Elt F)) : sProp 𝕄 := unscopedBufs c (fun r => W (Proc.devRef .tc r))

theorem spec_one : (Pipeline.pin (pcfgs (F := F)) adm 1).spec = spec2 := rfl
theorem rest2_eq (c : Dev nD) : (Pipeline.scopedRest spec2 c : sProp 𝕄) = Pipeline.scopedRest (Pipeline.pin (pcfgs (F := F)) adm 1).spec c :=
  (congrArg (fun s => (Pipeline.scopedRest (gr := grid2.rank) (W := 5) s c : sProp 𝕄)) (spec_one (F := F))).symm
theorem share0 (c : Dev nD) (w : Fin 3) : (dat0 W O b c).share w = fullShare := by unfold RDat.share; split <;> rfl
theorem share2 (c : Dev nD) (w : Fin 5) : (dat2 W O b c).share w = fullShare := by unfold RDat.share; split <;> rfl

/-- A buffer of the TensorCore at a valuation's contents. -/
abbrev at' (c : Dev nD) (W : Valuation τ sig (Elt F)) (r : Ref sig .tc) : sProp 𝕄 := ((c : Thread nD τ).loc r) ↦{fullShare} W (Proc.devRef .tc r)

/-- The second call's five arrays at a valuation's contents. -/
abbrev arr2 (c : Dev nD) : sProp 𝕄 :=
  iprop(at' c W main_v36_0 ∗ at' c W main_v37 ∗ at' c W main_v39 ∗ at' c W main_v40 ∗ at' c W main_v41)

theorem arr2_split (c : Dev nD) : (arr2 W c : sProp 𝕄) ⊢ iprop((dat2 W O b c).arrays (dat2 W O b c).A ∗ BI.emp) := by
  have he := Pipeline.RDat.arrays_eq (p := 1) (pcfgs (F := F)) adm (rdats W O b) c launch2.arr_whole (share2 W O b c) (dat2 W O b c).A
  rw [show (dat2 W O b c).arrays (dat2 W O b c).A = _ from he.trans (bigSep_W2 _)]
  iintro H
  isplitl; · iexact H
  iempintro

def seg0 : Pipeline.RDat.RegionSeg (pcfgs (F := F)) adm (rdats W O b) none defs₀ 𝒱₀ (K (F := F)).L (K (F := F)).lev 0 :=
  seg (rdats W O b) 0 launch0 O b hO (fun c => bufs c W) (fun c => Pipeline.unscopedRest spec0 c (fun r => W (Proc.devRef .tc r)))
    (fun c => Pipeline.RDat.arrays_of_unscopedBufs (p := 0) (pcfgs (F := F)) adm (rdats W O b) launch0.win launch0.arr_whole c
      (share0 W O b c) (fun r => W (Proc.devRef .tc r)) (fun w => (rfl : (dat0 W O b c).A w = W (Proc.devRef .tc (Pipeline.arrRef spec0 w)))))
    (fun c t => (rfl : (dat0 W O b c).Φ t = Pipeline.scopedRest spec0 c)) (fun c => share0 W O b c)
    (fun c t => (rfl : (dat0 W O b c).owed t = O)) (fun c t => (rfl : (dat0 W O b c).recorded t = lowPairs F c b)) (body0 W O b)

def seg2 : Pipeline.RDat.RegionSeg (pcfgs (F := F)) adm (rdats W O b) none defs₀ 𝒱₀ (K (F := F)).L (K (F := F)).lev 1 :=
  seg (rdats W O b) 1 launch2 O b hO (arr2 W) (fun _ => BI.emp) (arr2_split W O b)
    (fun c t => rest2_eq c) (fun c => share2 W O b c)
    (fun c t => (rfl : (dat2 W O b c).owed t = O)) (fun c t => (rfl : (dat2 W O b c).recorded t = lowPairs F c b)) (body2 W O b)

/-- A valuation with one array replaced agrees with it on every buffer that is not that array. -/
theorem rest_congr (c : Dev nD) {gr n : ℕ} (spec : Fin n → Pipeline.WinSpec sig gr) (w : Fin n) (G : (Proc.devRef (τ := τ) .tc (Pipeline.arrRef spec w)).ty.Contents (Elt F)) :
    (Pipeline.unscopedRest spec c (fun r => Function.update W (Proc.devRef .tc (Pipeline.arrRef spec w)) G (Proc.devRef .tc r)) : sProp 𝕄)
      = Pipeline.unscopedRest spec c (fun r => W (Proc.devRef .tc r)) := by
  unfold Pipeline.unscopedRest
  refine bigSep_congr fun r hr => ?_
  have hne : (Proc.devRef .tc r : DevRef τ sig) ≠ Proc.devRef .tc (Pipeline.arrRef spec w) := fun h => by
    have := Proc.devRef_injective _ h
    subst this
    exact (Finset.mem_sdiff.1 hr).2 (Finset.mem_image_of_mem _ (Finset.mem_univ w))
  simp only [Function.update_of_ne hne]

theorem bufs_split0 (c : Dev nD) : (bufs c W : sProp 𝕄) = iprop((at' c W main_v0 ∗ at' c W main_v34 ∗ at' c W main_v35)
    ∗ Pipeline.unscopedRest spec0 c (fun r => W (Proc.devRef .tc r))) :=
  (Pipeline.unscopedBufs_split (Ix := HIx 1) (Name := ℕ) (U := UU) (Lvl := ℕ) cfgs 0 launch0.win.arr_unscoped launch0.win.arr_inj c
    (fun r => W (Proc.devRef .tc r))).trans (congrArg (fun X : sProp 𝕄 => iprop(X ∗ Pipeline.unscopedRest spec0 c (fun r => W (Proc.devRef .tc r)))) (bigSep_W0 _))

theorem post0 (c : Dev nD) : (seg0 W O b hO).post c
    ⊢ iprop(∃ G : S126976x128.Idx → F .f32, ⌜Packed (W (Proc.devRef .tc main_v0)) (W (Proc.devRef .tc main_v34)) G⌝
        ∗ bufs c (Function.update W (Proc.devRef .tc main_v35) G) ∗ owesLow c O b) := by
  show iprop((dat0 W O b c).arraysAt cfg0.N ∗ Pipeline.unscopedRest spec0 c (fun r => W (Proc.devRef .tc r)) ∗ owesLow c O b) ⊢ _
  have he := Pipeline.PerCore.RDat.arraysAt_eq (pcfgs (F := F)) (fun _ => adm) (rdats W O b) 0 c launch0.arr_whole (share0 W O b c) cfg0.N
  rw [show (dat0 W O b c).arraysAt cfg0.N = _ from he.trans (bigSep_W0 _)]
  iintro ⟨⟨⟨%F0, %h0, H0⟩, ⟨%F1, %h1, H1⟩, ⟨%G, %hG, H2⟩⟩, Hr, HO⟩
  have e0 : F0 = W (Proc.devRef .tc main_v0) := by
    have := RDat.ArrAt_in (dat0 W O b c) 0 rfl cfg0.N
    exact (congrFun this F0).mp h0
  have e1 : F1 = W (Proc.devRef .tc main_v34) := by
    have := RDat.ArrAt_in (dat0 W O b c) 1 rfl cfg0.N
    exact (congrFun this F1).mp h1
  subst e0 e1
  iexists G
  isplitr; · ipureintro; exact packed_of W O b c hG
  isplitr [HO]; swap; · iexact HO
  rw [bufs_split0, rest_congr W c spec0 2 G]
  simp only [at', Function.update_self]
  rw [Function.update_of_ne (by decide), Function.update_of_ne (by decide)]
  isplitr [Hr]; swap; · iexact Hr
  isplitl [H0]; · iexact H0
  isplitl [H1]; · iexact H1
  iexact H2

theorem ins2 (c : Dev nD) (w : Fin 5) (h : (cfg2.win w).isOut = false) (X : Buf (Elt F) ((cfg2.win w).arr.view.loc (c : Thread nD τ)))
    (hX : (dat2 W O b c).ArrAt w cfg2.N X) : X = (dat2 W O b c).A w := (congrFun (RDat.ArrAt_in (dat2 W O b c) w h cfg2.N) X).mp hX

end Cert.Proof

end
-- ==== Proof.Calls2.lean ====
/-
  What the second call leaves, and both calls as rules over the program's thread.
-/
module

public import proofs.«01_k».proof.Proof.Calls

@[expose] public section

noncomputable section

namespace Cert.Proof

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig (HIx 1) (Elt F) ℕ UU ℕ

variable (W : Valuation τ sig (Elt F)) (O : CellTallies nD τ sig (HIx 1)) (b : ℕ) (hO : ∀ g, O g none = 0)
theorem arrays2 (c : Dev nD) : (dat2 W O b c).arraysAt cfg2.N
    ⊢ iprop(at' c W main_v36_0 ∗ at' c W main_v37 ∗ at' c W main_v39 ∗ at' c W main_v40 ∗ (((c : Thread nD τ).loc main_v41) ↦{fullShare} result W)) := by
  have he := Pipeline.PerCore.RDat.arraysAt_eq (pcfgs (F := F)) (fun _ => adm) (rdats W O b) 1 c launch2.arr_whole (share2 W O b c) cfg2.N
  refine (BIBase.Entails.of_eq (he.trans (bigSep_W2 _))).trans ?_
  iintro ⟨⟨%F0, %h0, H0⟩, ⟨%F1, %h1, H1⟩, ⟨%F2, %h2, H2⟩, ⟨%F3, %h3, H3⟩, ⟨%G, %hG, H4⟩⟩
  have e0 := ins2 W O b c 0 rfl F0 h0
  have e1 := ins2 W O b c 1 rfl F1 h1
  have e2 := ins2 W O b c 2 rfl F2 h2
  have e3 := ins2 W O b c 3 rfl F3 h3
  have e4 : G = result W := result_of W O b c hG
  subst e0 e1 e2 e3 e4
  isplitl [H0]; · iexact H0
  isplitl [H1]; · iexact H1
  isplitl [H2]; · iexact H2
  isplitl [H3]; · iexact H3
  iexact H4

theorem post2 (c : Dev nD) : (seg2 W O b hO).post c
    ⊢ iprop((at' c W main_v36_0 ∗ at' c W main_v37 ∗ at' c W main_v39 ∗ at' c W main_v40 ∗ (((c : Thread nD τ).loc main_v41) ↦{fullShare} result W))
      ∗ owesLow c O b) := by
  show iprop((dat2 W O b c).arraysAt cfg2.N ∗ BI.emp ∗ owesLow c O b) ⊢ _
  iintro ⟨Ha, -, HO⟩
  isplitr [HO]; swap; · iexact HO
  iapply (arrays2 W O b c)
  iexact Ha

include hO

theorem wp_reg0 (c : Dev nD) (Q : PUnit.{1} → sProp 𝕄) :
    iprop((iprop(boundary (c : Thread nD τ) ∗ ∃ G : S126976x128.Idx → F .f32, ⌜Packed (W (Proc.devRef .tc main_v0)) (W (Proc.devRef .tc main_v34)) G⌝
          ∗ bufs c (Function.update W (Proc.devRef .tc main_v35) G) ∗ owesLow c O b) -∗ Q ⟨⟩)
        ∗ boundary (c : Thread nD τ) ∗ bufs c W ∗ owesLow c O b ∗ levAts (K (F := F)).L (K (F := F)).lev ∗ ghost 0 c)
      ⊢ wp frame (wpE ((K (F := F)).defs D) 𝒱 (c : Thread nD τ) none) Set.univ (Prog.lift (.customCall (SparseCore.inner (Pipeline.entry 0)) ())) Q := by
  refine BIBase.Entails.trans ?_ (wp_call W O b 0 (seg0 W O b hO) c Q)
  iintro ⟨Hk, Hb, Hu, HO, Hl, Hg⟩
  isplitl [Hk]
  · iintro ⟨Hb, Hp⟩
    iapply Hk
    isplitl [Hb]; · iexact Hb
    iapply (post0 W O b hO c); iexact Hp
  isplitl [Hb]; · iexact Hb
  isplitl [Hu HO]
  · ihave H := (show iprop(bufs c W ∗ owesLow c O b) ⊢ (seg0 W O b hO).pre c from BIBase.Entails.of_eq rfl) $$ [Hu HO]
    · isplitl [Hu]; · iexact Hu
      iexact HO
    iexact H
  isplitl [Hl]; · iexact Hl
  iexact Hg

theorem wp_reg2 (c : Dev nD) (Q : PUnit.{1} → sProp 𝕄) :
    iprop((iprop(boundary (c : Thread nD τ) ∗ (at' c W main_v36_0 ∗ at' c W main_v37 ∗ at' c W main_v39 ∗ at' c W main_v40
          ∗ (((c : Thread nD τ).loc main_v41) ↦{fullShare} result W)) ∗ owesLow c O b) -∗ Q ⟨⟩)
        ∗ boundary (c : Thread nD τ) ∗ arr2 W c ∗ owesLow c O b ∗ levAts (K (F := F)).L (K (F := F)).lev ∗ ghost 1 c)
      ⊢ wp frame (wpE ((K (F := F)).defs D) 𝒱 (c : Thread nD τ) none) Set.univ (Prog.lift (.customCall (SparseCore.inner (Pipeline.entry 1)) ())) Q := by
  refine BIBase.Entails.trans ?_ (wp_call W O b 1 (seg2 W O b hO) c Q)
  iintro ⟨Hk, Hb, Hu, HO, Hl, Hg⟩
  isplitl [Hk]
  · iintro ⟨Hb, Hp⟩
    iapply Hk
    isplitl [Hb]; · iexact Hb
    iapply (post2 W O b hO c); iexact Hp
  isplitl [Hb]; · iexact Hb
  isplitl [Hu HO]
  · ihave H := (show iprop(arr2 W c ∗ owesLow c O b) ⊢ (seg2 W O b hO).pre c from BIBase.Entails.of_eq rfl) $$ [Hu HO]
    · isplitl [Hu]; · iexact Hu
      iexact HO
    iexact H
  isplitl [Hl]; · iexact Hl
  iexact Hg

end Cert.Proof

end
-- ==== Proof.Main.lean ====
/-
  The program from its launch: the host operations, the first call, the SparseCore call and the last call, run on every
  thread of the machine; what it leaves in the result, and that it leaves its arguments and every semaphore as they were.
-/
module

public import proofs.«01_k».proof.Proof.Host
public import proofs.«01_k».proof.Proof.Calls2

@[expose] public section

noncomputable section

namespace Cert.Proof

open Cert.KernelIdeal Cert.KernelIdeal.Gen
open Idealize.ShloMosaic
open Idealize.ShloMosaic.TcCoe
open Idealize.ShloMosaic.StableHlo (seq after held)
open Idealize.ShloMosaic.SparseCore (S V T)
open Idealize.ShloMosaic.SparseCore.Cfg (HIx)
open Idealize.ShloMosaic.Rounds (initOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents along the program -/

/-- The launch's contents of a device's arrays. -/
abbrev V0 (d : Dev nD) : Valuation τ sig (Elt F) := fun r => m (d, r)
/-- The contents before the calls. -/
abbrev mid (d : Dev nD) : Valuation τ sig (Elt F) := after ops1 (V0 m d)
abbrev Txs (d : Dev nD) : S204800.Idx → BitVec 32 := m ((d.tc : Thread nD τ).loc main_arg0)
abbrev Es (d : Dev nD) : S64x1000000.Idx → F .f32 := mid m d (Proc.devRef .tc main_v0)
abbrev Ws (d : Dev nD) : S8x64x128.Idx → F .f32 := mid m d (Proc.devRef .tc main_v34)
/-- The contents after the SparseCore call. -/
def aft (d : Dev nD) (Sg : S4096x128.Idx → F .f32) (Pt : S4096.Idx → F .f32) : Valuation τ sig (Elt F) :=
  Function.update (Function.update (mid m d) (Proc.devRef .tc main_v36_0) Sg) (Proc.devRef .tc main_v36_1) Pt

/-- What the program leaves in its result on device `d`. -/
def Res (d : Dev nD) (v : S4096x16.Idx → F .f32) : Prop :=
  ∃ Sg Pt, Good (Txs m d) (Es m d) (Ws m d) Sg Pt ∧ v = result (after ops2 (aft m d Sg Pt))

abbrev Pm : (K (F := F)).Pay (nD := nD) (Val := Elt F) (Name := ℕ) (U := UU) := pay (Txs m) (Es m) (Ws m)

/-! ## The arrays held, split -/

/-- A buffer held at a valuation's contents. -/
abbrev hb (d : Dev nD) (V : Valuation τ sig (Elt F)) (r : Ref sig .tc) : sProp 𝕄 := at' d V r

abbrev D3 : Finset (DevRef τ sig) := {Proc.devRef .tc main_arg0, Proc.devRef .tc main_v36_0, Proc.devRef .tc main_v36_1}

theorem D3_sub : D3 ⊆ restS := by decide +kernel

theorem held3 (d : Dev nD) (V : Valuation τ sig (Elt F)) :
    (held (d.tc : Thread nD τ) D3 V : sProp 𝕄) = iprop(at' d V main_arg0 ∗ at' d V main_v36_0 ∗ at' d V main_v36_1) := by
  unfold StableHlo.held
  rw [SparseCore.bigSep_insert' (by decide), SparseCore.bigSep_insert' (by decide), bigSep_singleton]

theorem bufs_open (d : Dev nD) (V : Valuation τ sig (Elt F)) :
    (bufs d V : sProp 𝕄) = iprop(at' d V main_v35 ∗ (at' d V main_arg0 ∗ at' d V main_v36_0 ∗ at' d V main_v36_1) ∗ held (d.tc : Thread nD τ) (restS \ D3) V) := by
  rw [show (bufs d V : sProp 𝕄) = held (d.tc : Thread nD τ) (Pipeline.ucRefs τ sig) V from Pipeline.unscopedBufs_held d V,
    StableHlo.held_sub_split (T := {Proc.devRef .tc main_v35}) _ (by decide +kernel), StableHlo.held_sub_split _ D3_sub, held3]
  unfold StableHlo.held
  rw [bigSep_singleton]

theorem rest_close (d : Dev nD) (V W : Valuation τ sig (Elt F)) (h : ∀ b ∈ restS \ D3, V b = W b) :
    iprop((at' d W main_arg0 ∗ at' d W main_v36_0 ∗ at' d W main_v36_1) ∗ held (d.tc : Thread nD τ) (restS \ D3) V)
      ⊢ (held (d.tc : Thread nD τ) restS W : sProp 𝕄) := by
  rw [StableHlo.held_sub_split _ D3_sub W, held3, StableHlo.held_congr _ h]

abbrev D10 : Finset (DevRef τ sig) := {Proc.devRef .tc main_v36_0, Proc.devRef .tc main_v37, Proc.devRef .tc main_v39, Proc.devRef .tc main_v40,
  Proc.devRef .tc main_v41, Proc.devRef .tc main_arg0, Proc.devRef .tc main_arg1, Proc.devRef .tc main_arg2, Proc.devRef .tc main_arg3, Proc.devRef .tc main_arg4}

theorem D10_sub : D10 ⊆ restS := by decide +kernel

/-- The five arguments at a valuation's contents. -/
abbrev args (d : Dev nD) (V : Valuation τ sig (Elt F)) : sProp 𝕄 :=
  iprop(at' d V main_arg0 ∗ at' d V main_arg1 ∗ at' d V main_arg2 ∗ at' d V main_arg3 ∗ at' d V main_arg4)

theorem rest_open (d : Dev nD) (V : Valuation τ sig (Elt F)) : (held (d.tc : Thread nD τ) restS V : sProp 𝕄) ⊢ iprop(arr2 V d ∗ args d V) := by
  rw [StableHlo.held_sub_split _ D10_sub V]
  unfold StableHlo.held
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]
  iintro ⟨⟨H0, H1, H2, H3, H4, A0, A1, A2, A3, A4⟩, -⟩
  isplitr [A0 A1 A2 A3 A4]
  · isplitl [H0]; · iexact H0
    isplitl [H1]; · iexact H1
    isplitl [H2]; · iexact H2
    isplitl [H3]; · iexact H3
    iexact H4
  isplitl [A0]; · iexact A0
  isplitl [A1]; · iexact A1
  isplitl [A2]; · iexact A2
  isplitl [A3]; · iexact A3
  iexact A4

/-! ## What the TensorCore owes -/

theorem Otc_none (d : Dev nD) (n : ℕ) (g : GSem nD τ sig) : (K (F := F)).Otc (N := 1) d n g none = 0 := by
  by_contra h
  have := SparseCore.Cfg.lev_of_Otc_pos (K := K (F := F)) (d := d) (n := n) (g := g) (ι := none) (by omega)
  have h0 : (K (F := F)).lev g none = 0 := rfl
  omega

/-- The TensorCore's state before call `n`: what it owes, and the rest. -/
theorem tcSt_split (d : Dev nD) (n : ℕ) : ∃ (b : ℕ) (R : sProp 𝕄), ((K (F := F)).tcSt EH d n : sProp 𝕄) = iprop(owesLow d ((K (F := F)).Otc d n) b ∗ R) :=
  ⟨_, _, rfl⟩

/-! ## The program's steps, from the last -/

/-- What the program leaves of the arrays that the claims speak of. -/
abbrev FIN (d : Dev nD) : sProp 𝕄 :=
  iprop((∃ v : S4096x16.Idx → F .f32, ⌜Res m d v⌝ ∗ (((d : Thread nD τ).loc main_v41) ↦{fullShare} (v : Buf (Elt F) ((d : Thread nD τ).loc main_v41)))) ∗ args d (V0 m d))

theorem aft_at (d : Dev nD) (Sg : S4096x128.Idx → F .f32) (Pt : S4096.Idx → F .f32) {r : Ref sig .tc} (h0 : r ≠ main_v36_0) (h1 : r ≠ main_v36_1) :
    aft m d Sg Pt (Proc.devRef .tc r) = mid m d (Proc.devRef .tc r) := by
  unfold aft
  rw [Function.update_of_ne fun h => h1 (Proc.devRef_injective _ h), Function.update_of_ne fun h => h0 (Proc.devRef_injective _ h)]

theorem args_eq (d : Dev nD) (Sg : S4096x128.Idx → F .f32) (Pt : S4096.Idx → F .f32) :
    (args d (after ops2 (aft m d Sg Pt)) : sProp 𝕄) = args d (V0 m d) := by
  have h : ∀ r : Ref sig .tc, r ∉ wr2 → r ∉ wr1 → r ≠ main_v36_0 → r ≠ main_v36_1 →
      after ops2 (aft m d Sg Pt) (Proc.devRef .tc r) = V0 m d (Proc.devRef .tc r) := fun r a b h0 h1 =>
    (after2 _ a).trans ((aft_at m d Sg Pt h0 h1).trans (after1 _ b))
  unfold args at'
  rw [h main_arg0 (by decide) (by decide) (by decide) (by decide), h main_arg1 (by decide) (by decide) (by decide) (by decide),
    h main_arg2 (by decide) (by decide) (by decide) (by decide), h main_arg3 (by decide) (by decide) (by decide) (by decide),
    h main_arg4 (by decide) (by decide) (by decide) (by decide)]

/-- Off the call's results and the packed table, nothing changes over the SparseCore call. -/
theorem aft_rest (d : Dev nD) (G : S126976x128.Idx → F .f32) (Sg : S4096x128.Idx → F .f32) (Pt : S4096.Idx → F .f32) :
    ∀ b ∈ restS \ D3, Function.update (mid m d) (Proc.devRef .tc main_v35) G b = aft m d Sg Pt b := by
  intro b hb
  obtain ⟨h1, h2⟩ := Finset.mem_sdiff.mp hb
  have h3 : b ≠ Proc.devRef .tc main_v35 := fun e => (Finset.mem_sdiff.mp h1).2 (Finset.mem_singleton.mpr e)
  have h4 : b ≠ Proc.devRef .tc main_v36_0 := fun e => h2 (by rw [e]; decide)
  have h5 : b ≠ Proc.devRef .tc main_v36_1 := fun e => h2 (by rw [e]; decide)
  unfold aft
  rw [Function.update_of_ne h3, Function.update_of_ne h5, Function.update_of_ne h4]

theorem aft3 (d : Dev nD) (Sg : S4096x128.Idx → F .f32) (Pt : S4096.Idx → F .f32) :
    (iprop(at' d (aft m d Sg Pt) main_arg0 ∗ at' d (aft m d Sg Pt) main_v36_0 ∗ at' d (aft m d Sg Pt) main_v36_1) : sProp 𝕄)
      = iprop((txL d ↦{fullShare} (Txs m d : Buf (Elt F) (txL d))) ∗ (sgL d ↦{fullShare} (Sg : Buf (Elt F) (sgL d))) ∗ (ptL d ↦{fullShare} (Pt : Buf (Elt F) (ptL d)))) := by
  have e0 : aft m d Sg Pt (Proc.devRef .tc main_arg0) = Txs m d := (aft_at m d Sg Pt (by decide) (by decide)).trans (after1 _ (by decide))
  have e1 : aft m d Sg Pt (Proc.devRef .tc main_v36_0) = Sg := by
    unfold aft
    rw [Function.update_of_ne fun h => (by decide : main_v36_0 ≠ main_v36_1) (Proc.devRef_injective _ h), Function.update_self]
  have e2 : aft m d Sg Pt (Proc.devRef .tc main_v36_1) = Pt := by unfold aft; rw [Function.update_self]
  unfold at'
  rw [e0, e1, e2]

abbrev Rg (d : Dev nD) (p : Fin 2) : Prog (TpuEff nD τ sig (Elt F) (SparseCore.Sig (ΛP (F := F)) 1) .tc) PUnit.{1} :=
  Prog.lift (.customCall (SparseCore.inner (Pipeline.entry p)) ())

/-- The last call. -/
theorem step5 (d : Dev nD) (Sg : S4096x128.Idx → F .f32) (Pt : S4096.Idx → F .f32) (hG : Good (Txs m d) (Es m d) (Ws m d) Sg Pt) (Q : PUnit.{1} → sProp 𝕄) :
    iprop(levAts (K (F := F)).L (K (F := F)).lev ∗ (K (F := F)).tcSt EH d 1 ∗ ghost 1 d
        ∗ (((K (F := F)).tcSt EH d 1 ∗ FIN m d ∗ boundary (d : Thread nD τ)) -∗ Q ⟨⟩)
        ∗ boundary (d : Thread nD τ) ∗ held (d.tc : Thread nD τ) restS (after ops2 (aft m d Sg Pt)))
      ⊢ wp frame (wpE ((K (F := F)).defs D) 𝒱 (d : Thread nD τ) none) Set.univ (Rg d 1 >>= fun _ => pure ⟨⟩) Q := by
  obtain ⟨b, R, e⟩ := tcSt_split (F := F) d 1
  rw [e]
  simp only [wp_bind, wp_pure]
  refine BIBase.Entails.trans ?_ (wp_reg2 (after ops2 (aft m d Sg Pt)) ((K (F := F)).Otc d 1) b (Otc_none d 1) d _)
  iintro ⟨Hl, ⟨HO, HR⟩, Hg, Hk, Hb, Hh⟩
  ihave Hh := (rest_open d _) $$ Hh
  icases Hh with ⟨Ha, Hx⟩
  isplitl [HR Hk Hx]
  · iintro ⟨Hb, ⟨-, -, -, -, Hv⟩, HO⟩
    imodintro
    iapply Hk
    isplitl [HO HR]
    · isplitl [HO]; · iexact HO
      iexact HR
    isplitl [Hv Hx]
    · isplitl [Hv]
      · iexists (result (after ops2 (aft m d Sg Pt)))
        isplitr; · ipureintro; exact ⟨Sg, Pt, hG, rfl⟩
        iexact Hv
      ihave Hx := (BIBase.Entails.of_eq (args_eq m d Sg Pt)) $$ Hx
      iexact Hx
    iexact Hb
  isplitl [Hb]; · iexact Hb
  isplitl [Ha]; · iexact Ha
  isplitl [HO]; · iexact HO
  isplitl [Hl]; · iexact Hl
  iexact Hg

/-- The host operations before it. -/
theorem step4 (d : Dev nD) (Sg : S4096x128.Idx → F .f32) (Pt : S4096.Idx → F .f32) (hG : Good (Txs m d) (Es m d) (Ws m d) Sg Pt) (Q : PUnit.{1} → sProp 𝕄) :
    iprop(levAts (K (F := F)).L (K (F := F)).lev ∗ (K (F := F)).tcSt EH d 1 ∗ ghost 1 d
        ∗ (((K (F := F)).tcSt EH d 1 ∗ FIN m d ∗ boundary (d : Thread nD τ)) -∗ Q ⟨⟩)
        ∗ boundary (d : Thread nD τ) ∗ held (d.tc : Thread nD τ) restS (aft m d Sg Pt))
      ⊢ wp frame (wpE ((K (F := F)).defs D) 𝒱 (d : Thread nD τ) none) Set.univ (seq ops2 >>= fun _ => Rg d 1 >>= fun _ => pure ⟨⟩) Q := by
  have h5 := step5 m d Sg Pt hG Q
  iintro ⟨Hl, Ht, Hg, Hk, Hb, Hh⟩
  iapply (StableHlo.wp_seq 𝒱 none Set.univ d restS (fun _ => Rg d 1 >>= fun _ => pure ⟨⟩) ops2 ops2_sub ops2_fresh (aft m d Sg Pt)) $$ [Hb Hh]
  · isplitl [Hb]; · iexact Hb
    iexact Hh
  iintro ⟨Hb, Hh⟩
  iapply h5
  isplitl [Hl]; · iexact Hl
  isplitl [Ht]; · iexact Ht
  isplitl [Hg]; · iexact Hg
  isplitl [Hk]; · iexact Hk
  isplitl [Hb]; · iexact Hb
  iexact Hh

/-- The SparseCore call. -/
theorem step3 (κ : GSem nD τ sig → ℕ) (d : Dev nD) (G : S126976x128.Idx → F .f32) (hG : Packed (Es m d) (Ws m d) G) (Q : PUnit.{1} → sProp 𝕄) :
    iprop((K (F := F)).ctx EH (Pm m) κ ∗ (K (F := F)).tcSt EH d 0 ∗ ghost 1 d
        ∗ (((K (F := F)).tcSt EH d 1 ∗ FIN m d ∗ boundary (d : Thread nD τ)) -∗ Q ⟨⟩)
        ∗ boundary (d : Thread nD τ) ∗ bufs d (Function.update (mid m d) (Proc.devRef .tc main_v35) G))
      ⊢ wp frame (wpE ((K (F := F)).defs D) 𝒱 (d : Thread nD τ) none) Set.univ
          ((K (F := F)).run d 0 >>= fun _ => seq ops2 >>= fun _ => Rg d 1 >>= fun _ => pure ⟨⟩) Q := by
  have h4 := fun Sg Pt hg => step4 m d Sg Pt hg Q
  have hmid : ∀ r : Ref sig .tc, r ≠ main_v35 → Function.update (mid m d) (Proc.devRef .tc main_v35) G (Proc.devRef .tc r) = mid m d (Proc.devRef .tc r) :=
    fun r h => Function.update_of_ne (fun e => h (Proc.devRef_injective _ e)) _ _
  have hd := deal d (Txs m d) (Es m d) (Ws m d) G hG (mid m d (Proc.devRef .tc main_v36_0)) (mid m d (Proc.devRef .tc main_v36_1))
  have hg := gather d (Txs m d) (Es m d) (Ws m d)
  have e0 : mid m d (Proc.devRef .tc main_arg0) = Txs m d := after1 _ (by decide)
  rw [bufs_open, wp_bind]
  unfold at'
  rw [hmid main_arg0 (by decide), hmid main_v36_0 (by decide), hmid main_v36_1 (by decide), e0, Function.update_self]
  iintro ⟨#Hctx, Ht, Hg, Hk, Hb, H5, ⟨Hx, Hs, Hp⟩, Hr⟩
  ihave Hst := hd $$ [Hx H5 Hs Hp]
  · isplitl [Hx]; · iexact Hx
    isplitl [H5]; · iexact H5
    isplitl [Hs]; · iexact Hs
    iexact Hp
  ihave Hst := (BIBase.Entails.of_eq (st_eq d (Txs m) (Es m) (Ws m)).symm) $$ Hst
  iapply ((K (F := F)).wp_run D 𝒱 (EH := EH) (P := Pm m) κ d 0) $$ [Hst Ht Hg Hk Hb Hr]
  isplitr; · iexact Hctx
  isplitl [Ht]; · iexact Ht
  isplitl [Hst]; · iexact Hst
  iintro ⟨Ht, Hdn⟩
  ihave Hdn := (BIBase.Entails.of_eq (dn_eq d (Txs m) (Es m) (Ws m))) $$ Hdn
  ihave Hdn := hg $$ Hdn
  icases Hdn with ⟨Hx, %Sg, %Pt, %hgood, Hs, Hp⟩
  iapply (h4 Sg Pt hgood)
  isplitr; · iapply (SparseCore.Cfg.ctx_levAts κ); iexact Hctx
  isplitl [Ht]; · iexact Ht
  isplitl [Hg]; · iexact Hg
  isplitl [Hk]; · iexact Hk
  isplitl [Hb]; · iexact Hb
  iapply (rest_close d (Function.update (mid m d) (Proc.devRef .tc main_v35) G) (aft m d Sg Pt) (aft_rest m d G Sg Pt))
  isplitr [Hr]; swap; · iexact Hr
  ihave H := (BIBase.Entails.of_eq (aft3 m d Sg Pt).symm) $$ [Hx Hs Hp]
  · isplitl [Hx]; · iexact Hx
    isplitl [Hs]; · iexact Hs
    iexact Hp
  iexact H

/-- The first call. -/
theorem step2 (κ : GSem nD τ sig → ℕ) (d : Dev nD) (Q : PUnit.{1} → sProp 𝕄) :
    iprop((K (F := F)).ctx EH (Pm m) κ ∗ (K (F := F)).tcSt EH d 0 ∗ (ghost 0 d ∗ ghost 1 d)
        ∗ (((K (F := F)).tcSt EH d 1 ∗ FIN m d ∗ boundary (d : Thread nD τ)) -∗ Q ⟨⟩)
        ∗ boundary (d : Thread nD τ) ∗ bufs d (mid m d))
      ⊢ wp frame (wpE ((K (F := F)).defs D) 𝒱 (d : Thread nD τ) none) Set.univ
          (Rg d 0 >>= fun _ => (K (F := F)).run d 0 >>= fun _ => seq ops2 >>= fun _ => Rg d 1 >>= fun _ => pure ⟨⟩) Q := by
  have h3 := fun G hG => step3 m κ d G hG Q
  obtain ⟨b, R, e⟩ := tcSt_split (F := F) d 0
  have he : iprop(owesLow d ((K (F := F)).Otc d 0) b ∗ R) ⊢ ((K (F := F)).tcSt EH d 0 : sProp 𝕄) := BIBase.Entails.of_eq e.symm
  refine BIBase.Entails.trans ?_ (BIBase.Entails.of_eq (wp_bind frame _ Set.univ (Rg d 0) _ Q).symm)
  refine BIBase.Entails.trans ?_ (wp_reg0 (mid m d) ((K (F := F)).Otc d 0) b (Otc_none d 0) d _)
  iintro ⟨#Hctx, Ht, ⟨Hg0, Hg1⟩, Hk, Hb, Hu⟩
  ihave Ht := (BIBase.Entails.of_eq e) $$ Ht
  icases Ht with ⟨HO, HR⟩
  isplitl [HR Hg1 Hk]
  · iintro ⟨Hb, ⟨%G, %hG, Hu, HO⟩⟩
    iapply (h3 G hG)
    isplitr; · iexact Hctx
    isplitl [HO HR]
    · iapply he
      isplitl [HO]; · iexact HO
      iexact HR
    isplitl [Hg1]; · iexact Hg1
    isplitl [Hk]; · iexact Hk
    isplitl [Hb]; · iexact Hb
    iexact Hu
  isplitl [Hb]; · iexact Hb
  isplitl [Hu]; · iexact Hu
  isplitl [HO]; · iexact HO
  isplitr; · iapply (SparseCore.Cfg.ctx_levAts κ); iexact Hctx
  iexact Hg0

/-- The whole program on a device's TensorCore. -/
theorem hmain (κ : GSem nD τ sig → ℕ) (d : Dev nD) :
    iprop((K (F := F)).ctx EH (Pm m) κ ∗ (K (F := F)).tcSt EH d 0 ∗ (K (F := F)).tcRes m ρ d ∗ (ghost 0 d ∗ ghost 1 d))
      ⊢ wp frame (wpE ((K (F := F)).defs D) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  have h2 := fun Q => step2 m κ d Q
  have hh : (unscopedBufs d (fun b => m ((SparseCore.T d).loc b)) : sProp 𝕄) ⊢ held (d.tc : Thread nD τ) (Pipeline.ucRefs τ sig) (V0 m d) :=
    BIBase.Entails.of_eq (Pipeline.unscopedBufs_held d (V0 m d))
  have hh2 : (held (d.tc : Thread nD τ) (Pipeline.ucRefs τ sig) (mid m d) : sProp 𝕄) ⊢ bufs d (mid m d) :=
    BIBase.Entails.of_eq (Pipeline.unscopedBufs_held d (mid m d)).symm
  iintro ⟨#Hctx, Ht, ⟨Hb, Hu, Hts, -⟩, Hg⟩
  ihave Hu := hh $$ Hu
  iapply (StableHlo.wp_seq 𝒱 none Set.univ d (Pipeline.ucRefs τ sig) (fun _ => Rg d 0 >>= fun _ => (K (F := F)).run d 0 >>= fun _ => seq ops2 >>= fun _ => Rg d 1 >>= fun _ => pure ⟨⟩)
    ops1 ops1_sub ops1_fresh (V0 m d)) $$ [Hb Hu]
  · isplitl [Hb]; · iexact Hb
    iexact Hu
  iintro ⟨Hb, Hu⟩
  ihave Hu := hh2 $$ Hu
  iapply (h2 _)
  isplitr; · iexact Hctx
  isplitl [Ht]; · iexact Ht
  isplitl [Hg]; · iexact Hg
  isplitl [Hts]
  · iintro ⟨Ht, Hf, Hb⟩
    isplitl [Ht]; · iexact Ht
    isplitl [Hf]; · iexact Hf
    isplitl [Hb]; · iexact Hb
    iexact Hts
  isplitl [Hb]; · iexact Hb
  iexact Hu

/-! ## The launch's ghost state -/

theorem EP_own (x : UP) : BI.own ((embR : Emb (UP × Counters) 𝕄).toFun (x, 1)) ⊢ (BI.own (EP.toFun x) : sProp 𝕄) := BIBase.Entails.of_eq rfl

theorem ghosts2 (c : Dev nD) : iprop((Pipeline.cellsGhost (Pipeline.pin (pcfgs (F := F)) adm) EP 0 c ∗ Pipeline.cellsGhost (Pipeline.pin (pcfgs (F := F)) adm) EP 1 c)
      ∗ (Pipeline.toksInit (Pipeline.pin (pcfgs (F := F)) adm) EP 0 c ∗ Pipeline.toksInit (Pipeline.pin (pcfgs (F := F)) adm) EP 1 c))
    ⊢ (iprop(ghost 0 c ∗ ghost 1 c) : sProp 𝕄) := by
  iintro ⟨⟨H0, H1⟩, ⟨T0, T1⟩⟩
  isplitl [H0 T0]
  · isplitl [H0]; · iexact H0
    iexact T0
  isplitl [H1]; · iexact H1
  iexact T1

theorem ghosts : iprop((bigSep Finset.univ fun c : Dev nD => bigSep Finset.univ fun p => Pipeline.cellsGhost (Pipeline.pin (pcfgs (F := F)) adm) EP p c)
      ∗ (bigSep Finset.univ fun c : Dev nD => bigSep Finset.univ fun p => (Pipeline.toksInit (Pipeline.pin (pcfgs (F := F)) adm) EP p c : sProp 𝕄)))
    ⊢ bigSep Finset.univ fun d : Dev nD => iprop(ghost 0 d ∗ ghost 1 d) := by
  rw [← bigSep_sep']
  refine bigSep_mono fun c _ => ?_
  rw [BI.bigSep_fin_two, BI.bigSep_fin_two]
  exact ghosts2 c

/-- The launch's element: the handshakes' rounds and the pipelines' rounds, each at its start. -/
def u₀ : UU := (initOf (K (F := F)).hsCells (K (F := F)).hsToks,
  (initOf (Pipeline.cells (nD := nD) (τ := τ) (Pipeline.pin (pcfgs (F := F)) adm) pin_inj) (Pipeline.launchToks (nD := nD) (τ := τ) (Pipeline.pin (pcfgs (F := F)) adm) pin_inj), 1))

theorem x_none : (BI.emp : sProp 𝕄) ⊢ bigSep Finset.univ fun thr : Thread nD τ => bigSep Finset.univ fun q : Fin 1 => (Pm m).x q thr :=
  BIBase.Entails.of_eq ((bigSep_congr fun _ _ => bigSep_univ_of_subsingleton (0 : Fin 1)).trans (bigSep_emp_const _)).symm

theorem hu₀ : (ownU (u₀ (F := F)) : sProp 𝕄)
    ⊢ |={Set.univ}=> iprop(BI.own (EH (initOf (K (F := F)).hsCells (K (F := F)).hsToks)) ∗ (bigSep Finset.univ fun d : Dev nD => iprop(ghost 0 d ∗ ghost 1 d))
        ∗ bigSep Finset.univ fun thr : Thread nD τ => bigSep Finset.univ fun q : Fin 1 => (Pm m).x q thr) := by
  have hf := Pipeline.fund_ghost (Pipeline.pin (pcfgs (F := F)) adm) EP pin_inj (nD := nD) (τ := τ) (Val := Elt F) (Ix := HIx 1) (Name := ℕ) (U := UU) (Lvl := ℕ)
  unfold u₀
  iintro Hu
  ihave H := (ownU_pair (initOf (K (F := F)).hsCells (K (F := F)).hsToks)
    ((initOf (Pipeline.cells (nD := nD) (τ := τ) (Pipeline.pin (pcfgs (F := F)) adm) pin_inj) (Pipeline.launchToks (nD := nD) (τ := τ) (Pipeline.pin (pcfgs (F := F)) adm) pin_inj), 1) : UP × Counters)) $$ Hu
  icases H with ⟨HH, HP⟩
  ihave HP := (EP_own (F := F) _) $$ HP
  imod hf $$ HP with ⟨Hc, Ht⟩
  imodintro
  isplitl [HH]; · iexact HH
  isplitl [Hc Ht]
  · iapply (ghosts (F := F)); isplitl [Hc]; · iexact Hc
    iexact Ht
  iapply (x_none m)
  iempintro

/-! ## The run -/

/-- What the run leaves of a device's arrays. -/
def fq (d : Dev nD) (s' : Phys nD τ sig (Elt F)) : Prop :=
  Res m d (s'.mem.mem ((d : Thread nD τ).loc main_v41)) ∧ ∀ r ∈ ([main_arg0, main_arg1, main_arg2, main_arg3, main_arg4] : List (Ref sig .tc)),
    s'.mem.mem ((d : Thread nD τ).loc r) = m ((d : Thread nD τ).loc r)

theorem agree {ℓ : Loc nD τ sig} {f : Buf (Elt F) ℓ} (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr; · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  iintro ⟨⟨⟨%v, %hv, Hv⟩, A0, A1, A2, A3, A4⟩, HSI⟩
  ihave H := (agree s') $$ [HSI Hv]
  · isplitl [HSI] <;> iassumption
  icases H with ⟨%hv', HSI⟩
  ihave H := (agree s') $$ [HSI A0]
  · isplitl [HSI] <;> iassumption
  icases H with ⟨%h0, HSI⟩
  ihave H := (agree s') $$ [HSI A1]
  · isplitl [HSI] <;> iassumption
  icases H with ⟨%h1, HSI⟩
  ihave H := (agree s') $$ [HSI A2]
  · isplitl [HSI] <;> iassumption
  icases H with ⟨%h2, HSI⟩
  ihave H := (agree s') $$ [HSI A3]
  · isplitl [HSI] <;> iassumption
  icases H with ⟨%h3, HSI⟩
  ihave H := (agree s') $$ [HSI A4]
  · isplitl [HSI] <;> iassumption
  icases H with ⟨%h4, -⟩
  ipureintro
  refine ⟨by rw [hv']; exact hv, fun r hr => ?_⟩
  simp only [List.mem_cons, List.not_mem_nil, or_false] at hr
  rcases hr with rfl | rfl | rfl | rfl | rfl
  exacts [h0, h1, h2, h3, h4]

/-- The run's end: the result, the arguments and the semaphores. -/
def QC : PUnit × MemSt nD τ sig (Elt F) → Prop := fun r =>
  (∀ c : Dev nD, Res m c (r.2.mem ((c : Thread nD τ).loc main_v41)) ∧ ∀ a ∈ ([main_arg0, main_arg1, main_arg2, main_arg3, main_arg4] : List (Ref sig .tc)),
    r.2.mem ((c : Thread nD τ).loc a) = m ((c : Thread nD τ).loc a)) ∧ r.2.sem = fun _ => 0

theorem run_main [∀ e, Nonempty (Elt F e)] (hT : ∀ d j, (Txs m d j).toNat < 1000000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (Txs m) (Es m) (Ws m) hT)
    (fun q _ => match q with | 0 => SparseCore.Cfg.VecSplit.of_plain (vecSplit (Txs m) (Es m) (Ws m)))
    m ρ main (fun d => iprop(ghost 0 d ∗ ghost 1 d)) (FIN m) (u₀ (F := F)) (sep_elim_left.trans (hu₀ m)) (hmain m ρ) (fq m) (hfin m) (QC m) (fun _ h hz => ⟨h, hz⟩)

end Cert.Proof

end
-- ==== Proof.Frames.lean ====
/-
  The preconditions read entry by entry, and the claims that every program ends with its arguments and its semaphores as
  they were.
-/
module

public import proofs.«01_k».proof.Proof.Main
public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_rows_in_table
public import Idealize.ShloMosaic.Lib.ReduceAll
public import Idealize.ShloMosaic.Lib.WordCmp

@[expose] public section

noncomputable section

namespace Cert.Proof

open Idealize.ShloMosaic
open Idealize.ShloMosaic.TcCoe
open Idealize.SL.Sem

/-! ## The preconditions -/

section Pre

variable {F : FTy → Type} [FloatOps F]

/-- A word at least 0 and below 1000000, both read signed, is below 1000000 as a number. -/
theorem lt_of_range (v : BitVec 32) (e : IntOp.andi (IntOp.cmpi .sge v 0#32) (IntOp.cmpi .slt v 1000000#32) = 1#1) :
    v.toNat < 1000000 := by
  have h1 : ∀ p q : Bool, IntOp.andi (BitVec.ofBool p) (BitVec.ofBool q) = BitVec.ofBool (p && q) := by
    intro p q; cases p <;> cases q <;> decide
  have h2 : ∀ p : Bool, (BitVec.ofBool p = 1#1) ↔ p = true := by intro p; cases p <;> decide
  simp only [IntOp.cmpi, h1, h2, Bool.and_eq_true, BitVec.sle_eq_decide, BitVec.slt_eq_decide, decide_eq_true_eq,
    BitVec.toInt_eq_toNat_cond, BitVec.toNat_ofNat, Nat.reducePow, Nat.reduceMod] at e
  omega

theorem andi_left {a b : BitVec 1} (h : IntOp.andi a b = 1#1) : a = 1#1 := by revert a b; decide
theorem andi_right {a b : BitVec 1} (h : IntOp.andi a b = 1#1) : b = 1#1 := by revert a b; decide

instance : Subsingleton Cert.Pre_rows_in_table.S_.Idx := ⟨fun a b => funext fun k => k.elim0⟩

/-- The index of an array with no axes. -/
abbrev i0 : Cert.Pre_rows_in_table.S_.Idx := fun k => k.elim0

theorem rows_text (x0 : IVec Cert.Pre_rows_in_table.S204800 32) (x1 : IVec Cert.Pre_rows_in_table.S4096 32) (x2 : FVec F Cert.Pre_rows_in_table.S1000000x64 .f32)
    (x3 : FVec F Cert.Pre_rows_in_table.S16x64 .f32) (x4 : FVec F Cert.Pre_rows_in_table.S16 .f32)
    (h : Cert.Pre_rows_in_table.fn x0 x1 x2 x3 x4 = fun _ => 1#1) (j : Cert.Pre_rows_in_table.S204800.Idx) : (x0 j).toNat < 1000000 :=
  lt_of_range _ (Host.reduce_andi_all _ _ _ _ _ (congrFun h i0) j)

end Pre

/-! ## The runs -/

/-- The run of the kernel, over any float values, from the tokens' range alone. -/
theorem ends {F : FTy → Type} [FloatOps F] [∀ e, Nonempty (Elt F e)] (m : (ℓ : Loc Cert.KernelIdeal.nD Cert.KernelIdeal.τ Cert.KernelIdeal.sig) → Buf (Elt F) ℓ) (ρ : Dev Cert.KernelIdeal.nD → PrngReg)
    (hT : ∀ d j, (Txs m d j).toNat < 1000000) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun r h => ⟨fun c =>
      ⟨(h.1 c).2 Cert.KernelIdeal.main_arg0 (by simp), (h.1 c).2 Cert.KernelIdeal.main_arg1 (by simp), (h.1 c).2 Cert.KernelIdeal.main_arg2 (by simp),
        (h.1 c).2 Cert.KernelIdeal.main_arg3 (by simp), (h.1 c).2 Cert.KernelIdeal.main_arg4 (by simp)⟩, h.2⟩)
    (run_main (F := F) m ρ hT)

theorem frame_i : Cert.quiescent_KernelIdeal := fun m ρ hpre =>
  ends m ρ fun d j => rows_text _ _ _ _ _ (hpre d) j

theorem frame_r : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof

end
-- ==== Proof.Same.lean ====
/-
  The program printed for the float words and the one printed for the extended reals are one text, so the run proved of
  the second is a run of the first.
-/
module

public import proofs.«01_k».proof.Proof.Frames

@[expose] public section

noncomputable section

namespace Cert.Proof

open Idealize.ShloMosaic
open Idealize.ShloMosaic.TcCoe
open Idealize.SL.Sem

set_option maxRecDepth 20000 in
set_option maxHeartbeats 4000000 in
/-- The two programs' bodies are one text. -/
theorem same_bodies : Cert.Kernel.defs₀ (F := Bits) = Cert.KernelIdeal.defs₀ (F := Bits) := by
  funext c l a
  match c, l, a with
  | .tc, 0, _ => rfl
  | .tc, 1, _ => rfl
  | .tc, 2, _ => rfl
  | .scScalar _, 0, _ => rfl
  | .scScalar _, 1, _ => rfl
  | .scScalar _, 2, _ => rfl
  | .scVector _ _, 0, _ => rfl
  | .scVector _ _, 1, _ => rfl
  | .scVector _ _, 2, _ => rfl

/-- So are their calls', -/
theorem same_defs : Cert.Kernel.defs (F := Bits) = Cert.KernelIdeal.defs (F := Bits) :=
  congrArg (fun D => (Cert.Kernel.sc (F := Bits)).defs (Pipeline.defs (Cert.Kernel.pcfgs (F := Bits)) D)) same_bodies

set_option maxRecDepth 20000 in
set_option maxHeartbeats 4000000 in
/-- and their programs on the host. -/
theorem same_main : Cert.Kernel.main (F := Bits) = Cert.KernelIdeal.main (F := Bits) := rfl

theorem same_threads : Cert.Kernel.threads (F := Bits) = Cert.KernelIdeal.threads (F := Bits) :=
  congrArg (fun M => (Cert.Kernel.sc (F := Bits)).threads M) same_main

theorem frame_k : Cert.quiescent_Kernel := fun m ρ hpre =>
  ((congrArg (fun D => θ_run D (Cert.Kernel.threads (F := Bits)) ⟨m, fun _ => 0, ρ⟩) same_defs).trans
    (congrArg (fun P => θ_run (Cert.KernelIdeal.defs (F := Bits)) P ⟨m, fun _ => 0, ρ⟩) same_threads)) ▸
  (θ_run Cert.KernelIdeal.defs _ _).mono (fun _ h => h) (ends (F := Bits) m ρ fun d j => rows_text _ _ _ _ _ (hpre d) j)

end Cert.Proof

end
-- ==== Proof.Drawn.lean ====
/-
  The drawn inputs' precondition read entry by entry, and the claims that the runs under it end with the arguments and the
  semaphores as they were.
-/
module

public import proofs.«01_k».proof.Proof.Frames
public import proofs.«01_k».proof.Proof.Gen.Pre_drawn

@[expose] public section

noncomputable section

namespace Cert.Proof

open Idealize.ShloMosaic
open Idealize.ShloMosaic.TcCoe
open Idealize.SL.Sem

section Pre

variable {F : FTy → Type} [FloatOps F]

instance : Subsingleton Cert.Pre_drawn.S_.Idx := ⟨fun a b => funext fun k => k.elim0⟩

/-- What the drawn inputs' precondition says: the tokens lie in the table, the offsets count up from 0, and the table's
    and the weight's entries pass the finiteness test. -/
theorem drawn_all (x0 : IVec Cert.Pre_drawn.S204800 32) (x1 : IVec Cert.Pre_drawn.S4096 32) (x2 : FVec F Cert.Pre_drawn.S1000000x64 .f32)
    (x3 : FVec F Cert.Pre_drawn.S16x64 .f32) (x4 : FVec F Cert.Pre_drawn.S16 .f32)
    (h : Cert.Pre_drawn.fn x0 x1 x2 x3 x4 = fun _ => 1#1) :
    (∀ j, (x0 j).toNat < 1000000) ∧ (∀ j : Cert.Pre_drawn.S4096.Idx, x1 j = BitVec.ofNat 32 (j 0).val)
      ∧ (∀ j, cmpf .olt (Host.absf x2) (fun _ => FloatOps.ofBits .f32 0x7F800000#32) j = 1#1)
      ∧ ∀ j, cmpf .olt (Host.absf x3) (fun _ => FloatOps.ofBits .f32 0x7F800000#32) j = 1#1 := by
  have e := congrFun h i0
  have e1 := andi_left e
  have e2 := andi_left e1
  refine ⟨fun j => lt_of_range _ (Host.reduce_andi_all _ _ _ _ _ (andi_left e2) j), fun j => ?_,
    fun j => Host.reduce_andi_all _ _ _ _ _ (andi_right e1) j, fun j => Host.reduce_andi_all _ _ _ _ _ (andi_right e) j⟩
  exact IntOp.cmpi_eq.1 (Host.reduce_andi_all _ _ _ _ _ (andi_right e2) j)

end Pre

theorem frame_id : Cert.quiescent_KernelIdeal_pre_drawn := fun m ρ hpre =>
  ends m ρ fun d j => (drawn_all _ _ _ _ _ (hpre d)).1 j

theorem frame_rd : Cert.quiescent_ReferenceIdeal_pre_drawn := fun m ρ _ => frame_r m ρ trivial

end Cert.Proof

end
-- ==== Proof.Spec.lean ====
/-
  What both programs compute, written once over the real numbers: the score of a token, the mean over the last bag, and the
  sums of a text split the two ways the programs split it.
-/
module

public import Idealize.ShloMosaic.Lib.ValueIdx
public import Idealize.ShloMosaic.Lib.IdealHost
public import Idealize.ShloMosaic.Lib.Pipeline.Value

@[expose] public section

noncomputable section

namespace Cert.Proof.Spec

open Idealize.ShloMosaic
open Idealize.ShloMosaic.ValueIdx

/-- The table's index of row `t`, entry `e`. -/
def rowIx (t : ℕ) (e : Fin 64) : (⟨2, ![1000000, 64]⟩ : Shape).Idx := ix2 ⟨t % 1000000, Nat.mod_lt _ (by decide)⟩ e

/-- Token `t`'s score for class `c`: its table row times the class's weights. -/
def score (e : (⟨2, ![1000000, 64]⟩ : Shape).Idx → ℝ) (w : (⟨2, ![16, 64]⟩ : Shape).Idx → ℝ) (t : ℕ) (c : Fin 16) : ℝ :=
  ∑ q : Fin 64, e (rowIx t q) * w (ix2 c q)

/-- The value both programs leave: every bag but the last holds one token, and the last bag's 200705 tokens are averaged. -/
def out (T : ℕ → ℕ) (e : (⟨2, ![1000000, 64]⟩ : Shape).Idx → ℝ) (w : (⟨2, ![16, 64]⟩ : Shape).Idx → ℝ)
    (bias : (⟨1, ![16]⟩ : Shape).Idx → EReal) (i : (⟨2, ![4096, 16]⟩ : Shape).Idx) : EReal :=
  ((if (i 0).val = 4095 then (∑ n ∈ Finset.range 200705, score e w (T (4095 + n)) (i 1)) / 200705
    else score e w (T (i 0).val) (i 1) : ℝ) : EReal) + bias (ix1 (i 1))

/-- A sum over the whole text of the positions that belong to bag `b`: one position, or the last 200705. -/
theorem sum_bag (f : ℕ → ℝ) (b : ℕ) (hb : b < 4096) :
    (∑ n : Fin 204800, if min n.val 4095 = b then f n.val else 0)
      = if b = 4095 then ∑ n ∈ Finset.range 200705, f (4095 + n) else f b := by
  rw [Fin.sum_univ_eq_sum_range (fun n => if min n 4095 = b then f n else 0) 204800]
  by_cases h : b = 4095
  · rw [if_pos h, show (204800 : ℕ) = 4095 + 200705 by norm_num, Finset.sum_range_add, Finset.sum_eq_zero, zero_add]
    · refine Finset.sum_congr rfl fun n _ => ?_
      rw [if_pos (by omega)]
    · intro n hn
      have := Finset.mem_range.1 hn
      rw [if_neg (by omega)]
  · rw [if_neg h, Finset.sum_eq_single b]
    · rw [if_pos (by omega)]
    · intro n _ hn
      rw [if_neg (by omega)]
    · intro hn
      exact absurd (Finset.mem_range.2 (by omega)) hn

/-- A sum of embedded reals is the embedded sum. -/
theorem coe_sum' {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the second nonzero, as the programs' division takes it. -/
theorem div_real (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- An extended real whose absolute value passes the test against infinity is a real. -/
theorem real_of_test (x : EReal) (h : max x (-x) < ⊤) : x = ((x.toReal : ℝ) : EReal) := by
  refine (EReal.coe_toReal ?_ ?_).symm
  · rintro rfl
    simp at h
  · rintro rfl
    simp at h

end Cert.Proof.Spec

end
-- ==== Proof.Pack.lean ====
/-
  The packed table at exact arithmetic: the lanes that a token names hold its scores, the padding rows hold zeros, and so the
  sums that a task leaves are the scores of its tokens added up.
-/
module

public import proofs.«01_k».proof.Proof.Front
public import proofs.«01_k».proof.Proof.Region0
public import proofs.«01_k».proof.Proof.Spec
public import Idealize.ShloMosaic.Lib.IdealHost
public import Idealize.ShloMosaic.Lib.ValueLayout
public import Idealize.ShloMosaic.Lib.Pointwise.Contract

@[expose] public section

noncomputable section

namespace Cert.Proof.Pack

open Cert.KernelIdeal Cert.KernelIdeal.Gen
open Idealize.ShloMosaic hiding ix0 ix1 ix2 ix3 eq_ix1 eq_ix2 sum_idx2
open Idealize.ShloMosaic.ValueIdx
open Cert.Proof Cert.Proof.Spec Cert.Proof.Words

/-- The exact float type of the programs. -/
abbrev Ex : FTy → Type := Idealize.ShloMosaic.Ideal

/-- The transposed table holds the table's reals. -/
def TableIs (E : S64x1000000.Idx → Ex .f32) (e : (⟨2, ![1000000, 64]⟩ : Shape).Idx → ℝ) : Prop :=
  ∀ (q : Fin 64) (t : Fin 1000000), (E (ix2 q t) : EReal) = ((e (ix2 t q) : ℝ) : EReal)

/-- Slab `k` of the placed weights holds the weights in lanes `16k … 16k + 15` and zeros elsewhere. -/
def SlabsAre (Wp : S8x64x128.Idx → Ex .f32) (w : (⟨2, ![16, 64]⟩ : Shape).Idx → ℝ) : Prop :=
  ∀ (k : Fin 8) (q : Fin 64) (l : Fin 128), (Wp (ix3 k q l) : EReal)
    = if l.val / 16 = k.val then ((w (ix2 ⟨l.val % 16, Nat.mod_lt _ (by decide)⟩ q) : ℝ) : EReal) else 0

/-- One product at an entry. -/
theorem prod_at (B : S64x8192.Idx → Ex .f32) (Wp : S8x64x128.Idx → Ex .f32) (n : ℕ) (k : Fin 8) (x l : Fin 128) :
    (prodAt B Wp n k (ix2 x l) : EReal)
      = ∑ q : Fin 64, (B (ix2 q ⟨(n + x.val) % 8192, Nat.mod_lt _ (by decide)⟩) : EReal) * Wp (ix3 k q l) := by
  have z : ((constant S128x128 .f32 0x00000000#32 : FVec Ex S128x128 .f32) (ix2 x l) : EReal) = 0 := Ideal.ofBits_zero_f32
  have hl : ∀ q : Fin 64, dot_S64x128_S64x128_S128x128_0_0_1_1_n_n.lhsIdx (ix2 x l)
      (DotDims.contrIdx₁ dot_S64x128_S64x128_S128x128_0_0_1_1_n_n (a := 0) rfl (K := 64) rfl q) = ix2 q x := by
    intro q
    funext a
    match a with
    | ⟨0, _⟩ => rfl
    | ⟨1, _⟩ => rfl
  have hr : ∀ q : Fin 64, dot_S64x128_S64x128_S128x128_0_0_1_1_n_n.rhsIdx (ix2 x l)
      (DotDims.contrIdx₁ dot_S64x128_S64x128_S128x128_0_0_1_1_n_n (a := 0) rfl (K := 64) rfl q) = ix2 q l := by
    intro q
    funext a
    match a with
    | ⟨0, _⟩ => rfl
    | ⟨1, _⟩ => rfl
  unfold prodAt
  refine (Ideal.matmul_apply _ _ _ _ _ _).trans ?_
  rw [z, zero_add]
  refine (DotDims.sum_contr₁ dot_S64x128_S64x128_S128x128_0_0_1_1_n_n (a := 0) rfl (K := 64) rfl _).trans (Finset.sum_congr rfl fun q _ => ?_)
  rw [hl, hr, shapeCast_self, shapeCast_1ab_ab_apply]
  refine congrArg₂ (fun y z : EReal => y * z) (congrArg B ?_) (congrArg Wp ?_)
  · funext a
    match a with
    | ⟨0, _⟩ => rfl
    | ⟨1, _⟩ => rfl
  · funext a
    match a with
    | ⟨0, _⟩ => rfl
    | ⟨1, _⟩ => rfl
    | ⟨2, _⟩ => rfl

theorem blk_at (B : S64x8192.Idx → Ex .f32) (Wp : S8x64x128.Idx → Ex .f32) (r : Fin 1024) (l : Fin 128) (n : ℕ) (x : Fin 128)
    (hn : r.val / 128 = n) (hx : r.val % 128 = x.val) : outBlk B Wp (ix2 r l) = tileAt B Wp (1024 * n) (ix2 x l) := by
  subst hn
  unfold outBlk
  congr 1
  funext a
  match a with
  | ⟨0, _⟩ => exact Fin.ext hx
  | ⟨1, _⟩ => rfl

/-- The tile at an entry whose lane lies in group `k`: only slab `k`'s product is not zero. -/
theorem tile_at (B : S64x8192.Idx → Ex .f32) (Wp : S8x64x128.Idx → Ex .f32) (w : (⟨2, ![16, 64]⟩ : Shape).Idx → ℝ) (hW : SlabsAre Wp w)
    (n : ℕ) (k : Fin 8) (x l : Fin 128) (hl : l.val / 16 = k.val) :
    (tileAt B Wp n (ix2 x l) : EReal)
      = ∑ q : Fin 64, (B (ix2 q ⟨(n + 128 * k.val + x.val) % 8192, Nat.mod_lt _ (by decide)⟩) : EReal)
          * ((w (ix2 ⟨l.val % 16, Nat.mod_lt _ (by decide)⟩ q) : ℝ) : EReal) := by
  have hz : ∀ (m : ℕ) (g : Fin 8), g ≠ k → (prodAt B Wp m g (ix2 x l) : EReal) = 0 := by
    intro m g hg
    rw [prod_at]
    refine Finset.sum_eq_zero fun q _ => ?_
    rw [hW, if_neg (fun h => hg (Fin.ext (by omega))), mul_zero]
  have hk : ∀ m : ℕ, (prodAt B Wp m k (ix2 x l) : EReal)
      = ∑ q : Fin 64, (B (ix2 q ⟨(m + x.val) % 8192, Nat.mod_lt _ (by decide)⟩) : EReal)
          * ((w (ix2 ⟨l.val % 16, Nat.mod_lt _ (by decide)⟩ q) : ℝ) : EReal) := by
    intro m
    rw [prod_at]
    refine Finset.sum_congr rfl fun q _ => ?_
    rw [hW, if_pos hl]
  have ha : ∀ (a b : FVec Ex S128x128 .f32), (addf a b (ix2 x l) : EReal) = (a (ix2 x l) : EReal) + b (ix2 x l) := fun _ _ => rfl
  unfold tileAt
  rw [ha, ha, ha, ha, ha, ha, ha, ← hk]
  fin_cases k
  · rw [hz _ 1 (by decide), hz _ 2 (by decide), hz _ 3 (by decide), hz _ 4 (by decide), hz _ 5 (by decide), hz _ 6 (by decide), hz _ 7 (by decide)]
    simp only [add_zero]
    rfl
  · rw [hz _ 0 (by decide), hz _ 2 (by decide), hz _ 3 (by decide), hz _ 4 (by decide), hz _ 5 (by decide), hz _ 6 (by decide), hz _ 7 (by decide)]
    simp only [add_zero, zero_add]
    rfl
  · rw [hz _ 0 (by decide), hz _ 1 (by decide), hz _ 3 (by decide), hz _ 4 (by decide), hz _ 5 (by decide), hz _ 6 (by decide), hz _ 7 (by decide)]
    simp only [add_zero, zero_add]
    rfl
  · rw [hz _ 0 (by decide), hz _ 1 (by decide), hz _ 2 (by decide), hz _ 4 (by decide), hz _ 5 (by decide), hz _ 6 (by decide), hz _ 7 (by decide)]
    simp only [add_zero, zero_add]
    rfl
  · rw [hz _ 0 (by decide), hz _ 1 (by decide), hz _ 2 (by decide), hz _ 3 (by decide), hz _ 5 (by decide), hz _ 6 (by decide), hz _ 7 (by decide)]
    simp only [add_zero, zero_add]
    rfl
  · rw [hz _ 0 (by decide), hz _ 1 (by decide), hz _ 2 (by decide), hz _ 3 (by decide), hz _ 4 (by decide), hz _ 6 (by decide), hz _ 7 (by decide)]
    simp only [add_zero, zero_add]
    rfl
  · rw [hz _ 0 (by decide), hz _ 1 (by decide), hz _ 2 (by decide), hz _ 3 (by decide), hz _ 4 (by decide), hz _ 5 (by decide), hz _ 7 (by decide)]
    simp only [add_zero, zero_add]
    rfl
  · rw [hz _ 0 (by decide), hz _ 1 (by decide), hz _ 2 (by decide), hz _ 3 (by decide), hz _ 4 (by decide), hz _ 5 (by decide), hz _ 6 (by decide)]
    simp only [zero_add]
    rfl

/-- The lanes of the packed table that token `t` names hold its scores. -/
theorem packed_score (E : S64x1000000.Idx → Ex .f32) (Wp : S8x64x128.Idx → Ex .f32) (G : S126976x128.Idx → Ex .f32)
    (e : (⟨2, ![1000000, 64]⟩ : Shape).Idx → ℝ) (w : (⟨2, ![16, 64]⟩ : Shape).Idx → ℝ)
    (hP : Packed E Wp G) (hE : TableIs E e) (hW : SlabsAre Wp w) (t : ℕ) (ht : t < 1000000) (l : ℕ) (c : Fin 16)
    (hl : l = 16 * (t / 128 % 8) + c.val) :
    (G (ixP (t / 1024 * 128 + t % 128) l) : EReal) = ((score e w t c : ℝ) : EReal) := by
  have hc := c.isLt
  have d1 : t / 8192 = t / 1024 / 8 := (Nat.div_div_eq_div_mul t 1024 8).symm
  have d2 : t / 1024 < 977 := by omega
  obtain ⟨B, hB, hG⟩ := hP.1 (t / 8192) (by omega)
  have hl' : l < 128 := by omega
  have hr : (t / 1024 * 128 + t % 128) % 126976 = t / 1024 * 128 + t % 128 := Nat.mod_eq_of_lt (by omega)
  rw [hG (ixP (t / 1024 * 128 + t % 128) l) (ix2 ⟨t / 1024 % 8 * 128 + t % 128, by omega⟩ ⟨l, hl'⟩)
    (by
      show (t / 1024 * 128 + t % 128) % 126976 = 1024 * (t / 8192) + (t / 1024 % 8 * 128 + t % 128)
      rw [hr, d1]
      generalize t / 1024 = u
      generalize t % 128 = v
      omega)
    (by show l % 128 = l; omega),
    blk_at B Wp _ _ (t / 1024 % 8) ⟨t % 128, Nat.mod_lt _ (by decide)⟩ (by show (t / 1024 % 8 * 128 + t % 128) / 128 = _; omega)
      (by show (t / 1024 % 8 * 128 + t % 128) % 128 = t % 128; omega)]
  rw [tile_at B Wp w hW _ ⟨t / 128 % 8, Nat.mod_lt _ (by decide)⟩ _ _ (by show l / 16 = t / 128 % 8; omega)]
  unfold score
  rw [← coe_sum']
  refine Finset.sum_congr rfl fun q _ => ?_
  rw [EReal.coe_mul]
  refine congrArg₂ (fun y z : EReal => y * z) ?_ ?_
  · rw [hB _ (ix2 q ⟨t, ht⟩) rfl (by
      show t = 8192 * (t / 8192) + (1024 * (t / 1024 % 8) + 128 * (t / 128 % 8) + t % 128) % 8192
      omega), hE]
    unfold rowIx
    congr 3
    exact Fin.ext (Nat.mod_eq_of_lt ht).symm
  · congr 3
    exact Fin.ext (by show l % 16 = c.val; omega)

/-- The padding rows hold zeros. -/
theorem packed_zero (E : S64x1000000.Idx → Ex .f32) (Wp : S8x64x128.Idx → Ex .f32) (G : S126976x128.Idx → Ex .f32)
    (hP : Packed E Wp G) (r l : ℕ) (h1 : 125952 ≤ r) (h2 : r < 126976) : (G (ixP r l) : EReal) = 0 := by
  rw [hP.2 (ixP r l) (ix2 ⟨r - 125952, by omega⟩ ⟨l % 128, Nat.mod_lt _ (by decide)⟩)
    (by show r % 126976 = 1024 * 123 + (r - 125952); omega) rfl]
  exact Ideal.ofBits_zero_f32

/-! ## The sums of a task -/

/-- The running sum is the sum. -/
theorem acc_at (G : S126976x128.Idx → Ex .f32) (B : ℕ → ℕ) (o n : ℕ) (x : S16.Idx) :
    (accTo G B o n x : EReal) = ∑ i ∈ Finset.range n, (G (ixP (B i) (o + (x 0).val)) : EReal) := by
  induction n with
  | zero => exact Ideal.ofBits_zero_f32
  | succ n ih =>
    rw [Finset.sum_range_succ, ← ih]
    rfl

/-- A sum over a list's entries, with entries that count for nothing behind it, is the list's sum. -/
theorem sum_padded (f : BitVec 32 → EReal) : ∀ (L : List (BitVec 32)) (pad : ℕ → BitVec 32) (N : ℕ), L.length ≤ N → (∀ n, f (pad n) = 0) →
    ∑ i ∈ Finset.range N, f ((L[i]?).getD (pad i)) = (L.map f).sum
  | [], pad, N, _, hp => Finset.sum_eq_zero fun i _ => hp i
  | a :: L, pad, 0, h, _ => absurd h (Nat.not_succ_le_zero _)
  | a :: L, pad, N + 1, h, hp => by
    rw [Finset.sum_range_succ', List.map_cons, List.sum_cons, ← sum_padded f L (fun n => pad (n + 1)) N (Nat.le_of_succ_le_succ h) (fun n => hp (n + 1)),
      add_comm]
    rfl

/-- The sum over one lane group's list of rows is the sum over the tokens of that group. -/
theorem sum_rows (f : BitVec 32 → EReal) (tk : ℕ → BitVec 32) (k m : ℕ) :
    ((rowsOf tk k m).map f).sum = ∑ n ∈ Finset.range m, if (subW (tk n)).toNat = k then f (rowW (tk n)) else 0 := by
  induction m with
  | zero => rfl
  | succ m ih =>
    rw [Finset.sum_range_succ, ← ih]
    unfold rowsOf
    rw [List.range_succ, List.map_append, List.filter_append, List.map_append, List.map_append, List.sum_append]
    congr 1
    by_cases h : (subW (tk m)).toNat = k
    · simp [h]
    · simp [h]

/-- One lane group's sums of a task: the scores of the group's tokens. -/
theorem group_at (E : S64x1000000.Idx → Ex .f32) (Wp : S8x64x128.Idx → Ex .f32) (G : S126976x128.Idx → Ex .f32)
    (e : (⟨2, ![1000000, 64]⟩ : Shape).Idx → ℝ) (w : (⟨2, ![16, 64]⟩ : Shape).Idx → ℝ)
    (hP : Packed E Wp G) (hE : TableIs E e) (hW : SlabsAre Wp w) (T : S204800.Idx → BitVec 32) (hT : ∀ j, (T j).toNat < 1000000)
    (wid k : ℕ) (c : Fin 16) :
    (groupV G T wid k (ln c) : EReal)
      = ((∑ n ∈ Finset.range 6272, if (tok T wid n).toNat / 128 % 8 = k then score e w (tok T wid n).toNat c else 0 : ℝ) : EReal) := by
  unfold groupV
  rw [acc_at]
  have hlen : (rowsOf (tok T wid) k 6272).length ≤ 128 * chunksK T wid k := by
    unfold chunksK cntK
    omega
  have hpad : ∀ n, (fun v : BitVec 32 => (G (ixP v.toNat (16 * k + c.val)) : EReal)) (padW wid n) = 0 := by
    intro n
    have := padW_toNat wid n
    exact packed_zero E Wp G hP _ _ (by omega) (by omega)
  refine (sum_padded (fun v : BitVec 32 => (G (ixP v.toNat (16 * k + c.val)) : EReal)) (rowsOf (tok T wid) k 6272) (padW wid)
    (128 * chunksK T wid k) hlen hpad).trans ?_
  rw [sum_rows, ← coe_sum']
  refine Finset.sum_congr rfl fun n _ => ?_
  have ht : (tok T wid n).toNat < 1000000 := hT _
  rw [subW_toNat]
  by_cases h : (tok T wid n).toNat / 128 % 8 = k
  · rw [if_pos h, if_pos h]
    show (G (ixP (rowW (tok T wid n)).toNat (16 * k + c.val)) : EReal) = _
    rw [rowW_toNat _ ht, packed_score E Wp G e w hP hE hW _ ht _ c (by rw [h])]
  · rw [if_neg h, if_neg h, EReal.coe_zero]

/-- The lanes that a single bag's token names hold its scores. -/
theorem single_at (E : S64x1000000.Idx → Ex .f32) (Wp : S8x64x128.Idx → Ex .f32) (G : S126976x128.Idx → Ex .f32)
    (e : (⟨2, ![1000000, 64]⟩ : Shape).Idx → ℝ) (w : (⟨2, ![16, 64]⟩ : Shape).Idx → ℝ)
    (hP : Packed E Wp G) (hE : TableIs E e) (hW : SlabsAre Wp w) (T : S204800.Idx → BitVec 32) (hT : ∀ j, (T j).toNat < 1000000)
    (n l : ℕ) (c : Fin 16) (hl : l = 16 * ((T (ixT n)).toNat / 128 % 8) + c.val) :
    (G (ixP (rowW (T (ixT n))).toNat l) : EReal) = ((score e w (T (ixT n)).toNat c : ℝ) : EReal) := by
  rw [rowW_toNat _ (hT _), packed_score E Wp G e w hP hE hW _ (hT _) _ c hl]

/-- Over the eight lane groups every token counts once. -/
theorem sum_groups (m : ℕ) (t : ℕ → ℕ) (f : ℕ → ℝ) :
    (∑ k : Fin 8, ∑ n ∈ Finset.range m, if t n / 128 % 8 = k.val then f n else 0) = ∑ n ∈ Finset.range m, f n := by
  rw [Finset.sum_comm]
  refine Finset.sum_congr rfl fun n _ => ?_
  rw [Finset.sum_eq_single (⟨t n / 128 % 8, Nat.mod_lt _ (by decide)⟩ : Fin 8)]
  · rw [if_pos rfl]
  · intro k _ hk
    rw [if_neg (fun h => hk (Fin.ext h.symm))]
  · exact fun h => absurd (Finset.mem_univ _) h

/-- Blocks of `a` positions one after the other are one run of positions. -/
theorem sum_blocks (f : ℕ → ℝ) (o a m : ℕ) :
    (∑ w ∈ Finset.range m, ∑ n ∈ Finset.range a, f (o + a * w + n)) = ∑ n ∈ Finset.range (a * m), f (o + n) := by
  induction m with
  | zero => rw [Nat.mul_zero, Finset.sum_range_zero, Finset.sum_range_zero]
  | succ m ih =>
    rw [Finset.sum_range_succ, ih, Nat.mul_succ, Finset.sum_range_add]
    congr 1
    refine Finset.sum_congr rfl fun n _ => ?_
    rw [Nat.add_assoc]

/-- The 32 shares of 6272 positions are the last 200704 positions of the text. -/
theorem sum_shares (f : ℕ → ℝ) :
    (∑ w : Fin 32, ∑ n ∈ Finset.range 6272, f (4096 + 6272 * w.val + n)) = ∑ n ∈ Finset.range 200704, f (4096 + n) := by
  rw [Fin.sum_univ_eq_sum_range (fun w => ∑ n ∈ Finset.range 6272, f (4096 + 6272 * w + n)) 32]
  exact sum_blocks f 4096 6272 32

end Cert.Proof.Pack

end
-- ==== Proof.HostVal.lean ====
/-
  The host operations' arrays read at an entry, at exact arithmetic: the turned table, the weights put in their eight places,
  and what the last call reads.
-/
module

public import proofs.«01_k».proof.Proof.Main
public import proofs.«01_k».proof.Proof.Pack
public import Idealize.ShloMosaic.Lib.Routing.OpsPair
public import Idealize.ShloMosaic.Lib.Routing.OpsSet
public import Idealize.ShloMosaic.Lib.WordCmp
public import Idealize.ShloMosaic.Lib.ValueLayout
public import Idealize.ShloMosaic.Lib.ValueLayoutCasts

@[expose] public section

noncomputable section

namespace Cert.Proof.HostVal

open Cert.KernelIdeal Cert.KernelIdeal.Gen
open Idealize.ShloMosaic hiding ix0 ix1 ix2 ix3 eq_ix1 eq_ix2 sum_idx2
open Idealize.ShloMosaic.ValueIdx
open Idealize.ShloMosaic.TcCoe
open Idealize.ShloMosaic.StableHlo (after)
open Cert.Proof Cert.Proof.Spec Cert.Proof.Pack

/-- Weight `(r, c)` of the eight placements lands at `(g, r, o + c)` when the two words are `g` and `o`. -/
theorem lands_slab (idx : IVec S2 32) (r' : Fin 64) (c' : Fin 16) (g : Fin 8) (r : Fin 64) (l : Fin 128) :
    (scatter_S8x64x128_S2_S64x16_01_0_02_0 : ScatterDims S8x64x128 S2 S64x16).resultIdx? (ix2 r' c') idx = some (ix3 g r l)
      ↔ (idx (ix1 (0 : Fin 2))).toInt = g.val ∧ r' = r ∧ (idx (ix1 (1 : Fin 2))).toInt + c'.val = l.val := by
  have s0 : (scatter_S8x64x128_S2_S64x16_01_0_02_0 : ScatterDims S8x64x128 S2 S64x16).start (ix2 r' c') idx 0 = (idx (ix1 (0 : Fin 2))).toInt := by
    unfold ScatterDims.start
    rw [dif_pos (by decide)]
    refine congrArg (fun i => (idx i).toInt) ?_
    funext a
    apply Fin.ext
    match a with
    | ⟨0, _⟩ => rfl
  have s1 : (scatter_S8x64x128_S2_S64x16_01_0_02_0 : ScatterDims S8x64x128 S2 S64x16).start (ix2 r' c') idx 1 = 0 := rfl
  have s2 : (scatter_S8x64x128_S2_S64x16_01_0_02_0 : ScatterDims S8x64x128 S2 S64x16).start (ix2 r' c') idx 2 = (idx (ix1 (1 : Fin 2))).toInt := by
    unfold ScatterDims.start
    rw [dif_pos (by decide)]
    refine congrArg (fun i => (idx i).toInt) ?_
    funext a
    apply Fin.ext
    match a with
    | ⟨0, _⟩ => rfl
  have w0 : (scatter_S8x64x128_S2_S64x16_01_0_02_0 : ScatterDims S8x64x128 S2 S64x16).window (ix2 r' c') 0 = 0 := rfl
  have w1 : (scatter_S8x64x128_S2_S64x16_01_0_02_0 : ScatterDims S8x64x128 S2 S64x16).window (ix2 r' c') 1 = r'.val := rfl
  have w2 : (scatter_S8x64x128_S2_S64x16_01_0_02_0 : ScatterDims S8x64x128 S2 S64x16).window (ix2 r' c') 2 = c'.val := rfl
  rw [Routing.resultIdx?_eq_some]
  constructor
  · intro h
    have h0 := h 0
    have h1 := h 1
    have h2 := h 2
    rw [s0, w0] at h0
    rw [s1, w1] at h1
    rw [s2, w2] at h2
    have e0 : ((ix3 g r l : S8x64x128.Idx) 0).val = g.val := rfl
    have e1 : ((ix3 g r l : S8x64x128.Idx) 1).val = r.val := rfl
    have e2 : ((ix3 g r l : S8x64x128.Idx) 2).val = l.val := rfl
    exact ⟨by omega, Fin.ext (by omega), by omega⟩
  · rintro ⟨h0, h1, h2⟩ a
    match a with
    | ⟨0, _⟩ =>
      show (scatter_S8x64x128_S2_S64x16_01_0_02_0 : ScatterDims S8x64x128 S2 S64x16).start (ix2 r' c') idx 0
        + ((scatter_S8x64x128_S2_S64x16_01_0_02_0 : ScatterDims S8x64x128 S2 S64x16).window (ix2 r' c') 0 : ℤ) = (g.val : ℤ)
      rw [s0, w0]
      omega
    | ⟨1, _⟩ =>
      show (scatter_S8x64x128_S2_S64x16_01_0_02_0 : ScatterDims S8x64x128 S2 S64x16).start (ix2 r' c') idx 1
        + ((scatter_S8x64x128_S2_S64x16_01_0_02_0 : ScatterDims S8x64x128 S2 S64x16).window (ix2 r' c') 1 : ℤ) = (r.val : ℤ)
      rw [s1, w1, h1]
      omega
    | ⟨2, _⟩ =>
      show (scatter_S8x64x128_S2_S64x16_01_0_02_0 : ScatterDims S8x64x128 S2 S64x16).start (ix2 r' c') idx 2
        + ((scatter_S8x64x128_S2_S64x16_01_0_02_0 : ScatterDims S8x64x128 S2 S64x16).window (ix2 r' c') 2 : ℤ) = (l.val : ℤ)
      rw [s2, w2]
      omega

/-- The weights are in the first `n` slabs. -/
def Upto (n : ℕ) (x : S8x64x128.Idx → Ex .f32) (w : (⟨2, ![16, 64]⟩ : Shape).Idx → ℝ) : Prop :=
  ∀ (g : Fin 8) (q : Fin 64) (l : Fin 128), (x (ix3 g q l) : EReal)
    = if l.val / 16 = g.val ∧ g.val < n then ((w (ix2 ⟨l.val % 16, Nat.mod_lt _ (by decide)⟩ q) : ℝ) : EReal) else 0

/-- One placement fills the next slab. -/
theorem upto_put (w : (⟨2, ![16, 64]⟩ : Shape).Idx → ℝ) (u : S64x16.Idx → Ex .f32) (hu : ∀ (q : Fin 64) (c : Fin 16), (u (ix2 q c) : EReal) = ((w (ix2 c q) : ℝ) : EReal))
    (n : ℕ) (hn : n < 8) (x : S8x64x128.Idx → Ex .f32) (hx : Upto n x w) :
    Upto (n + 1) (put (F := Ex) x (two (F := Ex) (one (F := Ex) (constantI S_ 32 (BitVec.ofNat 32 n))) (one (F := Ex) (constantI S_ 32 (BitVec.ofNat 32 (16 * n))))) u) w := by
  intro g q l
  have hl := l.isLt
  have i0 : ((two (F := Ex) (one (F := Ex) (constantI S_ 32 (BitVec.ofNat 32 n))) (one (F := Ex) (constantI S_ 32 (BitVec.ofNat 32 (16 * n))))) (ix1 (0 : Fin 2))
      : BitVec 32) = BitVec.ofNat 32 n := rfl
  have i1 : ((two (F := Ex) (one (F := Ex) (constantI S_ 32 (BitVec.ofNat 32 n))) (one (F := Ex) (constantI S_ 32 (BitVec.ofNat 32 (16 * n))))) (ix1 (1 : Fin 2))
      : BitVec 32) = BitVec.ofNat 32 (16 * n) := rfl
  have t0 : (BitVec.ofNat 32 n).toInt = (n : ℤ) := WordCmp.toInt_ofNat_of_lt (by omega)
  have t1 : (BitVec.ofNat 32 (16 * n)).toInt = ((16 * n : ℕ) : ℤ) := WordCmp.toInt_ofNat_of_lt (by omega)
  by_cases h : l.val / 16 = g.val ∧ g.val = n
  · rw [if_pos ⟨h.1, by omega⟩]
    refine (Routing.scatter_set_hit _ x _ u (ix3 g q l) (u (ix2 q ⟨l.val % 16, Nat.mod_lt _ (by decide)⟩)) ?_ (ix2 q ⟨l.val % 16, Nat.mod_lt _ (by decide)⟩) ?_).trans (hu _ _)
    · intro k hk
      obtain ⟨r', c', rfl⟩ : ∃ (r' : Fin 64) (c' : Fin 16), k = ix2 r' c' := ⟨k 0, k 1, eq_ix2 k⟩
      obtain ⟨-, e1, e2⟩ := (lands_slab _ r' c' g q l).1 hk
      rw [i1, t1] at e2
      rw [e1]
      refine congrArg u (congrArg (ix2 q) (Fin.ext ?_))
      show c'.val = l.val % 16
      have := c'.isLt
      omega
    · rw [lands_slab, i0, i1, t0, t1]
      refine ⟨by omega, rfl, ?_⟩
      show ((16 * n : ℕ) : ℤ) + ((l.val % 16 : ℕ) : ℤ) = (l.val : ℤ)
      omega
  · refine (Routing.scatter_set_miss _ x _ u (ix3 g q l) ?_).trans ((hx g q l).trans (if_congr ?_ rfl rfl))
    · intro k hk
      obtain ⟨r', c', rfl⟩ : ∃ (r' : Fin 64) (c' : Fin 16), k = ix2 r' c' := ⟨k 0, k 1, eq_ix2 k⟩
      obtain ⟨e0, -, e2⟩ := (lands_slab _ r' c' g q l).1 hk
      rw [i0, t0] at e0
      rw [i1, t1] at e2
      have := c'.isLt
      exact h (by omega)
    · omega

variable (m : (ℓ : Loc nD τ sig) → Buf (Elt Ex) ℓ) (d : Dev nD)

set_option maxRecDepth 16384 in
/-- The turned table. -/
theorem table_is (e : (⟨2, ![1000000, 64]⟩ : Shape).Idx → ℝ) (he : ∀ j, (m ((d.tc : Thread nD τ).loc main_arg2) j : EReal) = ((e j : ℝ) : EReal)) :
    TableIs (Es (F := Ex) m d) e := by
  intro q t
  have h : Es (F := Ex) m d = trT (F := Ex) (m ((d.tc : Thread nD τ).loc main_arg2)) := by
    unfold Es mid ops1
    after_reads_simp
  rw [h, ← he]
  refine congrArg (m ((d.tc : Thread nD τ).loc main_arg2)) ?_
  funext a
  match a with
  | ⟨0, _⟩ => rfl
  | ⟨1, _⟩ => rfl

set_option maxRecDepth 16384 in
set_option maxHeartbeats 2000000 in
/-- The placed weights. -/
theorem slabs_are (w : (⟨2, ![16, 64]⟩ : Shape).Idx → ℝ) (hw : ∀ j, (m ((d.tc : Thread nD τ).loc main_arg3) j : EReal) = ((w j : ℝ) : EReal)) :
    SlabsAre (Ws (F := Ex) m d) w := by
  have hu : ∀ (q : Fin 64) (c : Fin 16), (trW (F := Ex) (m ((d.tc : Thread nD τ).loc main_arg3)) (ix2 q c) : EReal) = ((w (ix2 c q) : ℝ) : EReal) := by
    intro q c
    rw [← hw]
    refine congrArg (m ((d.tc : Thread nD τ).loc main_arg3)) ?_
    funext a
    match a with
    | ⟨0, _⟩ => rfl
    | ⟨1, _⟩ => rfl
  have h : Upto 8 (Ws (F := Ex) m d) w := by
    unfold Ws mid ops1
    after_reads_simp
    have h0 : Upto 0 (spread (F := Ex) (constant (F := Ex) S_ .f32 0x00000000#32)) w := by
      intro g q l
      rw [if_neg (by omega)]
      exact Ideal.ofBits_zero_f32
    exact (upto_put w _ hu 7 (by decide) _ (upto_put w _ hu 6 (by decide) _ (upto_put w _ hu 5 (by decide) _ (upto_put w _ hu 4 (by decide) _ (upto_put w _ hu 3 (by decide) _ (upto_put w _ hu 2 (by decide) _ (upto_put w _ hu 1 (by decide) _ (upto_put w _ hu 0 (by decide) _ h0))))))))
  intro k q l
  refine (h k q l).trans (if_congr ?_ rfl rfl)
  have := k.isLt
  omega

variable (Sg : S4096x128.Idx → Ex .f32) (Pt : S4096.Idx → Ex .f32)

/-- The first result of the middle call stays. -/
theorem read_single : after ops2 (aft (F := Ex) m d Sg Pt) (Proc.devRef .tc main_v36_0) = Sg := by
  rw [after2 _ (by decide)]
  unfold aft
  rw [Function.update_of_ne (by decide), Function.update_self]

/-- What the middle call does not write stays as the host left it. -/
theorem aft_arg {r : Ref sig .tc} (h0 : Proc.devRef (τ := τ) .tc r ≠ Proc.devRef .tc main_v36_0) (h1 : Proc.devRef (τ := τ) .tc r ≠ Proc.devRef .tc main_v36_1)
    (hr : r ∉ wr1) : aft (F := Ex) m d Sg Pt (Proc.devRef .tc r) = m (d, Proc.devRef .tc r) := by
  unfold aft
  rw [Function.update_of_ne h1, Function.update_of_ne h0]
  exact after1 _ hr

/-- The shares' sums, a row a share. -/
theorem read_parts (w : Fin 32) (l : Fin 128) (i : S4096.Idx) (hi : (i 0).val = 128 * w.val + l.val) :
    (after ops2 (aft (F := Ex) m d Sg Pt) (Proc.devRef .tc main_v37) : S32x128.Idx → Ex .f32) (ix2 w l) = Pt i := by
  have h : (after ops2 (aft (F := Ex) m d Sg Pt) (Proc.devRef .tc main_v37) : S32x128.Idx → Ex .f32)
      = shapeCast S32x128 (aft (F := Ex) m d Sg Pt (Proc.devRef .tc main_v36_1) : S4096.Idx → Ex .f32) shapeCasts_S4096_S32x128 := by
    unfold ops2
    after_reads_simp
    rfl
  have h2 : aft (F := Ex) m d Sg Pt (Proc.devRef .tc main_v36_1) = Pt := by
    unfold aft
    rw [Function.update_self]
  rw [h, h2]
  refine shapeCast_apply Pt shapeCasts_S4096_S32x128 _ _ ?_
  rw [Shape.rowMajor_val_one, Shape.rowMajor_val_two]
  show (i 0).val = w.val * 128 + l.val
  omega

/-- The first tokens, as a column. -/
theorem read_tokens (b : Fin 4096) (i : S204800.Idx) (hi : (i 0).val = b.val) :
    (after ops2 (aft (F := Ex) m d Sg Pt) (Proc.devRef .tc main_v39) : S4096x1.Idx → BitVec 32) (ix2 b (0 : Fin 1)) = Txs m d i := by
  have h : (after ops2 (aft (F := Ex) m d Sg Pt) (Proc.devRef .tc main_v39) : S4096x1.Idx → BitVec 32)
      = shapeCast S4096x1 (extractStridedSlice S4096 ![0] (aft (F := Ex) m d Sg Pt (Proc.devRef .tc main_arg0) : S204800.Idx → BitVec 32) slices_S204800_S4096_0)
        shapeCasts_S4096_S4096x1 := by
    unfold ops2
    after_reads_simp
    rfl
  rw [h, aft_arg m d Sg Pt (by decide) (by decide) (by decide), shapeCast_a_a1_apply]
  refine extractStridedSlice_apply ![0] _ _ _ i fun a => ?_
  match a with
  | ⟨0, _⟩ =>
    show (i 0).val = 0 + b.val
    omega

/-- The bias, as a row. -/
theorem read_bias (c : Fin 16) :
    (after ops2 (aft (F := Ex) m d Sg Pt) (Proc.devRef .tc main_v40) : S1x16.Idx → Ex .f32) (ix2 (0 : Fin 1) c)
      = m ((d.tc : Thread nD τ).loc main_arg4) (ix1 c) := by
  have h : (after ops2 (aft (F := Ex) m d Sg Pt) (Proc.devRef .tc main_v40) : S1x16.Idx → Ex .f32)
      = shapeCast S1x16 (aft (F := Ex) m d Sg Pt (Proc.devRef .tc main_arg4) : S16.Idx → Ex .f32) shapeCasts_S16_S1x16 := by
    unfold ops2
    after_reads_simp
    rfl
  rw [h, aft_arg m d Sg Pt (by decide) (by decide) (by decide), shapeCast_a_1a_apply]

end Cert.Proof.HostVal

end
-- ==== Proof.Finish.lean ====
/-
  The last call's result read at an entry, at exact arithmetic: the lanes that the first token names, the last row's mean, and
  the bias.
-/
module

public import proofs.«01_k».proof.Proof.Region2
public import proofs.«01_k».proof.Proof.Spec
public import Idealize.ShloMosaic.Lib.IdealHost
public import Idealize.ShloMosaic.Lib.Pointwise.Contract
public import Idealize.ShloMosaic.Lib.ValueLayout
public import Idealize.ShloMosaic.Lib.ValueIdxRank1
public import Idealize.ShloMosaic.PureOps.Ideal.Laws

@[expose] public section

noncomputable section

namespace Cert.Proof.Finish

open Cert.KernelIdeal Cert.KernelIdeal.Gen
open Idealize.ShloMosaic hiding ix0 ix1 ix2 ix3 eq_ix1 eq_ix2 sum_idx2
open Idealize.ShloMosaic.ValueIdx
open Cert.Proof Cert.Proof.Spec

/-- The exact float type of the programs. -/
abbrev Ex : FTy → Type := Idealize.ShloMosaic.Ideal

/-- A choice made by an equality test of two words. -/
theorem choose_eq {α : Type} (a b : BitVec 32) (x y : α) : Scalar.select (IntOp.cmpi .eq a b) x y = if a = b then x else y := by
  by_cases h : a = b
  · subst h
    rw [if_pos rfl]
    simp [Scalar.select, IntOp.cmpi]
  · rw [if_neg h]
    have h' : (a == b) = false := beq_false_of_ne h
    simp [Scalar.select, IntOp.cmpi, h']

/-- A column spread over sixteen lanes. -/
theorem col_at {α : Type} (v : S4096x1.Idx → α) (h : S4096x1.Broadcasts S4096x16) (b : Fin 4096) (c : Fin 16) :
    broadcastTo S4096x16 v h (ix2 b c) = v (ix2 b (0 : Fin 1)) :=
  broadcastTo_apply v h _ _ fun a => by
    match a with
    | ⟨0, _⟩ => rfl
    | ⟨1, _⟩ => rfl

/-- Sixteen lanes cut out of the rows. -/
theorem lanes_at {α : Type} (o : ℕ) (v : S4096x128.Idx → α) (h : S4096x128.Slices ![0, o] S4096x16) (b : Fin 4096) (c : Fin 16) (ho : o + c.val < 128) :
    extractStridedSlice S4096x16 ![0, o] v h (ix2 b c) = v (ix2 b ⟨o + c.val, ho⟩) :=
  extractStridedSlice_apply _ v h _ _ fun a => by
    match a with
    | ⟨0, _⟩ => exact (Nat.zero_add _).symm
    | ⟨1, _⟩ => rfl

/-- Sixteen of the 128 sums. -/
theorem part_at {α : Type} (o : ℕ) (v : S128.Idx → α) (h : S128.Slices ![o] S16) (c : Fin 16) (ho : o + c.val < 128) :
    extractStridedSlice S16 ![o] v h (ix1 c) = v (ix1 ⟨o + c.val, ho⟩) :=
  extractStridedSlice_apply _ v h _ _ fun a => by
    match a with
    | ⟨0, _⟩ => rfl

/-- One step of the choice of lanes. -/
theorem step_at {α : Type} (g K : BitVec 32) (m : IVec S4096x1 32) (o : ℕ) (v : S4096x128.Idx → α) (y : S4096x16.Idx → α) (hm : S4096x1.ShapeCasts S4096x1)
    (hb : S4096x1.Broadcasts S4096x16) (h : S4096x128.Slices ![0, o] S4096x16) (b : Fin 4096) (c : Fin 16) (ho : o + c.val < 128) (hg : m (ix2 b (0 : Fin 1)) = g) :
    select (broadcastTo S4096x16 (shapeCast S4096x1 (cmpi .eq m (broadcast S4096x1 K)) hm) hb) (extractStridedSlice S4096x16 ![0, o] v h) y (ix2 b c)
      = if g = K then v (ix2 b ⟨o + c.val, ho⟩) else y (ix2 b c) := by
  rw [shapeCast_self]
  show Scalar.select (broadcastTo S4096x16 (cmpi .eq m (broadcast S4096x1 K)) hb (ix2 b c)) _ _ = _
  rw [col_at, lanes_at o v h b c ho]
  show Scalar.select (IntOp.cmpi .eq (m (ix2 b (0 : Fin 1))) K) _ _ = _
  rw [choose_eq, hg]

/-- The lane group of a row's token. -/
theorem group_word (T1 : S4096x1.Idx → BitVec 32) (j : S4096x1.Idx) : k2_pay3 (F := Ex) T1 j = BitVec.ofNat 32 ((T1 j).toNat / 128 % 8) := by
  unfold k2_pay3
  rw [shapeCast_self]
  show Words.subW (T1 j) = _
  apply BitVec.eq_of_toNat_eq
  have h8 : (T1 j).toNat / 128 % 8 < 2 ^ 32 := by omega
  rw [Words.subW_toNat, BitVec.toNat_ofNat, Nat.mod_eq_of_lt h8]

/-- The lanes chosen for a row. -/
def chosen (S : S4096x128.Idx → Ex .f32) (T1 : S4096x1.Idx → BitVec 32) (b : Fin 4096) (c : Fin 16) : EReal :=
  S (ix2 b ⟨16 * ((T1 (ix2 b (0 : Fin 1))).toNat / 128 % 8) + c.val, by omega⟩)

/-- The choice of lanes, all eight steps. -/
theorem chosen_at (S : S4096x128.Idx → Ex .f32) (T1 : S4096x1.Idx → BitVec 32) (b : Fin 4096) (c : Fin 16) :
    (select (broadcastTo S4096x16 (shapeCast S4096x1 (k2_pay5 (F := Ex) T1) shapeCasts_S4096x1_S4096x1) broadcasts_S4096x1_S4096x16)
      (extractStridedSlice S4096x16 ![0, 112] (k2_pay2 (F := Ex) S) slices_S4096x128_o0_112_S4096x16) (k2_pay4 (F := Ex) S T1) (ix2 b c) : EReal)
      = chosen S T1 b c := by
  have hc := c.isLt
  have hg := group_word T1 (ix2 b (0 : Fin 1))
  have hS : k2_pay2 (F := Ex) S = S := by
    unfold k2_pay2
    exact shapeCast_self _ _
  unfold k2_pay5 k2_pay4
  dsimp only
  rw [hS]
  rw [step_at _ 7#32 _ 112 _ _ _ _ _ b c (by omega) hg, step_at _ 6#32 _ 96 _ _ _ _ _ b c (by omega) hg, step_at _ 5#32 _ 80 _ _ _ _ _ b c (by omega) hg,
    step_at _ 4#32 _ 64 _ _ _ _ _ b c (by omega) hg, step_at _ 3#32 _ 48 _ _ _ _ _ b c (by omega) hg, step_at _ 2#32 _ 32 _ _ _ _ _ b c (by omega) hg,
    step_at _ 1#32 _ 16 _ _ _ _ _ b c (by omega) hg, lanes_at 0 _ _ b c (by omega)]
  unfold chosen
  have key : ∀ (n : ℕ) (_ : n < 8) (hx : 16 * n + c.val < 128),
      (if BitVec.ofNat 32 n = 7#32 then S (ix2 b ⟨112 + c.val, by omega⟩) else if BitVec.ofNat 32 n = 6#32 then S (ix2 b ⟨96 + c.val, by omega⟩)
        else if BitVec.ofNat 32 n = 5#32 then S (ix2 b ⟨80 + c.val, by omega⟩) else if BitVec.ofNat 32 n = 4#32 then S (ix2 b ⟨64 + c.val, by omega⟩)
        else if BitVec.ofNat 32 n = 3#32 then S (ix2 b ⟨48 + c.val, by omega⟩) else if BitVec.ofNat 32 n = 2#32 then S (ix2 b ⟨32 + c.val, by omega⟩)
        else if BitVec.ofNat 32 n = 1#32 then S (ix2 b ⟨16 + c.val, by omega⟩) else S (ix2 b ⟨0 + c.val, by omega⟩)) = S (ix2 b ⟨16 * n + c.val, hx⟩) := by
    intro n hn hx
    interval_cases n <;> rfl
  exact key _ (by omega) _

/-- The sums of the 32 tasks' parts. -/
theorem parts_at (P : S32x128.Idx → Ex .f32) (l : Fin 128) (h : S32x128.ShapeCasts S32x128) :
    ((multiReduction .add [0] S128 (shapeCast S32x128 P h) 0x00000000#32 reduces_S32x128_S128 (.inl rfl) rfl : FVec Ex S128 .f32) (ix1 l) : EReal)
      = ∑ w : Fin 32, (P (ix2 w l) : EReal) := by
  rw [shapeCast_self]
  refine (Ideal.multiReduction_add_single _ _ _ _ _ _).trans ?_
  refine Finset.sum_congr rfl fun w _ => congrArg P ?_
  funext a
  match a with
  | ⟨0, _⟩ => rfl
  | ⟨1, _⟩ => rfl

/-- The pattern that the last row is divided by. -/
theorem bits_size : Ideal.ofBits .f32 0x48440040#32 = ((200705 : ℝ) : EReal) := by
  simp [Ideal.ofBits, Ideal.ieee, -EReal.coe_mul]
  norm_num

/-- The result at an entry. -/
theorem finish_at (S : S4096x128.Idx → Ex .f32) (P : S32x128.Idx → Ex .f32) (T1 : S4096x1.Idx → BitVec 32) (B : S1x16.Idx → Ex .f32)
    (b : Fin 4096) (c : Fin 16) :
    (finish S P T1 B (ix2 b c) : EReal)
      = (if b.val = 4095 then
          Ideal.div (chosen S T1 ⟨4095, by decide⟩ c + ∑ k : Fin 8, ∑ w : Fin 32, (P (ix2 w ⟨16 * k.val + c.val, by omega⟩) : EReal)) ((200705 : ℝ) : EReal)
        else chosen S T1 b c) + B (ix2 (0 : Fin 1) c) := by
  have hc := c.isLt
  have hadd : ∀ {s : Shape} (x y : FVec Ex s .f32) (i : s.Idx), (addf x y i : EReal) = (x i : EReal) + y i := fun _ _ _ => rfl
  have hdiv : ∀ {s : Shape} (x y : FVec Ex s .f32) (i : s.Idx), (divf x y i : EReal) = Ideal.div (x i) (y i) := fun _ _ _ => rfl
  have hrow : ∀ (v : S4096x16.Idx → Ex .f32) (h : S4096x16.Slices ![4095, 0] S1x16),
      extractStridedSlice S1x16 ![4095, 0] v h (ix2 (0 : Fin 1) c) = v (ix2 (⟨4095, by decide⟩ : Fin 4096) c) := fun v h =>
    extractStridedSlice_apply _ v h _ _ fun a => by
      match a with
      | ⟨0, _⟩ => rfl
      | ⟨1, _⟩ => exact (Nat.zero_add _).symm
  have hsel : ∀ (m : IVec S4096x1 32) (K : BitVec 32) (x y : S4096x16.Idx → Ex .f32) (hm : S4096x1.ShapeCasts S4096x1) (hb : S4096x1.Broadcasts S4096x16),
      select (broadcastTo S4096x16 (shapeCast S4096x1 (cmpi .eq m (broadcast S4096x1 K)) hm) hb) x y (ix2 b c)
        = if m (ix2 b (0 : Fin 1)) = K then x (ix2 b c) else y (ix2 b c) := by
    intro m K x y hm hb
    rw [shapeCast_self]
    show Scalar.select (broadcastTo S4096x16 (cmpi .eq m (broadcast S4096x1 K)) hb (ix2 b c)) _ _ = _
    rw [col_at]
    exact choose_eq _ _ _ _
  unfold finish k2_pay1
  dsimp only
  rw [hadd, hsel, chosen_at, broadcastTo_1b_ab_apply, broadcastTo_1b_ab_apply, shapeCast_self, shapeCast_a_1a_apply, hdiv,
    hadd, hadd, hadd, hadd, hadd, hadd, hadd, hadd, shapeCast_1a_a_apply, hrow, chosen_at]
  rw [part_at 0 _ _ c (by omega), part_at 16 _ _ c (by omega), part_at 32 _ _ c (by omega), part_at 48 _ _ c (by omega), part_at 64 _ _ c (by omega),
    part_at 80 _ _ c (by omega), part_at 96 _ _ c (by omega), part_at 112 _ _ c (by omega)]
  rw [parts_at, parts_at, parts_at, parts_at, parts_at, parts_at, parts_at, parts_at, Fin.sum_univ_eight]
  have hi : (iota .tc S4096x1 32 [0] iota_S4096x1_d0_w32 (ix2 b (0 : Fin 1)) = 4095#32) ↔ b.val = 4095 := by
    have e : iota .tc S4096x1 32 [0] iota_S4096x1_d0_w32 (ix2 b (0 : Fin 1)) = BitVec.ofNat 32 b.val := by
      show BitVec.ofNat 32 (0 * 4096 + b.val) = _
      rw [Nat.zero_mul, Nat.zero_add]
    have hb := b.isLt
    rw [e]
    constructor
    · intro h
      have h' := congrArg BitVec.toNat h
      rw [BitVec.toNat_ofNat, Nat.mod_eq_of_lt (by omega)] at h'
      exact h'
    · intro h
      rw [h]
  have hk : ((broadcast S16 (Scalar.ofBits .f32 0x48440040#32 : Ex .f32) : FVec Ex S16 .f32) (ix1 c) : EReal) = ((200705 : ℝ) : EReal) := bits_size
  rw [hk]
  refine congrArg₂ (fun y z : EReal => y + z) (if_congr hi (congrArg (fun y : EReal => Ideal.div y _) ?_) rfl) (congrFun (shapeCast_self B _) _)
  simp only [add_assoc]
  rfl

end Cert.Proof.Finish

end
-- ==== Proof.Ref.lean ====
/-
  The reference's composed term read at an index, at exact arithmetic.
-/
module

public import proofs.«01_k».proof.Proof.Gen.ReferenceIdeal.Run
public import proofs.«01_k».proof.Proof.Spec
public import Idealize.ShloMosaic.Lib.Routing.Ops
public import Idealize.ShloMosaic.Lib.Routing.OpsPair
public import Idealize.ShloMosaic.Lib.ReduceAll
public import Idealize.ShloMosaic.Lib.WordCmp
public import Idealize.ShloMosaic.Lib.IdealHost
public import Idealize.ShloMosaic.Lib.ValueIdxRank1
public import Idealize.ShloMosaic.Lib.Pointwise.Contract

@[expose] public section

noncomputable section

namespace Cert.Proof.Ref

open Cert.ReferenceIdeal Cert.ReferenceIdeal.Gen
open Idealize.ShloMosaic hiding ix0 ix1 ix2 eq_ix1 eq_ix2 sum_idx2
open Idealize.ShloMosaic.ValueIdx
open Cert.Proof.Spec

/-- Row update `(n, e')` of the reference's sum lands at `(b, e)` when index `n` is `b` and the lanes agree. -/
theorem lands_rows (idx : IVec S204800x1 32) (n : Fin 204800) (e' : Fin 64) (b : Fin 4096) (e : Fin 64) :
    (scatter_S4096x64_S204800x1_S204800x64_1_0_0_1 : ScatterDims S4096x64 S204800x1 S204800x64).resultIdx? (ix2 n e') idx = some (ix2 b e)
      ↔ (idx (ix2 n (0 : Fin 1))).toInt = b.val ∧ e' = e := by
  have h0 : (scatter_S4096x64_S204800x1_S204800x64_1_0_0_1 : ScatterDims S4096x64 S204800x1 S204800x64).start (ix2 n e') idx 0
      = (idx (ix2 n (0 : Fin 1))).toInt := by
    unfold ScatterDims.start
    rw [dif_pos (by decide)]
    refine congrArg (fun i => (idx i).toInt) ?_
    funext a
    apply Fin.ext
    match a with
    | ⟨0, _⟩ => rfl
    | ⟨1, _⟩ => rfl
  rw [Routing.resultIdx?_ix2, h0]
  have h1 : (scatter_S4096x64_S204800x1_S204800x64_1_0_0_1 : ScatterDims S4096x64 S204800x1 S204800x64).start (ix2 n e') idx 1 = 0 := rfl
  have w0 : (scatter_S4096x64_S204800x1_S204800x64_1_0_0_1 : ScatterDims S4096x64 S204800x1 S204800x64).window (ix2 n e') 0 = 0 := rfl
  have w1 : (scatter_S4096x64_S204800x1_S204800x64_1_0_0_1 : ScatterDims S4096x64 S204800x1 S204800x64).window (ix2 n e') 1 = e'.val := rfl
  rw [h1, w0, w1]
  constructor
  · rintro ⟨p, q⟩
    exact ⟨by omega, Fin.ext (by omega)⟩
  · rintro ⟨p, q⟩
    exact ⟨by omega, by rw [q]; omega⟩

/-- Update `n` of the reference's count lands at `b` when index `n` is `b`. -/
theorem lands_one (idx : IVec S204800x1 32) (n : Fin 204800) (b : Fin 4096) :
    (scatter_S4096_S204800x1_S204800_n_0_0_1 : ScatterDims S4096 S204800x1 S204800).resultIdx? (ix1 n) idx = some (ix1 b)
      ↔ (idx (ix2 n (0 : Fin 1))).toInt = b.val := by
  have h0 : (scatter_S4096_S204800x1_S204800_n_0_0_1 : ScatterDims S4096 S204800x1 S204800).start (ix1 n) idx 0
      = (idx (ix2 n (0 : Fin 1))).toInt := by
    unfold ScatterDims.start
    rw [dif_pos (by decide)]
    refine congrArg (fun i => (idx i).toInt) ?_
    funext a
    apply Fin.ext
    match a with
    | ⟨0, _⟩ => rfl
    | ⟨1, _⟩ => rfl
  have w0 : (scatter_S4096_S204800x1_S204800_n_0_0_1 : ScatterDims S4096 S204800x1 S204800).window (ix1 n) 0 = 0 := rfl
  rw [Routing.resultIdx?_ix1, h0, w0]
  omega

/-- The reference's sum of rows at an entry: the rows whose index is the entry's row. -/
theorem add_rows (x : FVec Idealize.ShloMosaic.Ideal S4096x64 .f32) (idx : IVec S204800x1 32) (u : FVec Idealize.ShloMosaic.Ideal S204800x64 .f32) (b : Fin 4096) (e : Fin 64) :
    (Host.scatterAdd scatter_S4096x64_S204800x1_S204800x64_1_0_0_1 x idx u (ix2 b e) : EReal)
      = x (ix2 b e) + ∑ n : Fin 204800, if (idx (ix2 n (0 : Fin 1))).toInt = b.val then (u (ix2 n e) : EReal) else 0 := by
  unfold Host.scatterAdd
  rw [Ideal.hostScatterAdd_def]
  unfold Ideal.hostScatterAdd
  refine congrArg (fun z : EReal => (x (ix2 b e) : EReal) + z) ?_
  rw [Finset.sum_filter, sum_idx2]
  refine Finset.sum_congr rfl fun n _ => ?_
  rw [Finset.sum_eq_single e]
  · exact if_congr (by rw [lands_rows]; exact and_iff_left rfl) rfl rfl
  · intro e' _ he
    rw [if_neg (by rw [lands_rows]; exact fun h => he h.2)]
  · exact fun h => absurd (Finset.mem_univ _) h

/-- The reference's count at an entry. -/
theorem add_one (x : FVec Idealize.ShloMosaic.Ideal S4096 .f32) (idx : IVec S204800x1 32) (u : FVec Idealize.ShloMosaic.Ideal S204800 .f32) (b : Fin 4096) :
    (Host.scatterAdd scatter_S4096_S204800x1_S204800_n_0_0_1 x idx u (ix1 b) : EReal)
      = x (ix1 b) + ∑ n : Fin 204800, if (idx (ix2 n (0 : Fin 1))).toInt = b.val then (u (ix1 n) : EReal) else 0 := by
  unfold Host.scatterAdd
  rw [Ideal.hostScatterAdd_def]
  unfold Ideal.hostScatterAdd
  refine congrArg (fun z : EReal => (x (ix1 b) : EReal) + z) ?_
  rw [Finset.sum_filter, ← Equiv.sum_comp (idxEquiv1 (n := 204800)).symm]
  refine Finset.sum_congr rfl fun n _ => ?_
  exact if_congr (lands_one idx n b) rfl rfl

/-- The bag of each position, as the reference computes it. -/
def seg (x1 : IVec S4096 32) : IVec S204800x1 32 :=
  broadcastInDim S204800x1 ![0] bcast_S204800_S204800x1_0 (subi (Host.reduce IntOp.addi (extui 32 (cmpi .sle (broadcastInDim S204800x4096 ![0, 1] bcast_S1x4096_S204800x4096_0_1 (broadcastInDim S1x4096 ![1] bcast_S4096_S1x4096_1 x1)) (broadcastInDim S204800x4096 ![0, 1] bcast_S204800x1_S204800x4096_0_1 (broadcastInDim S204800x1 ![0] bcast_S204800_S204800x1_0 (iotaInDim S204800 32 0)))) natLt_1_32) (constantI S_ 32 0#32) reducesTo_S204800x4096_S204800_d1 h_S_) (broadcastInDim S204800 ![] bcast_S_S204800 (constantI S_ 32 1#32)))

/-- With the offsets counting up from 0, position `n` lies in bag `min n 4095`. -/
theorem seg_at (x1 : IVec S4096 32) (h1 : ∀ j : S4096.Idx, x1 j = BitVec.ofNat 32 (j 0).val) (n : Fin 204800) :
    seg x1 (ix2 n (0 : Fin 1)) = BitVec.ofNat 32 (min n.val 4095) := by
  have hn := n.isLt
  unfold seg
  rw [Routing.bcCol]
  have hc := Routing.reduce_count (n := 204800) (m := 4096) (by decide)
    (cmpi .sle (broadcastInDim S204800x4096 ![0, 1] bcast_S1x4096_S204800x4096_0_1 (broadcastInDim S1x4096 ![1] bcast_S4096_S1x4096_1 x1)) (broadcastInDim S204800x4096 ![0, 1] bcast_S204800x1_S204800x4096_0_1 (broadcastInDim S204800x1 ![0] bcast_S204800_S204800x1_0 (iotaInDim S204800 32 0))))
    natLt_1_32 reducesTo_S204800x4096_S204800_d1 h_S_ n (fun q => q ≤ n.val) (fun q => by
      have hq := q.isLt
      show IntOp.cmpi .sle _ _ = 1#1 ↔ _
      rw [Routing.bcCols, Routing.bcRows, h1]
      show IntOp.cmpi .sle (BitVec.ofNat 32 q.val) (BitVec.ofNat 32 n.val) = 1#1 ↔ _
      rw [WordCmp.cmpi_sle_ofNat_eq_one_iff (by omega) (by omega)])
  have hcount : Nat.count (fun q => q ≤ n.val) 4096 = min n.val 4095 + 1 := by
    have : ∀ m : ℕ, Nat.count (fun q => q ≤ n.val) m = min (n.val + 1) m := by
      intro m
      induction m with
      | zero => simp
      | succ k ih =>
        rw [Nat.count_succ, ih]
        split <;> omega
    rw [this]
    omega
  rw [hcount] at hc
  refine (congrArg (fun z => IntOp.subi z 1#32) hc).trans ?_
  apply BitVec.eq_of_toNat_eq
  show (BitVec.ofNat 32 (min n.val 4095 + 1) - 1#32).toNat = _
  simp only [BitVec.toNat_sub, BitVec.toNat_ofNat]
  omega

/-- A position belongs to bag `b` by its word as by its number. -/
theorem seg_iff (x1 : IVec S4096 32) (h1 : ∀ j : S4096.Idx, x1 j = BitVec.ofNat 32 (j 0).val) (n : Fin 204800) (b : Fin 4096) :
    (seg x1 (ix2 n (0 : Fin 1))).toInt = b.val ↔ min n.val 4095 = b.val := by
  rw [seg_at x1 h1, WordCmp.toInt_ofNat_of_lt (by omega)]
  omega

/-- The row index of each token, as the reference wraps it. -/
def wrapped (x0 : IVec S204800 32) : IVec S204800x1 32 :=
  broadcastInDim S204800x1 ![0] bcast_S204800_S204800x1_0 (select (cmpi .slt x0 (broadcastInDim S204800 ![] bcast_S_S204800 (constantI S_ 32 0#32))) (addi x0 (broadcastInDim S204800 ![] bcast_S_S204800 (constantI S_ 32 1000000#32))) x0)

theorem wrapped_at (x0 : IVec S204800 32) (h0 : ∀ j, (x0 j).toNat < 1000000) (n : Fin 204800) :
    wrapped x0 (ix2 n (0 : Fin 1)) = x0 (ix1 n) := by
  have h := h0 (ix1 n)
  unfold wrapped
  rw [Routing.bcCol]
  show Scalar.select (IntOp.cmpi .slt (x0 (ix1 n)) _) _ _ = _
  rw [Routing.bc0]
  show Scalar.select (IntOp.cmpi .slt (x0 (ix1 n)) 0#32) _ _ = _
  rw [WordCmp.cmpi_slt_zero, decide_eq_false (by omega)]
  rfl

/-- The reference's gathered rows. -/
def rows (x0 : IVec S204800 32) (x2 : FVec Idealize.ShloMosaic.Ideal S1000000x64 .f32) : FVec Idealize.ShloMosaic.Ideal S204800x64 .f32 :=
  select (broadcastInDim S204800x64 ![0] bcast_S204800_S204800x64_0 (Host.reduce IntOp.andi (andi (cmpi .sge (wrapped x0) (broadcastInDim S204800x1 ![] bcast_S_S204800x1 (constantI S_ 32 0#32))) (cmpi .sle (wrapped x0) (broadcastInDim S204800x1 ![0, 1] bcast_S1x1_S204800x1_0_1 (broadcastInDim S1x1 ![1] bcast_S1_S1x1_1 (constantI S1 32 999999#32))))) (constantI S_ 1 1#1) reducesTo_S204800x1_S204800_d1 h_S_)) (Host.gather gather_S1000000x64_S204800x1_S204800x64_1_0_n_n_0_1_164 x2 (wrapped x0)) (broadcastInDim S204800x64 ![] bcast_S_S204800x64 (constant S_ .f32 0x7FC00000#32))

theorem rows_at (x0 : IVec S204800 32) (h0 : ∀ j, (x0 j).toNat < 1000000) (x2 : FVec Idealize.ShloMosaic.Ideal S1000000x64 .f32)
    (n : Fin 204800) (e : Fin 64) : rows x0 x2 (ix2 n e) = x2 (rowIx (x0 (ix1 n)).toNat e) := by
  have h := h0 (ix1 n)
  have hand : ∀ j, Host.reduce IntOp.andi (andi (cmpi .sge (wrapped x0) (broadcastInDim S204800x1 ![] bcast_S_S204800x1 (constantI S_ 32 0#32))) (cmpi .sle (wrapped x0) (broadcastInDim S204800x1 ![0, 1] bcast_S1x1_S204800x1_0_1 (broadcastInDim S1x1 ![1] bcast_S1_S1x1_1 (constantI S1 32 999999#32))))) (constantI S_ 1 1#1) reducesTo_S204800x1_S204800_d1 h_S_ j = 1#1 := by
    intro j
    refine Host.reduce_andi_one _ _ _ _ _ rfl fun i => ?_
    obtain ⟨p, q, rfl⟩ : ∃ (p : Fin 204800) (q : Fin 1), i = ix2 p q := ⟨i 0, i 1, eq_ix2 i⟩
    obtain rfl : q = 0 := Fin.fin_one_eq_zero q
    have hp := h0 (ix1 p)
    show IntOp.andi (IntOp.cmpi .sge (wrapped x0 (ix2 p 0)) _) (IntOp.cmpi .sle (wrapped x0 (ix2 p 0)) _) = 1#1
    rw [wrapped_at x0 h0, Routing.bc0, Routing.bcCols]
    show IntOp.andi (IntOp.cmpi .sge (x0 (ix1 p)) 0#32) (IntOp.cmpi .sle (x0 (ix1 p)) 999999#32) = 1#1
    rw [WordCmp.cmpi_sge_zero, WordCmp.cmpi_sle_of_lt (by omega) (by decide), decide_eq_true (by omega), decide_eq_true (by
      show (x0 (ix1 p)).toNat ≤ 999999
      omega)]
    rfl
  unfold rows
  show Scalar.select (Host.reduce IntOp.andi _ _ _ _ _) _ _ = _
  rw [hand]
  show Host.gather gather_S1000000x64_S204800x1_S204800x64_1_0_n_n_0_1_164 x2 (wrapped x0) (ix2 n e) = _
  refine Routing.gather_row gather_S1000000x64_S204800x1_S204800x64_1_0_n_n_0_1_164 rfl rfl rfl rfl rfl x2 (wrapped x0) n e
    ⟨(x0 (ix1 n)).toNat % 1000000, Nat.mod_lt _ (by decide)⟩ ?_ (by decide)
  rw [wrapped_at x0 h0]
  apply BitVec.eq_of_toNat_eq
  show _ = (BitVec.ofNat 32 ((x0 (ix1 n)).toNat % 1000000)).toNat
  rw [Nat.mod_eq_of_lt h, BitVec.toNat_ofNat, Nat.mod_eq_of_lt (by omega)]

theorem divf_at {s : Shape} (x y : FVec Idealize.ShloMosaic.Ideal s .f32) (i : s.Idx) : (Host.divf x y i : EReal) = Ideal.div (x i) (y i) := rfl
theorem maxf_at {s : Shape} (x y : FVec Idealize.ShloMosaic.Ideal s .f32) (i : s.Idx) : (maximumf x y i : EReal) = max (x i : EReal) (y i) := rfl
theorem addf_at {s : Shape} (x y : FVec Idealize.ShloMosaic.Ideal s .f32) (i : s.Idx) : (addf x y i : EReal) = (x i : EReal) + y i := rfl
theorem const_at {s : Shape} (v : BitVec 32) (i : s.Idx) : ((constant s .f32 v : FVec Idealize.ShloMosaic.Ideal s .f32) i : EReal) = Ideal.ofBits .f32 v := rfl

/-- The reference's sums of rows. -/
def sums (x0 : IVec S204800 32) (x1 : IVec S4096 32) (x2 : FVec Idealize.ShloMosaic.Ideal S1000000x64 .f32) : FVec Idealize.ShloMosaic.Ideal S4096x64 .f32 :=
  Host.scatterAdd scatter_S4096x64_S204800x1_S204800x64_1_0_0_1 (broadcastInDim S4096x64 ![] bcast_S_S4096x64 (constant S_ .f32 0x00000000#32)) (seg x1) (rows x0 x2)

/-- The reference's counts. -/
def counts (x1 : IVec S4096 32) : FVec Idealize.ShloMosaic.Ideal S4096 .f32 :=
  Host.scatterAdd scatter_S4096_S204800x1_S204800_n_0_0_1 (broadcastInDim S4096 ![] bcast_S_S4096 (constant S_ .f32 0x00000000#32)) (seg x1) (broadcastInDim S204800 ![] bcast_S_S204800 (constant S_ .f32 0x3F800000#32))

/-- The reference's means. -/
def means (x0 : IVec S204800 32) (x1 : IVec S4096 32) (x2 : FVec Idealize.ShloMosaic.Ideal S1000000x64 .f32) : FVec Idealize.ShloMosaic.Ideal S4096x64 .f32 :=
  Host.divf (sums x0 x1 x2) (broadcastInDim S4096x64 ![0, 1] bcast_S4096x1_S4096x64_0_1 (broadcastInDim S4096x1 ![0] bcast_S4096_S4096x1_0 (maximumf (counts x1) (broadcastInDim S4096 ![] bcast_S_S4096 (constant S_ .f32 0x3F800000#32)))))

/-- The reference's term. -/
def term (x0 : IVec S204800 32) (x1 : IVec S4096 32) (x2 : FVec Idealize.ShloMosaic.Ideal S1000000x64 .f32) (x3 : FVec Idealize.ShloMosaic.Ideal S16x64 .f32)
    (x4 : FVec Idealize.ShloMosaic.Ideal S16 .f32) : FVec Idealize.ShloMosaic.Ideal S4096x16 .f32 :=
  addf (Host.dotGeneral dot_S4096x64_S64x16_S4096x16_1_0_0_1_n_n none (means x0 x1 x2) (transpose S64x16 [1, 0] x3 transposes_S16x64_S64x16_1_0)) (broadcastInDim S4096x16 ![0, 1] bcast_S1x16_S4096x16_0_1 (broadcastInDim S1x16 ![1] bcast_S16_S1x16_1 x4))

/-- The token at position `n` of the text. -/
def tokAt (x0 : IVec S204800 32) (n : ℕ) : ℕ := (x0 (ix1 ⟨n % 204800, Nat.mod_lt _ (by decide)⟩)).toNat

theorem tokAt_fin (x0 : IVec S204800 32) (n : Fin 204800) : tokAt x0 n.val = (x0 (ix1 n)).toNat := by
  unfold tokAt
  congr 3
  exact Fin.ext (Nat.mod_eq_of_lt n.isLt)

/-- How many tokens a bag holds. -/
def size (b : ℕ) : ℝ := if b = 4095 then 200705 else 1

/-- The sum of one bag's rows, at reals. -/
def bagSum (x0 : IVec S204800 32) (e : S1000000x64.Idx → ℝ) (b : ℕ) (q : Fin 64) : ℝ :=
  if b = 4095 then ∑ n ∈ Finset.range 200705, e (rowIx (tokAt x0 (4095 + n)) q) else e (rowIx (tokAt x0 b) q)

theorem counts_at (x1 : IVec S4096 32) (h1 : ∀ j : S4096.Idx, x1 j = BitVec.ofNat 32 (j 0).val) (b : Fin 4096) :
    (counts x1 (ix1 b) : EReal) = ((size b.val : ℝ) : EReal) := by
  have key := sum_bag (fun _ => (1 : ℝ)) b.val b.isLt
  rw [Finset.sum_const, Finset.card_range, nsmul_eq_mul, mul_one] at key
  have hs : size b.val = ∑ n : Fin 204800, if min n.val 4095 = b.val then (1 : ℝ) else 0 := by
    rw [key]
    unfold size
    norm_num
  rw [hs, ← coe_sum']
  unfold counts
  rw [add_one, Routing.bc0, const_at, Ideal.ofBits_zero_f32, zero_add]
  refine Finset.sum_congr rfl fun n _ => ?_
  rw [Routing.bc0, const_at, Ideal.ofBits_one_f32]
  by_cases h : min n.val 4095 = b.val
  · rw [if_pos h, if_pos ((seg_iff x1 h1 n b).2 h), EReal.coe_one]
  · rw [if_neg h, if_neg (fun h' => h ((seg_iff x1 h1 n b).1 h')), EReal.coe_zero]

theorem sums_at (x0 : IVec S204800 32) (x1 : IVec S4096 32) (x2 : FVec Idealize.ShloMosaic.Ideal S1000000x64 .f32)
    (h0 : ∀ j, (x0 j).toNat < 1000000) (h1 : ∀ j : S4096.Idx, x1 j = BitVec.ofNat 32 (j 0).val)
    (e : S1000000x64.Idx → ℝ) (h2 : ∀ j, (x2 j : EReal) = (e j : EReal)) (b : Fin 4096) (q : Fin 64) :
    (sums x0 x1 x2 (ix2 b q) : EReal) = ((bagSum x0 e b.val q : ℝ) : EReal) := by
  have key := sum_bag (fun n => e (rowIx (tokAt x0 n) q)) b.val b.isLt
  unfold bagSum
  rw [← key, ← coe_sum']
  unfold sums
  rw [add_rows, Routing.bc0, const_at, Ideal.ofBits_zero_f32, zero_add]
  refine Finset.sum_congr rfl fun n _ => ?_
  rw [rows_at x0 h0, h2, tokAt_fin]
  by_cases h : min n.val 4095 = b.val
  · rw [if_pos h, if_pos ((seg_iff x1 h1 n b).2 h)]
  · rw [if_neg h, if_neg (fun h' => h ((seg_iff x1 h1 n b).1 h')), EReal.coe_zero]

theorem size_pos (b : ℕ) : 1 ≤ size b := by
  unfold size
  split <;> norm_num

theorem means_at (x0 : IVec S204800 32) (x1 : IVec S4096 32) (x2 : FVec Idealize.ShloMosaic.Ideal S1000000x64 .f32)
    (h0 : ∀ j, (x0 j).toNat < 1000000) (h1 : ∀ j : S4096.Idx, x1 j = BitVec.ofNat 32 (j 0).val)
    (e : S1000000x64.Idx → ℝ) (h2 : ∀ j, (x2 j : EReal) = (e j : EReal)) (b : Fin 4096) (q : Fin 64) :
    (means x0 x1 x2 (ix2 b q) : EReal) = ((bagSum x0 e b.val q / size b.val : ℝ) : EReal) := by
  have hp := size_pos b.val
  rw [← div_real _ _ (by linarith)]
  unfold means
  rw [divf_at, sums_at x0 x1 x2 h0 h1 e h2, Routing.bcRows, maxf_at, counts_at x1 h1, Routing.bc0, const_at, Ideal.ofBits_one_f32,
    max_eq_left (by exact_mod_cast hp)]

/-- A bag's mean row times the weights is the mean of the scores. -/
theorem mean_score (x0 : IVec S204800 32) (e : S1000000x64.Idx → ℝ) (w : S16x64.Idx → ℝ) (b : ℕ) (c : Fin 16) :
    (∑ q : Fin 64, bagSum x0 e b q / size b * w (ix2 c q))
      = if b = 4095 then (∑ n ∈ Finset.range 200705, score e w (tokAt x0 (4095 + n)) c) / 200705 else score e w (tokAt x0 b) c := by
  unfold bagSum size score
  by_cases h : b = 4095
  · simp only [if_pos h]
    rw [Finset.sum_comm, Finset.sum_div]
    refine Finset.sum_congr rfl fun q _ => ?_
    rw [← Finset.sum_mul]
    ring
  · simp only [if_neg h, div_one]

/-- The reference's term at an entry: the mean of the bag's scores, plus the bias. -/
theorem term_at (x0 : IVec S204800 32) (x1 : IVec S4096 32) (x2 : FVec Idealize.ShloMosaic.Ideal S1000000x64 .f32)
    (x3 : FVec Idealize.ShloMosaic.Ideal S16x64 .f32) (x4 : FVec Idealize.ShloMosaic.Ideal S16 .f32)
    (h0 : ∀ j, (x0 j).toNat < 1000000) (h1 : ∀ j : S4096.Idx, x1 j = BitVec.ofNat 32 (j 0).val)
    (e : S1000000x64.Idx → ℝ) (w : S16x64.Idx → ℝ) (h2 : ∀ j, (x2 j : EReal) = (e j : EReal)) (h3 : ∀ j, (x3 j : EReal) = (w j : EReal))
    (i : S4096x16.Idx) :
    (term x0 x1 x2 x3 x4 i : EReal) = out (tokAt x0) e w x4 i := by
  obtain ⟨b, c, rfl⟩ : ∃ (b : Fin 4096) (c : Fin 16), i = ix2 b c := ⟨i 0, i 1, eq_ix2 i⟩
  have hd : ((Host.dotGeneral dot_S4096x64_S64x16_S4096x16_1_0_0_1_n_n none (means x0 x1 x2) (transpose S64x16 [1, 0] x3 transposes_S16x64_S64x16_1_0) : FVec Idealize.ShloMosaic.Ideal S4096x16 .f32) (ix2 b c) : EReal)
      = ∑ q : Fin 64, (means x0 x1 x2 (ix2 b q) : EReal) * x3 (ix2 c q) := by
    simp only [Host.dotGeneral]
    rw [Ideal.dotGeneral_apply]
    refine (DotDims.sum_contr₁ dot_S4096x64_S64x16_S4096x16_1_0_0_1_n_n (a := 1) rfl (K := 64) rfl _).trans (Finset.sum_congr rfl fun q _ => ?_)
    refine congrArg₂ (fun y z : EReal => y * z) (congrArg (means x0 x1 x2) ?_) (congrArg x3 ?_)
    · funext a
      match a with
      | ⟨0, _⟩ => rfl
      | ⟨1, _⟩ => rfl
    · funext a
      match a with
      | ⟨0, _⟩ => rfl
      | ⟨1, _⟩ => rfl
  unfold term
  rw [addf_at, hd, Routing.bcCols]
  unfold out
  rw [← mean_score, ← coe_sum']
  refine congrArg (fun z : EReal => z + (x4 (ix1 c) : EReal)) (Finset.sum_congr rfl fun q _ => ?_)
  rw [means_at x0 x1 x2 h0 h1 e h2, h3, EReal.coe_mul]

end Cert.Proof.Ref

end
-- ==== Proof.Values.lean ====
/-
  The value claim: on the drawn inputs, at exact arithmetic, the program's result is the reference's. Both are the
  specification's: a bag's mean of its tokens' scores, plus the bias.
-/
module

public import proofs.«01_k».proof.Proof.HostVal
public import proofs.«01_k».proof.Proof.Finish
public import proofs.«01_k».proof.Proof.Ref
public import proofs.«01_k».proof.Proof.Drawn
public import proofs.«01_k».proof.Proof.Gen.ReferenceIdeal.Run

@[expose] public section

noncomputable section

namespace Cert.Proof.Values

open Cert.KernelIdeal Cert.KernelIdeal.Gen
open Idealize.ShloMosaic hiding ix0 ix1 ix2 ix3 eq_ix1 eq_ix2 sum_idx2
open Idealize.ShloMosaic.ValueIdx
open Idealize.ShloMosaic.TcCoe
open Idealize.ShloMosaic.StableHlo (after)
open Cert.Proof.Finish hiding Ex
open Cert.Proof Cert.Proof.Spec Cert.Proof.Pack Cert.Proof.HostVal Cert.Proof.Words
open Idealize.SL.Sem

/-- The two ways to name a position of the text. -/
theorem ixT_eq (n : ℕ) : ixT n = (ix1 ⟨n % 204800, Nat.mod_lt _ (by decide)⟩ : S204800.Idx) := by
  funext a
  match a with
  | ⟨0, _⟩ => rfl

theorem tokAt_ixT (T : S204800.Idx → BitVec 32) (n : ℕ) : (T (ixT n)).toNat = Ref.tokAt T n := by
  unfold Ref.tokAt
  rw [ixT_eq]

/-- The first term of the last bag taken apart. -/
theorem sum_first (f : ℕ → ℝ) (k : ℕ) : ∑ n ∈ Finset.range (k + 1), f (4095 + n) = f 4095 + ∑ n ∈ Finset.range k, f (4096 + n) := by
  rw [Finset.sum_range_succ', add_comm]
  refine congrArg (f 4095 + ·) (Finset.sum_congr rfl fun n _ => ?_)
  rw [show 4096 + n = 4095 + (n + 1) by omega]

section Sums

variable (E : S64x1000000.Idx → Ex .f32) (Wp : S8x64x128.Idx → Ex .f32) (T : S204800.Idx → BitVec 32)
  (e : (⟨2, ![1000000, 64]⟩ : Shape).Idx → ℝ) (w : (⟨2, ![16, 64]⟩ : Shape).Idx → ℝ)
  (hE : TableIs E e) (hW : SlabsAre Wp w) (hT : ∀ j, (T j).toNat < 1000000)
  (Sg : S4096x128.Idx → Ex .f32) (Pt : S4096.Idx → Ex .f32) (hG : Good T E Wp Sg Pt)

include hE hW hT hG

/-- The lanes that the first token of a bag names hold its score. -/
theorem chosen_at (T1 : S4096x1.Idx → BitVec 32) (b : Fin 4096) (c : Fin 16) (h1 : T1 (ix2 b 0) = T (ixT b.val)) :
    chosen Sg T1 b c = ((score e w (Ref.tokAt T b.val) c : ℝ) : EReal) := by
  have hb := b.isLt
  obtain ⟨G, hP, hS, -⟩ := hG (b.val / 128) (by omega)
  unfold chosen
  rw [hS _ (ix2 ⟨b.val % 128, Nat.mod_lt _ (by decide)⟩ ⟨16 * ((T1 (ix2 b 0)).toNat / 128 % 8) + c.val, by have := c.isLt; omega⟩)
    (by show b.val = 128 * (b.val / 128) + b.val % 128; omega) rfl]
  have hn : 128 * (b.val / 128) + b.val % 128 = b.val := by omega
  show (G (ixP (rowW (T (ixT (128 * (b.val / 128) + b.val % 128)))).toNat (16 * ((T1 (ix2 b 0)).toNat / 128 % 8) + c.val)) : EReal) = _
  rw [hn, single_at E Wp G e w hP hE hW T hT b.val _ c (by rw [h1]), tokAt_ixT]

/-- A share's sum in a lane group. -/
theorem part_at (v : Fin 32) (k : Fin 8) (c : Fin 16) (i : S4096.Idx) (hi : (i 0).val = 128 * v.val + (16 * k.val + c.val)) :
    (Pt i : EReal) = ((∑ n ∈ Finset.range 6272, if Ref.tokAt T (4096 + 6272 * v.val + n) / 128 % 8 = k.val
      then score e w (Ref.tokAt T (4096 + 6272 * v.val + n)) c else 0 : ℝ) : EReal) := by
  have hk := k.isLt
  have hc := c.isLt
  obtain ⟨G, hP, -, hS⟩ := hG v.val v.isLt
  rw [hS i (ix1 ⟨16 * k.val + c.val, by omega⟩) hi]
  have q : (16 * k.val + c.val) / 16 = k.val := by omega
  have r : (⟨(16 * k.val + c.val) % 16, Nat.mod_lt _ (by decide)⟩ : Fin 16) = c := Fin.ext (by show (16 * k.val + c.val) % 16 = c.val; omega)
  show (groupV G T v.val ((16 * k.val + c.val) / 16) (ln ⟨(16 * k.val + c.val) % 16, Nat.mod_lt _ (by decide)⟩) : EReal) = _
  rw [q, r, group_at E Wp G e w hP hE hW T hT v.val k.val c]
  simp only [tok, tokAt_ixT]

/-- All shares' sums in all lane groups. -/
theorem parts_at (P : S32x128.Idx → Ex .f32) (hp : ∀ (v : Fin 32) (l : Fin 128) (i : S4096.Idx), (i 0).val = 128 * v.val + l.val → P (ix2 v l) = Pt i) (c : Fin 16) :
    (∑ k : Fin 8, ∑ v : Fin 32, (P (ix2 v ⟨16 * k.val + c.val, by have := c.isLt; have := k.isLt; omega⟩) : EReal))
      = ((∑ n ∈ Finset.range 200704, score e w (Ref.tokAt T (4096 + n)) c : ℝ) : EReal) := by
  have hc := c.isLt
  rw [← sum_shares (fun n => score e w (Ref.tokAt T n) c)]
  have hs : ∀ v : Fin 32, (∑ n ∈ Finset.range 6272, score e w (Ref.tokAt T (4096 + 6272 * v.val + n)) c)
      = ∑ k : Fin 8, ∑ n ∈ Finset.range 6272, if Ref.tokAt T (4096 + 6272 * v.val + n) / 128 % 8 = k.val
        then score e w (Ref.tokAt T (4096 + 6272 * v.val + n)) c else 0 := fun v =>
    (sum_groups 6272 (fun n => Ref.tokAt T (4096 + 6272 * v.val + n)) fun n => score e w (Ref.tokAt T (4096 + 6272 * v.val + n)) c).symm
  rw [Finset.sum_congr rfl fun v _ => hs v, Finset.sum_comm, ← coe_sum']
  refine Finset.sum_congr rfl fun v _ => ?_
  rw [← coe_sum']
  refine Finset.sum_congr rfl fun k _ => ?_
  have hk := k.isLt
  have hv := v.isLt
  rw [hp v _ (ix1 ⟨128 * v.val + (16 * k.val + c.val), by omega⟩) rfl]
  exact part_at E Wp T e w hE hW hT Sg Pt hG v k c _ rfl

/-- The result at an entry is the specification's. -/
theorem finish_out (T1 : S4096x1.Idx → BitVec 32) (h1 : ∀ b : Fin 4096, T1 (ix2 b 0) = T (ixT b.val))
    (P : S32x128.Idx → Ex .f32) (hp : ∀ (v : Fin 32) (l : Fin 128) (i : S4096.Idx), (i 0).val = 128 * v.val + l.val → P (ix2 v l) = Pt i)
    (B : S1x16.Idx → Ex .f32) (bias : (⟨1, ![16]⟩ : Shape).Idx → EReal) (hB : ∀ c : Fin 16, (B (ix2 (0 : Fin 1) c) : EReal) = bias (ix1 c))
    (i : S4096x16.Idx) : (finish Sg P T1 B i : EReal) = out (Ref.tokAt T) e w bias i := by
  obtain ⟨b, c, rfl⟩ : ∃ (b : Fin 4096) (c : Fin 16), i = ix2 b c := ⟨i 0, i 1, eq_ix2 i⟩
  rw [finish_at, hB, parts_at E Wp T e w hE hW hT Sg Pt hG P hp c, chosen_at E Wp T e w hE hW hT Sg Pt hG T1 ⟨4095, by decide⟩ c (h1 _),
    chosen_at E Wp T e w hE hW hT Sg Pt hG T1 b c (h1 b)]
  unfold out
  refine congrArg (· + bias (ix1 c)) ?_
  show _ = (((if b.val = 4095 then (∑ n ∈ Finset.range 200705, score e w (Ref.tokAt T (4095 + n)) c) / 200705 else score e w (Ref.tokAt T b.val) c : ℝ)) : EReal)
  by_cases h : b.val = 4095
  · rw [if_pos h, if_pos h, ← EReal.coe_add, div_real _ _ (by norm_num)]
    refine congrArg (fun x : ℝ => ((x / 200705 : ℝ) : EReal)) ?_
    exact (sum_first (fun n => score e w (Ref.tokAt T n) c) 200704).symm
  · rw [if_neg h, if_neg h]

end Sums

/-- What the program may leave is the specification's. -/
theorem res_out (m : (ℓ : Loc nD τ sig) → Buf (Elt Ex) ℓ) (d : Dev nD) (hT : ∀ j, (Txs (F := Ex) m d j).toNat < 1000000)
    (e : (⟨2, ![1000000, 64]⟩ : Shape).Idx → ℝ) (he : ∀ j, (m ((d.tc : Thread nD τ).loc main_arg2) j : EReal) = ((e j : ℝ) : EReal))
    (w : (⟨2, ![16, 64]⟩ : Shape).Idx → ℝ) (hw : ∀ j, (m ((d.tc : Thread nD τ).loc main_arg3) j : EReal) = ((w j : ℝ) : EReal))
    (v : S4096x16.Idx → Ex .f32) (hv : Res (F := Ex) m d v) (i : S4096x16.Idx) :
    (v i : EReal) = out (Ref.tokAt (Txs (F := Ex) m d)) e w (m ((d.tc : Thread nD τ).loc main_arg4)) i := by
  obtain ⟨Sg, Pt, hG, rfl⟩ := hv
  show (finish (F := Ex) _ _ _ _ i : EReal) = _
  rw [read_single]
  refine finish_out _ _ _ e w (table_is m d e he) (slabs_are m d w hw) hT Sg Pt hG _ (fun b => ?_) _ (fun v l i hi => read_parts m d Sg Pt v l i hi) _ _
    (fun c => read_bias m d Sg Pt c) i
  exact read_tokens m d Sg Pt b _ (Nat.mod_eq_of_lt (by have := b.isLt; omega))

/-- An entry that passes the finiteness test is a real. -/
theorem real_of_lt {S : Shape} (x : FVec Ex S .f32) (h : ∀ j, cmpf .olt (Host.absf x) (fun _ => FloatOps.ofBits .f32 0x7F800000#32) j = 1#1) (j : S.Idx) :
    (x j : EReal) = (((x j : EReal).toReal : ℝ) : EReal) := by
  have hi : Ideal.ofBits .f32 0x7F800000#32 = ⊤ := by simp [Ideal.ofBits, Ideal.ieee]
  have hj := h j
  refine real_of_test _ ?_
  have h2 : Ideal.cmp .olt (max (x j : EReal) (-(x j : EReal))) (Ideal.ofBits .f32 0x7F800000#32) = 1#1 := hj
  rw [hi] at h2
  by_contra hlt
  simp [Ideal.cmp, hlt] at h2

/-- On the drawn inputs the program and the reference end with the same result. -/
theorem algebraic : Cert.algebraic_KernelIdeal_ReferenceIdeal_pre_drawn := by
  intro m ρ m' ρ' hpre hagree
  have hT : ∀ d j, (Txs (F := Ex) m d j).toNat < 1000000 := fun d j => (drawn_all _ _ _ _ _ (hpre d)).1 j
  have he : ∀ (d : Dev nD) j, (m ((d.tc : Thread nD τ).loc main_arg2) j : EReal) = (((m ((d.tc : Thread nD τ).loc main_arg2) j : EReal).toReal : ℝ) : EReal) :=
    fun d j => real_of_lt _ (drawn_all _ _ _ _ _ (hpre d)).2.2.1 j
  have hw : ∀ (d : Dev nD) j, (m ((d.tc : Thread nD τ).loc main_arg3) j : EReal) = (((m ((d.tc : Thread nD τ).loc main_arg3) j : EReal).toReal : ℝ) : EReal) :=
    fun d j => real_of_lt _ (drawn_all _ _ _ _ _ (hpre d)).2.2.2 j
  refine ⟨fun d => fun i => out (Ref.tokAt (Txs (F := Ex) m d)) (fun j => (m ((d.tc : Thread nD τ).loc main_arg2) j : EReal).toReal)
      (fun j => (m ((d.tc : Thread nD τ).loc main_arg3) j : EReal).toReal) (m ((d.tc : Thread nD τ).loc main_arg4)) i, ?_, ?_⟩
  · refine (θ_run _ _ _).mono (fun r h c => ?_) (run_main (F := Ex) m ρ hT)
    have hc := h.1 c
    refine ⟨funext fun i => res_out m c (hT c) _ (he c) _ (hw c) _ hc.1 i, hc.2 _ ?_, hc.2 _ ?_, hc.2 _ ?_, hc.2 _ ?_, hc.2 _ ?_⟩
    all_goals simp
  · refine (θ_run _ _ _).mono (fun r h c => ?_) (Cert.ReferenceIdeal.Value.run (F := Ex) m' ρ')
    refine ⟨(h c).1.trans ?_, (h c).2⟩
    obtain ⟨a0, a1, a2, a3, a4⟩ := hagree c
    funext i
    have ht := Ref.term_at (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (hT c) (drawn_all _ _ _ _ _ (hpre c)).2.1 _ _ (he c) (hw c) i
    rw [a0, a1, a2, a3, a4]
    exact ht

end Cert.Proof.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_rows_in_table
public import proofs.«01_k».proof.Proof.Gen.Pre_drawn
public import proofs.«01_k».proof.Proof.Same
public import proofs.«01_k».proof.Proof.Drawn
public import proofs.«01_k».proof.Proof.Values
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_rows_in_table.Gen.facts, Cert.Pre_drawn.Gen.facts, frame_k, frame_i, frame_id, frame_r,
  frame_rd, trivial, Values.algebraic⟩

end Cert.Proof

end
